-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_InProjKernel (m : (ℓ : Loc Cert.InProjKernel.nD Cert.InProjKernel.τ Cert.InProjKernel.sig) → Buf (Elt Bits) ℓ) : Prop :=
  True

def Pre_InProjKernelIdeal (m : (ℓ : Loc Cert.InProjKernelIdeal.nD Cert.InProjKernelIdeal.τ Cert.InProjKernelIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_MoeGluKernel [hPre_tables_in_range : Cert.Pre_tables_in_range.Facts] (m : (ℓ : Loc Cert.MoeGluKernel.nD Cert.MoeGluKernel.τ Cert.MoeGluKernel.sig) → Buf (Elt Bits) ℓ) : Prop :=
  ∀ c : Dev Cert.MoeGluKernel.nD,
    (Cert.Pre_tables_in_range.fn (F := Bits) (m ((c.tc : Thread Cert.MoeGluKernel.nD Cert.MoeGluKernel.τ).loc Cert.MoeGluKernel.main_arg0)) (m ((c.tc : Thread Cert.MoeGluKernel.nD Cert.MoeGluKernel.τ).loc Cert.MoeGluKernel.main_arg1)) (m ((c.tc : Thread Cert.MoeGluKernel.nD Cert.MoeGluKernel.τ).loc Cert.MoeGluKernel.main_arg2)) (m ((c.tc : Thread Cert.MoeGluKernel.nD Cert.MoeGluKernel.τ).loc Cert.MoeGluKernel.main_arg3)) (m ((c.tc : Thread Cert.MoeGluKernel.nD Cert.MoeGluKernel.τ).loc Cert.MoeGluKernel.main_arg4))) = (fun _ => 1#1)

def Pre_MoeGluKernelIdeal [hPre_tables_in_range : Cert.Pre_tables_in_range.Facts] (m : (ℓ : Loc Cert.MoeGluKernelIdeal.nD Cert.MoeGluKernelIdeal.τ Cert.MoeGluKernelIdeal.sig) → Buf (Elt Ideal) ℓ) : Prop :=
  ∀ c : Dev Cert.MoeGluKernelIdeal.nD,
    (Cert.Pre_tables_in_range.fn (F := Ideal) (m ((c.tc : Thread Cert.MoeGluKernelIdeal.nD Cert.MoeGluKernelIdeal.τ).loc Cert.MoeGluKernelIdeal.main_arg0)) (m ((c.tc : Thread Cert.MoeGluKernelIdeal.nD Cert.MoeGluKernelIdeal.τ).loc Cert.MoeGluKernelIdeal.main_arg1)) (m ((c.tc : Thread Cert.MoeGluKernelIdeal.nD Cert.MoeGluKernelIdeal.τ).loc Cert.MoeGluKernelIdeal.main_arg2)) (m ((c.tc : Thread Cert.MoeGluKernelIdeal.nD Cert.MoeGluKernelIdeal.τ).loc Cert.MoeGluKernelIdeal.main_arg3)) (m ((c.tc : Thread Cert.MoeGluKernelIdeal.nD Cert.MoeGluKernelIdeal.τ).loc Cert.MoeGluKernelIdeal.main_arg4))) = (fun _ => 1#1)

def Pre_MoeGluReferenceIdeal (m : (ℓ : Loc Cert.MoeGluReferenceIdeal.nD Cert.MoeGluReferenceIdeal.τ Cert.MoeGluReferenceIdeal.sig) → Buf (Elt Ideal) ℓ) : Prop :=
  True

def Pre_MoeGluReferenceIdeal_tables_in_range [hPre_tables_in_range : Cert.Pre_tables_in_range.Facts] (m : (ℓ : Loc Cert.MoeGluReferenceIdeal.nD Cert.MoeGluReferenceIdeal.τ Cert.MoeGluReferenceIdeal.sig) → Buf (Elt Ideal) ℓ) : Prop :=
  ∀ c : Dev Cert.MoeGluReferenceIdeal.nD,
    (Cert.Pre_tables_in_range.fn (F := Ideal) (m ((c.tc : Thread Cert.MoeGluReferenceIdeal.nD Cert.MoeGluReferenceIdeal.τ).loc Cert.MoeGluReferenceIdeal.main_arg0)) (m ((c.tc : Thread Cert.MoeGluReferenceIdeal.nD Cert.MoeGluReferenceIdeal.τ).loc Cert.MoeGluReferenceIdeal.main_arg1)) (m ((c.tc : Thread Cert.MoeGluReferenceIdeal.nD Cert.MoeGluReferenceIdeal.τ).loc Cert.MoeGluReferenceIdeal.main_arg2)) (m ((c.tc : Thread Cert.MoeGluReferenceIdeal.nD Cert.MoeGluReferenceIdeal.τ).loc Cert.MoeGluReferenceIdeal.main_arg3)) (m ((c.tc : Thread Cert.MoeGluReferenceIdeal.nD Cert.MoeGluReferenceIdeal.τ).loc Cert.MoeGluReferenceIdeal.main_arg4))) = (fun _ => 1#1)

def Pre_ConvGatedKernel (m : (ℓ : Loc Cert.ConvGatedKernel.nD Cert.ConvGatedKernel.τ Cert.ConvGatedKernel.sig) → Buf (Elt Bits) ℓ) : Prop :=
  True

def Pre_ConvGatedKernelIdeal (m : (ℓ : Loc Cert.ConvGatedKernelIdeal.nD Cert.ConvGatedKernelIdeal.τ Cert.ConvGatedKernelIdeal.sig) → Buf (Elt Ideal) ℓ) : Prop :=
  True

def Pre_ConvGatedReferenceIdeal (m : (ℓ : Loc Cert.ConvGatedReferenceIdeal.nD Cert.ConvGatedReferenceIdeal.τ Cert.ConvGatedReferenceIdeal.sig) → Buf (Elt Ideal) ℓ) : Prop :=
  True

def Pre_ConvXbcKernel (m : (ℓ : Loc Cert.ConvXbcKernel.nD Cert.ConvXbcKernel.τ Cert.ConvXbcKernel.sig) → Buf (Elt Bits) ℓ) : Prop :=
  True

def Pre_ConvXbcKernelIdeal (m : (ℓ : Loc Cert.ConvXbcKernelIdeal.nD Cert.ConvXbcKernelIdeal.τ Cert.ConvXbcKernelIdeal.sig) → Buf (Elt Ideal) ℓ) : Prop :=
  True

def Pre_ConvXbcReferenceIdeal (m : (ℓ : Loc Cert.ConvXbcReferenceIdeal.nD Cert.ConvXbcReferenceIdeal.τ Cert.ConvXbcReferenceIdeal.sig) → Buf (Elt Ideal) ℓ) : Prop :=
  True

def Pre_InProjSmallKernel (m : (ℓ : Loc Cert.InProjSmallKernel.nD Cert.InProjSmallKernel.τ Cert.InProjSmallKernel.sig) → Buf (Elt Bits) ℓ) : Prop :=
  True

def Pre_InProjSmallKernelIdeal (m : (ℓ : Loc Cert.InProjSmallKernelIdeal.nD Cert.InProjSmallKernelIdeal.τ Cert.InProjSmallKernelIdeal.sig) → Buf (Elt Ideal) ℓ) : Prop :=
  True

def Pre_InProjSmallReferenceIdeal (m : (ℓ : Loc Cert.InProjSmallReferenceIdeal.nD Cert.InProjSmallReferenceIdeal.τ Cert.InProjSmallReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_InProjKernel [hInProjKernel : Cert.InProjKernel.Facts] : Prop :=
  ∀ (m : (ℓ : Loc Cert.InProjKernel.nD Cert.InProjKernel.τ Cert.InProjKernel.sig) → Buf (Elt Bits) ℓ) (g : Dev Cert.InProjKernel.nD → PrngReg), Pre_InProjKernel m →
    θ_run (Cert.InProjKernel.defs (F := Bits)) (onTc (τ := Cert.InProjKernel.τ) (Cert.InProjKernel.main (F := Bits))) ⟨m, fun _ => 0, g⟩ (fun r => (∀ c : Dev Cert.InProjKernel.nD,
      r.2.mem ((c.tc : Thread Cert.InProjKernel.nD Cert.InProjKernel.τ).loc Cert.InProjKernel.main_arg0) = m ((c.tc : Thread Cert.InProjKernel.nD Cert.InProjKernel.τ).loc Cert.InProjKernel.main_arg0)
      ∧ r.2.mem ((c.tc : Thread Cert.InProjKernel.nD Cert.InProjKernel.τ).loc Cert.InProjKernel.main_arg1) = m ((c.tc : Thread Cert.InProjKernel.nD Cert.InProjKernel.τ).loc Cert.InProjKernel.main_arg1))
      ∧ r.2.sem = fun _ => 0)

def quiescent_InProjKernelIdeal [hInProjKernelIdeal : Cert.InProjKernelIdeal.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg), Pre_InProjKernelIdeal m →
    θ_run (Cert.InProjKernelIdeal.defs (F := Ideal)) (onTc (τ := Cert.InProjKernelIdeal.τ) (Cert.InProjKernelIdeal.main (F := Ideal))) ⟨m, fun _ => 0, g⟩ (fun r => (∀ c : Dev Cert.InProjKernelIdeal.nD,
      r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
      ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_MoeGluKernel [hMoeGluKernel : Cert.MoeGluKernel.Facts] [hPre_tables_in_range : Cert.Pre_tables_in_range.Facts] : Prop :=
  ∀ (m : (ℓ : Loc Cert.MoeGluKernel.nD Cert.MoeGluKernel.τ Cert.MoeGluKernel.sig) → Buf (Elt Bits) ℓ) (g : Dev Cert.MoeGluKernel.nD → PrngReg), Pre_MoeGluKernel m →
    θ_run (Cert.MoeGluKernel.defs (F := Bits)) (onTc (τ := Cert.MoeGluKernel.τ) (Cert.MoeGluKernel.main (F := Bits))) ⟨m, fun _ => 0, g⟩ (fun r => (∀ c : Dev Cert.MoeGluKernel.nD,
      r.2.mem ((c.tc : Thread Cert.MoeGluKernel.nD Cert.MoeGluKernel.τ).loc Cert.MoeGluKernel.main_arg0) = m ((c.tc : Thread Cert.MoeGluKernel.nD Cert.MoeGluKernel.τ).loc Cert.MoeGluKernel.main_arg0)
      ∧ r.2.mem ((c.tc : Thread Cert.MoeGluKernel.nD Cert.MoeGluKernel.τ).loc Cert.MoeGluKernel.main_arg1) = m ((c.tc : Thread Cert.MoeGluKernel.nD Cert.MoeGluKernel.τ).loc Cert.MoeGluKernel.main_arg1)
      ∧ r.2.mem ((c.tc : Thread Cert.MoeGluKernel.nD Cert.MoeGluKernel.τ).loc Cert.MoeGluKernel.main_arg2) = m ((c.tc : Thread Cert.MoeGluKernel.nD Cert.MoeGluKernel.τ).loc Cert.MoeGluKernel.main_arg2)
      ∧ r.2.mem ((c.tc : Thread Cert.MoeGluKernel.nD Cert.MoeGluKernel.τ).loc Cert.MoeGluKernel.main_arg3) = m ((c.tc : Thread Cert.MoeGluKernel.nD Cert.MoeGluKernel.τ).loc Cert.MoeGluKernel.main_arg3)
      ∧ r.2.mem ((c.tc : Thread Cert.MoeGluKernel.nD Cert.MoeGluKernel.τ).loc Cert.MoeGluKernel.main_arg4) = m ((c.tc : Thread Cert.MoeGluKernel.nD Cert.MoeGluKernel.τ).loc Cert.MoeGluKernel.main_arg4))
      ∧ r.2.sem = fun _ => 0)

def quiescent_MoeGluKernelIdeal [hMoeGluKernelIdeal : Cert.MoeGluKernelIdeal.Facts] [hPre_tables_in_range : Cert.Pre_tables_in_range.Facts] : Prop :=
  ∀ (m : (ℓ : Loc Cert.MoeGluKernelIdeal.nD Cert.MoeGluKernelIdeal.τ Cert.MoeGluKernelIdeal.sig) → Buf (Elt Ideal) ℓ) (g : Dev Cert.MoeGluKernelIdeal.nD → PrngReg), Pre_MoeGluKernelIdeal m →
    θ_run (Cert.MoeGluKernelIdeal.defs (F := Ideal)) (onTc (τ := Cert.MoeGluKernelIdeal.τ) (Cert.MoeGluKernelIdeal.main (F := Ideal))) ⟨m, fun _ => 0, g⟩ (fun r => (∀ c : Dev Cert.MoeGluKernelIdeal.nD,
      r.2.mem ((c.tc : Thread Cert.MoeGluKernelIdeal.nD Cert.MoeGluKernelIdeal.τ).loc Cert.MoeGluKernelIdeal.main_arg0) = m ((c.tc : Thread Cert.MoeGluKernelIdeal.nD Cert.MoeGluKernelIdeal.τ).loc Cert.MoeGluKernelIdeal.main_arg0)
      ∧ r.2.mem ((c.tc : Thread Cert.MoeGluKernelIdeal.nD Cert.MoeGluKernelIdeal.τ).loc Cert.MoeGluKernelIdeal.main_arg1) = m ((c.tc : Thread Cert.MoeGluKernelIdeal.nD Cert.MoeGluKernelIdeal.τ).loc Cert.MoeGluKernelIdeal.main_arg1)
      ∧ r.2.mem ((c.tc : Thread Cert.MoeGluKernelIdeal.nD Cert.MoeGluKernelIdeal.τ).loc Cert.MoeGluKernelIdeal.main_arg2) = m ((c.tc : Thread Cert.MoeGluKernelIdeal.nD Cert.MoeGluKernelIdeal.τ).loc Cert.MoeGluKernelIdeal.main_arg2)
      ∧ r.2.mem ((c.tc : Thread Cert.MoeGluKernelIdeal.nD Cert.MoeGluKernelIdeal.τ).loc Cert.MoeGluKernelIdeal.main_arg3) = m ((c.tc : Thread Cert.MoeGluKernelIdeal.nD Cert.MoeGluKernelIdeal.τ).loc Cert.MoeGluKernelIdeal.main_arg3)
      ∧ r.2.mem ((c.tc : Thread Cert.MoeGluKernelIdeal.nD Cert.MoeGluKernelIdeal.τ).loc Cert.MoeGluKernelIdeal.main_arg4) = m ((c.tc : Thread Cert.MoeGluKernelIdeal.nD Cert.MoeGluKernelIdeal.τ).loc Cert.MoeGluKernelIdeal.main_arg4))
      ∧ r.2.sem = fun _ => 0)

def quiescent_MoeGluReferenceIdeal [hMoeGluReferenceIdeal : Cert.MoeGluReferenceIdeal.Facts] : Prop :=
  ∀ (m : (ℓ : Loc Cert.MoeGluReferenceIdeal.nD Cert.MoeGluReferenceIdeal.τ Cert.MoeGluReferenceIdeal.sig) → Buf (Elt Ideal) ℓ) (g : Dev Cert.MoeGluReferenceIdeal.nD → PrngReg), Pre_MoeGluReferenceIdeal m →
    θ_run (Cert.MoeGluReferenceIdeal.defs (F := Ideal)) (onTc (τ := Cert.MoeGluReferenceIdeal.τ) (Cert.MoeGluReferenceIdeal.main (F := Ideal))) ⟨m, fun _ => 0, g⟩ (fun r => (∀ c : Dev Cert.MoeGluReferenceIdeal.nD,
      r.2.mem ((c.tc : Thread Cert.MoeGluReferenceIdeal.nD Cert.MoeGluReferenceIdeal.τ).loc Cert.MoeGluReferenceIdeal.main_arg0) = m ((c.tc : Thread Cert.MoeGluReferenceIdeal.nD Cert.MoeGluReferenceIdeal.τ).loc Cert.MoeGluReferenceIdeal.main_arg0)
      ∧ r.2.mem ((c.tc : Thread Cert.MoeGluReferenceIdeal.nD Cert.MoeGluReferenceIdeal.τ).loc Cert.MoeGluReferenceIdeal.main_arg1) = m ((c.tc : Thread Cert.MoeGluReferenceIdeal.nD Cert.MoeGluReferenceIdeal.τ).loc Cert.MoeGluReferenceIdeal.main_arg1)
      ∧ r.2.mem ((c.tc : Thread Cert.MoeGluReferenceIdeal.nD Cert.MoeGluReferenceIdeal.τ).loc Cert.MoeGluReferenceIdeal.main_arg2) = m ((c.tc : Thread Cert.MoeGluReferenceIdeal.nD Cert.MoeGluReferenceIdeal.τ).loc Cert.MoeGluReferenceIdeal.main_arg2)
      ∧ r.2.mem ((c.tc : Thread Cert.MoeGluReferenceIdeal.nD Cert.MoeGluReferenceIdeal.τ).loc Cert.MoeGluReferenceIdeal.main_arg3) = m ((c.tc : Thread Cert.MoeGluReferenceIdeal.nD Cert.MoeGluReferenceIdeal.τ).loc Cert.MoeGluReferenceIdeal.main_arg3)
      ∧ r.2.mem ((c.tc : Thread Cert.MoeGluReferenceIdeal.nD Cert.MoeGluReferenceIdeal.τ).loc Cert.MoeGluReferenceIdeal.main_arg4) = m ((c.tc : Thread Cert.MoeGluReferenceIdeal.nD Cert.MoeGluReferenceIdeal.τ).loc Cert.MoeGluReferenceIdeal.main_arg4))
      ∧ r.2.sem = fun _ => 0)

def quiescent_MoeGluReferenceIdeal_pre_tables_in_range [hMoeGluReferenceIdeal : Cert.MoeGluReferenceIdeal.Facts] [hPre_tables_in_range : Cert.Pre_tables_in_range.Facts] : Prop :=
  ∀ (m : (ℓ : Loc Cert.MoeGluReferenceIdeal.nD Cert.MoeGluReferenceIdeal.τ Cert.MoeGluReferenceIdeal.sig) → Buf (Elt Ideal) ℓ) (g : Dev Cert.MoeGluReferenceIdeal.nD → PrngReg), Pre_MoeGluReferenceIdeal_tables_in_range m →
    θ_run (Cert.MoeGluReferenceIdeal.defs (F := Ideal)) (onTc (τ := Cert.MoeGluReferenceIdeal.τ) (Cert.MoeGluReferenceIdeal.main (F := Ideal))) ⟨m, fun _ => 0, g⟩ (fun r => (∀ c : Dev Cert.MoeGluReferenceIdeal.nD,
      r.2.mem ((c.tc : Thread Cert.MoeGluReferenceIdeal.nD Cert.MoeGluReferenceIdeal.τ).loc Cert.MoeGluReferenceIdeal.main_arg0) = m ((c.tc : Thread Cert.MoeGluReferenceIdeal.nD Cert.MoeGluReferenceIdeal.τ).loc Cert.MoeGluReferenceIdeal.main_arg0)
      ∧ r.2.mem ((c.tc : Thread Cert.MoeGluReferenceIdeal.nD Cert.MoeGluReferenceIdeal.τ).loc Cert.MoeGluReferenceIdeal.main_arg1) = m ((c.tc : Thread Cert.MoeGluReferenceIdeal.nD Cert.MoeGluReferenceIdeal.τ).loc Cert.MoeGluReferenceIdeal.main_arg1)
      ∧ r.2.mem ((c.tc : Thread Cert.MoeGluReferenceIdeal.nD Cert.MoeGluReferenceIdeal.τ).loc Cert.MoeGluReferenceIdeal.main_arg2) = m ((c.tc : Thread Cert.MoeGluReferenceIdeal.nD Cert.MoeGluReferenceIdeal.τ).loc Cert.MoeGluReferenceIdeal.main_arg2)
      ∧ r.2.mem ((c.tc : Thread Cert.MoeGluReferenceIdeal.nD Cert.MoeGluReferenceIdeal.τ).loc Cert.MoeGluReferenceIdeal.main_arg3) = m ((c.tc : Thread Cert.MoeGluReferenceIdeal.nD Cert.MoeGluReferenceIdeal.τ).loc Cert.MoeGluReferenceIdeal.main_arg3)
      ∧ r.2.mem ((c.tc : Thread Cert.MoeGluReferenceIdeal.nD Cert.MoeGluReferenceIdeal.τ).loc Cert.MoeGluReferenceIdeal.main_arg4) = m ((c.tc : Thread Cert.MoeGluReferenceIdeal.nD Cert.MoeGluReferenceIdeal.τ).loc Cert.MoeGluReferenceIdeal.main_arg4))
      ∧ r.2.sem = fun _ => 0)

def quiescent_ConvGatedKernel [hConvGatedKernel : Cert.ConvGatedKernel.Facts] : Prop :=
  ∀ (m : (ℓ : Loc Cert.ConvGatedKernel.nD Cert.ConvGatedKernel.τ Cert.ConvGatedKernel.sig) → Buf (Elt Bits) ℓ) (g : Dev Cert.ConvGatedKernel.nD → PrngReg), Pre_ConvGatedKernel m →
    θ_run (Cert.ConvGatedKernel.defs (F := Bits)) (onTc (τ := Cert.ConvGatedKernel.τ) (Cert.ConvGatedKernel.main (F := Bits))) ⟨m, fun _ => 0, g⟩ (fun r => (∀ c : Dev Cert.ConvGatedKernel.nD,
      r.2.mem ((c.tc : Thread Cert.ConvGatedKernel.nD Cert.ConvGatedKernel.τ).loc Cert.ConvGatedKernel.main_arg0) = m ((c.tc : Thread Cert.ConvGatedKernel.nD Cert.ConvGatedKernel.τ).loc Cert.ConvGatedKernel.main_arg0)
      ∧ r.2.mem ((c.tc : Thread Cert.ConvGatedKernel.nD Cert.ConvGatedKernel.τ).loc Cert.ConvGatedKernel.main_arg1) = m ((c.tc : Thread Cert.ConvGatedKernel.nD Cert.ConvGatedKernel.τ).loc Cert.ConvGatedKernel.main_arg1))
      ∧ r.2.sem = fun _ => 0)

def quiescent_ConvGatedKernelIdeal [hConvGatedKernelIdeal : Cert.ConvGatedKernelIdeal.Facts] : Prop :=
  ∀ (m : (ℓ : Loc Cert.ConvGatedKernelIdeal.nD Cert.ConvGatedKernelIdeal.τ Cert.ConvGatedKernelIdeal.sig) → Buf (Elt Ideal) ℓ) (g : Dev Cert.ConvGatedKernelIdeal.nD → PrngReg), Pre_ConvGatedKernelIdeal m →
    θ_run (Cert.ConvGatedKernelIdeal.defs (F := Ideal)) (onTc (τ := Cert.ConvGatedKernelIdeal.τ) (Cert.ConvGatedKernelIdeal.main (F := Ideal))) ⟨m, fun _ => 0, g⟩ (fun r => (∀ c : Dev Cert.ConvGatedKernelIdeal.nD,
      r.2.mem ((c.tc : Thread Cert.ConvGatedKernelIdeal.nD Cert.ConvGatedKernelIdeal.τ).loc Cert.ConvGatedKernelIdeal.main_arg0) = m ((c.tc : Thread Cert.ConvGatedKernelIdeal.nD Cert.ConvGatedKernelIdeal.τ).loc Cert.ConvGatedKernelIdeal.main_arg0)
      ∧ r.2.mem ((c.tc : Thread Cert.ConvGatedKernelIdeal.nD Cert.ConvGatedKernelIdeal.τ).loc Cert.ConvGatedKernelIdeal.main_arg1) = m ((c.tc : Thread Cert.ConvGatedKernelIdeal.nD Cert.ConvGatedKernelIdeal.τ).loc Cert.ConvGatedKernelIdeal.main_arg1))
      ∧ r.2.sem = fun _ => 0)

def quiescent_ConvGatedReferenceIdeal [hConvGatedReferenceIdeal : Cert.ConvGatedReferenceIdeal.Facts] : Prop :=
  ∀ (m : (ℓ : Loc Cert.ConvGatedReferenceIdeal.nD Cert.ConvGatedReferenceIdeal.τ Cert.ConvGatedReferenceIdeal.sig) → Buf (Elt Ideal) ℓ) (g : Dev Cert.ConvGatedReferenceIdeal.nD → PrngReg), Pre_ConvGatedReferenceIdeal m →
    θ_run (Cert.ConvGatedReferenceIdeal.defs (F := Ideal)) (onTc (τ := Cert.ConvGatedReferenceIdeal.τ) (Cert.ConvGatedReferenceIdeal.main (F := Ideal))) ⟨m, fun _ => 0, g⟩ (fun r => (∀ c : Dev Cert.ConvGatedReferenceIdeal.nD,
      r.2.mem ((c.tc : Thread Cert.ConvGatedReferenceIdeal.nD Cert.ConvGatedReferenceIdeal.τ).loc Cert.ConvGatedReferenceIdeal.main_arg0) = m ((c.tc : Thread Cert.ConvGatedReferenceIdeal.nD Cert.ConvGatedReferenceIdeal.τ).loc Cert.ConvGatedReferenceIdeal.main_arg0)
      ∧ r.2.mem ((c.tc : Thread Cert.ConvGatedReferenceIdeal.nD Cert.ConvGatedReferenceIdeal.τ).loc Cert.ConvGatedReferenceIdeal.main_arg1) = m ((c.tc : Thread Cert.ConvGatedReferenceIdeal.nD Cert.ConvGatedReferenceIdeal.τ).loc Cert.ConvGatedReferenceIdeal.main_arg1))
      ∧ r.2.sem = fun _ => 0)

def quiescent_ConvXbcKernel [hConvXbcKernel : Cert.ConvXbcKernel.Facts] : Prop :=
  ∀ (m : (ℓ : Loc Cert.ConvXbcKernel.nD Cert.ConvXbcKernel.τ Cert.ConvXbcKernel.sig) → Buf (Elt Bits) ℓ) (g : Dev Cert.ConvXbcKernel.nD → PrngReg), Pre_ConvXbcKernel m →
    θ_run (Cert.ConvXbcKernel.defs (F := Bits)) (onTc (τ := Cert.ConvXbcKernel.τ) (Cert.ConvXbcKernel.main (F := Bits))) ⟨m, fun _ => 0, g⟩ (fun r => (∀ c : Dev Cert.ConvXbcKernel.nD,
      r.2.mem ((c.tc : Thread Cert.ConvXbcKernel.nD Cert.ConvXbcKernel.τ).loc Cert.ConvXbcKernel.main_arg0) = m ((c.tc : Thread Cert.ConvXbcKernel.nD Cert.ConvXbcKernel.τ).loc Cert.ConvXbcKernel.main_arg0)
      ∧ r.2.mem ((c.tc : Thread Cert.ConvXbcKernel.nD Cert.ConvXbcKernel.τ).loc Cert.ConvXbcKernel.main_arg1) = m ((c.tc : Thread Cert.ConvXbcKernel.nD Cert.ConvXbcKernel.τ).loc Cert.ConvXbcKernel.main_arg1)
      ∧ r.2.mem ((c.tc : Thread Cert.ConvXbcKernel.nD Cert.ConvXbcKernel.τ).loc Cert.ConvXbcKernel.main_arg2) = m ((c.tc : Thread Cert.ConvXbcKernel.nD Cert.ConvXbcKernel.τ).loc Cert.ConvXbcKernel.main_arg2))
      ∧ r.2.sem = fun _ => 0)

def quiescent_ConvXbcKernelIdeal [hConvXbcKernelIdeal : Cert.ConvXbcKernelIdeal.Facts] : Prop :=
  ∀ (m : (ℓ : Loc Cert.ConvXbcKernelIdeal.nD Cert.ConvXbcKernelIdeal.τ Cert.ConvXbcKernelIdeal.sig) → Buf (Elt Ideal) ℓ) (g : Dev Cert.ConvXbcKernelIdeal.nD → PrngReg), Pre_ConvXbcKernelIdeal m →
    θ_run (Cert.ConvXbcKernelIdeal.defs (F := Ideal)) (onTc (τ := Cert.ConvXbcKernelIdeal.τ) (Cert.ConvXbcKernelIdeal.main (F := Ideal))) ⟨m, fun _ => 0, g⟩ (fun r => (∀ c : Dev Cert.ConvXbcKernelIdeal.nD,
      r.2.mem ((c.tc : Thread Cert.ConvXbcKernelIdeal.nD Cert.ConvXbcKernelIdeal.τ).loc Cert.ConvXbcKernelIdeal.main_arg0) = m ((c.tc : Thread Cert.ConvXbcKernelIdeal.nD Cert.ConvXbcKernelIdeal.τ).loc Cert.ConvXbcKernelIdeal.main_arg0)
      ∧ r.2.mem ((c.tc : Thread Cert.ConvXbcKernelIdeal.nD Cert.ConvXbcKernelIdeal.τ).loc Cert.ConvXbcKernelIdeal.main_arg1) = m ((c.tc : Thread Cert.ConvXbcKernelIdeal.nD Cert.ConvXbcKernelIdeal.τ).loc Cert.ConvXbcKernelIdeal.main_arg1)
      ∧ r.2.mem ((c.tc : Thread Cert.ConvXbcKernelIdeal.nD Cert.ConvXbcKernelIdeal.τ).loc Cert.ConvXbcKernelIdeal.main_arg2) = m ((c.tc : Thread Cert.ConvXbcKernelIdeal.nD Cert.ConvXbcKernelIdeal.τ).loc Cert.ConvXbcKernelIdeal.main_arg2))
      ∧ r.2.sem = fun _ => 0)

def quiescent_ConvXbcReferenceIdeal [hConvXbcReferenceIdeal : Cert.ConvXbcReferenceIdeal.Facts] : Prop :=
  ∀ (m : (ℓ : Loc Cert.ConvXbcReferenceIdeal.nD Cert.ConvXbcReferenceIdeal.τ Cert.ConvXbcReferenceIdeal.sig) → Buf (Elt Ideal) ℓ) (g : Dev Cert.ConvXbcReferenceIdeal.nD → PrngReg), Pre_ConvXbcReferenceIdeal m →
    θ_run (Cert.ConvXbcReferenceIdeal.defs (F := Ideal)) (onTc (τ := Cert.ConvXbcReferenceIdeal.τ) (Cert.ConvXbcReferenceIdeal.main (F := Ideal))) ⟨m, fun _ => 0, g⟩ (fun r => (∀ c : Dev Cert.ConvXbcReferenceIdeal.nD,
      r.2.mem ((c.tc : Thread Cert.ConvXbcReferenceIdeal.nD Cert.ConvXbcReferenceIdeal.τ).loc Cert.ConvXbcReferenceIdeal.main_arg0) = m ((c.tc : Thread Cert.ConvXbcReferenceIdeal.nD Cert.ConvXbcReferenceIdeal.τ).loc Cert.ConvXbcReferenceIdeal.main_arg0)
      ∧ r.2.mem ((c.tc : Thread Cert.ConvXbcReferenceIdeal.nD Cert.ConvXbcReferenceIdeal.τ).loc Cert.ConvXbcReferenceIdeal.main_arg1) = m ((c.tc : Thread Cert.ConvXbcReferenceIdeal.nD Cert.ConvXbcReferenceIdeal.τ).loc Cert.ConvXbcReferenceIdeal.main_arg1)
      ∧ r.2.mem ((c.tc : Thread Cert.ConvXbcReferenceIdeal.nD Cert.ConvXbcReferenceIdeal.τ).loc Cert.ConvXbcReferenceIdeal.main_arg2) = m ((c.tc : Thread Cert.ConvXbcReferenceIdeal.nD Cert.ConvXbcReferenceIdeal.τ).loc Cert.ConvXbcReferenceIdeal.main_arg2))
      ∧ r.2.sem = fun _ => 0)

def quiescent_InProjSmallKernel [hInProjSmallKernel : Cert.InProjSmallKernel.Facts] : Prop :=
  ∀ (m : (ℓ : Loc Cert.InProjSmallKernel.nD Cert.InProjSmallKernel.τ Cert.InProjSmallKernel.sig) → Buf (Elt Bits) ℓ) (g : Dev Cert.InProjSmallKernel.nD → PrngReg), Pre_InProjSmallKernel m →
    θ_run (Cert.InProjSmallKernel.defs (F := Bits)) (onTc (τ := Cert.InProjSmallKernel.τ) (Cert.InProjSmallKernel.main (F := Bits))) ⟨m, fun _ => 0, g⟩ (fun r => (∀ c : Dev Cert.InProjSmallKernel.nD,
      r.2.mem ((c.tc : Thread Cert.InProjSmallKernel.nD Cert.InProjSmallKernel.τ).loc Cert.InProjSmallKernel.main_arg0) = m ((c.tc : Thread Cert.InProjSmallKernel.nD Cert.InProjSmallKernel.τ).loc Cert.InProjSmallKernel.main_arg0)
      ∧ r.2.mem ((c.tc : Thread Cert.InProjSmallKernel.nD Cert.InProjSmallKernel.τ).loc Cert.InProjSmallKernel.main_arg1) = m ((c.tc : Thread Cert.InProjSmallKernel.nD Cert.InProjSmallKernel.τ).loc Cert.InProjSmallKernel.main_arg1))
      ∧ r.2.sem = fun _ => 0)

def quiescent_InProjSmallKernelIdeal [hInProjSmallKernelIdeal : Cert.InProjSmallKernelIdeal.Facts] : Prop :=
  ∀ (m : (ℓ : Loc Cert.InProjSmallKernelIdeal.nD Cert.InProjSmallKernelIdeal.τ Cert.InProjSmallKernelIdeal.sig) → Buf (Elt Ideal) ℓ) (g : Dev Cert.InProjSmallKernelIdeal.nD → PrngReg), Pre_InProjSmallKernelIdeal m →
    θ_run (Cert.InProjSmallKernelIdeal.defs (F := Ideal)) (onTc (τ := Cert.InProjSmallKernelIdeal.τ) (Cert.InProjSmallKernelIdeal.main (F := Ideal))) ⟨m, fun _ => 0, g⟩ (fun r => (∀ c : Dev Cert.InProjSmallKernelIdeal.nD,
      r.2.mem ((c.tc : Thread Cert.InProjSmallKernelIdeal.nD Cert.InProjSmallKernelIdeal.τ).loc Cert.InProjSmallKernelIdeal.main_arg0) = m ((c.tc : Thread Cert.InProjSmallKernelIdeal.nD Cert.InProjSmallKernelIdeal.τ).loc Cert.InProjSmallKernelIdeal.main_arg0)
      ∧ r.2.mem ((c.tc : Thread Cert.InProjSmallKernelIdeal.nD Cert.InProjSmallKernelIdeal.τ).loc Cert.InProjSmallKernelIdeal.main_arg1) = m ((c.tc : Thread Cert.InProjSmallKernelIdeal.nD Cert.InProjSmallKernelIdeal.τ).loc Cert.InProjSmallKernelIdeal.main_arg1))
      ∧ r.2.sem = fun _ => 0)

def quiescent_InProjSmallReferenceIdeal [hInProjSmallReferenceIdeal : Cert.InProjSmallReferenceIdeal.Facts] : Prop :=
  ∀ (m : (ℓ : Loc Cert.InProjSmallReferenceIdeal.nD Cert.InProjSmallReferenceIdeal.τ Cert.InProjSmallReferenceIdeal.sig) → Buf (Elt Ideal) ℓ) (g : Dev Cert.InProjSmallReferenceIdeal.nD → PrngReg), Pre_InProjSmallReferenceIdeal m →
    θ_run (Cert.InProjSmallReferenceIdeal.defs (F := Ideal)) (onTc (τ := Cert.InProjSmallReferenceIdeal.τ) (Cert.InProjSmallReferenceIdeal.main (F := Ideal))) ⟨m, fun _ => 0, g⟩ (fun r => (∀ c : Dev Cert.InProjSmallReferenceIdeal.nD,
      r.2.mem ((c.tc : Thread Cert.InProjSmallReferenceIdeal.nD Cert.InProjSmallReferenceIdeal.τ).loc Cert.InProjSmallReferenceIdeal.main_arg0) = m ((c.tc : Thread Cert.InProjSmallReferenceIdeal.nD Cert.InProjSmallReferenceIdeal.τ).loc Cert.InProjSmallReferenceIdeal.main_arg0)
      ∧ r.2.mem ((c.tc : Thread Cert.InProjSmallReferenceIdeal.nD Cert.InProjSmallReferenceIdeal.τ).loc Cert.InProjSmallReferenceIdeal.main_arg1) = m ((c.tc : Thread Cert.InProjSmallReferenceIdeal.nD Cert.InProjSmallReferenceIdeal.τ).loc Cert.InProjSmallReferenceIdeal.main_arg1))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2)
      ∧ r.2.mem ((c.tc : Thread Cert.PrepKernel.nD Cert.PrepKernel.τ).loc Cert.PrepKernel.main_arg3) = m ((c.tc : Thread Cert.PrepKernel.nD Cert.PrepKernel.τ).loc Cert.PrepKernel.main_arg3)
      ∧ r.2.mem ((c.tc : Thread Cert.PrepKernel.nD Cert.PrepKernel.τ).loc Cert.PrepKernel.main_arg4) = m ((c.tc : Thread Cert.PrepKernel.nD Cert.PrepKernel.τ).loc Cert.PrepKernel.main_arg4)
      ∧ r.2.mem ((c.tc : Thread Cert.PrepKernel.nD Cert.PrepKernel.τ).loc Cert.PrepKernel.main_arg5) = m ((c.tc : Thread Cert.PrepKernel.nD Cert.PrepKernel.τ).loc Cert.PrepKernel.main_arg5))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v4)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v4) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v63) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)) →
    ∃ (v0 : (c : Dev Cert.GluKernelIdeal.nD) → Buf (Elt Ideal) ((c.tc : Thread Cert.GluKernelIdeal.nD Cert.GluKernelIdeal.τ).loc Cert.GluKernelIdeal.main_v2)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v2) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v7) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v2)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_InProjKernel_InProjKernelIdeal : Prop :=
  True

def algebraic_InProjKernelIdeal_InProjReferenceIdeal [hInProjKernelIdeal : Cert.InProjKernelIdeal.Facts] [hInProjReferenceIdeal : Cert.InProjReferenceIdeal.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjKernelIdeal m →
    (∀ c : Dev Cert.InProjKernelIdeal.nD,
      m' ((c.tc : Thread Cert.InProjReferenceIdeal.nD Cert.InProjReferenceIdeal.τ).loc Cert.InProjReferenceIdeal.main_arg0) = m ((c.tc : Thread Cert.InProjKernelIdeal.nD Cert.InProjKernelIdeal.τ).loc Cert.InProjKernelIdeal.main_arg0)
      ∧ m' ((c.tc : Thread Cert.InProjReferenceIdeal.nD Cert.InProjReferenceIdeal.τ).loc Cert.InProjReferenceIdeal.main_arg1) = m ((c.tc : Thread Cert.InProjKernelIdeal.nD Cert.InProjKernelIdeal.τ).loc Cert.InProjKernelIdeal.main_arg1)) →
    ∃ (v0 : (c : Dev Cert.InProjKernelIdeal.nD) → Buf (Elt Ideal) ((c.tc : Thread Cert.InProjKernelIdeal.nD Cert.InProjKernelIdeal.τ).loc Cert.InProjKernelIdeal.main_v12)),
      θ_run (Cert.InProjKernelIdeal.defs (F := Ideal)) (onTc (τ := Cert.InProjKernelIdeal.τ) (Cert.InProjKernelIdeal.main (F := Ideal))) ⟨m, fun _ => 0, g⟩ (fun r => ∀ c : Dev Cert.InProjKernelIdeal.nD,
          r.2.mem ((c.tc : Thread Cert.InProjKernelIdeal.nD Cert.InProjKernelIdeal.τ).loc Cert.InProjKernelIdeal.main_v12) = v0 c
          ∧ r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
          ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v23) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_MoeGluKernel_MoeGluKernelIdeal : Prop :=
  True

def algebraic_MoeGluKernelIdeal_MoeGluReferenceIdeal [hMoeGluKernelIdeal : Cert.MoeGluKernelIdeal.Facts] [hMoeGluReferenceIdeal : Cert.MoeGluReferenceIdeal.Facts] [hPre_tables_in_range : Cert.Pre_tables_in_range.Facts] : Prop :=
  ∀ (m : (ℓ : Loc Cert.MoeGluKernelIdeal.nD Cert.MoeGluKernelIdeal.τ Cert.MoeGluKernelIdeal.sig) → Buf (Elt Ideal) ℓ) (g : Dev Cert.MoeGluKernelIdeal.nD → PrngReg)
    (m' : (ℓ : Loc Cert.MoeGluReferenceIdeal.nD Cert.MoeGluReferenceIdeal.τ Cert.MoeGluReferenceIdeal.sig) → Buf (Elt Ideal) ℓ) (g' : Dev Cert.MoeGluReferenceIdeal.nD → PrngReg), Pre_MoeGluKernelIdeal m →
    (∀ c : Dev Cert.MoeGluKernelIdeal.nD,
      m' ((c.tc : Thread Cert.MoeGluReferenceIdeal.nD Cert.MoeGluReferenceIdeal.τ).loc Cert.MoeGluReferenceIdeal.main_arg0) = m ((c.tc : Thread Cert.MoeGluKernelIdeal.nD Cert.MoeGluKernelIdeal.τ).loc Cert.MoeGluKernelIdeal.main_arg0)
      ∧ m' ((c.tc : Thread Cert.MoeGluReferenceIdeal.nD Cert.MoeGluReferenceIdeal.τ).loc Cert.MoeGluReferenceIdeal.main_arg1) = m ((c.tc : Thread Cert.MoeGluKernelIdeal.nD Cert.MoeGluKernelIdeal.τ).loc Cert.MoeGluKernelIdeal.main_arg1)
      ∧ m' ((c.tc : Thread Cert.MoeGluReferenceIdeal.nD Cert.MoeGluReferenceIdeal.τ).loc Cert.MoeGluReferenceIdeal.main_arg2) = m ((c.tc : Thread Cert.MoeGluKernelIdeal.nD Cert.MoeGluKernelIdeal.τ).loc Cert.MoeGluKernelIdeal.main_arg2)
      ∧ m' ((c.tc : Thread Cert.MoeGluReferenceIdeal.nD Cert.MoeGluReferenceIdeal.τ).loc Cert.MoeGluReferenceIdeal.main_arg3) = m ((c.tc : Thread Cert.MoeGluKernelIdeal.nD Cert.MoeGluKernelIdeal.τ).loc Cert.MoeGluKernelIdeal.main_arg3)
      ∧ m' ((c.tc : Thread Cert.MoeGluReferenceIdeal.nD Cert.MoeGluReferenceIdeal.τ).loc Cert.MoeGluReferenceIdeal.main_arg4) = m ((c.tc : Thread Cert.MoeGluKernelIdeal.nD Cert.MoeGluKernelIdeal.τ).loc Cert.MoeGluKernelIdeal.main_arg4)) →
    ∃ (v0 : (c : Dev Cert.MoeGluKernelIdeal.nD) → Buf (Elt Ideal) ((c.tc : Thread Cert.MoeGluKernelIdeal.nD Cert.MoeGluKernelIdeal.τ).loc Cert.MoeGluKernelIdeal.main_v0)),
      θ_run (Cert.MoeGluKernelIdeal.defs (F := Ideal)) (onTc (τ := Cert.MoeGluKernelIdeal.τ) (Cert.MoeGluKernelIdeal.main (F := Ideal))) ⟨m, fun _ => 0, g⟩ (fun r => ∀ c : Dev Cert.MoeGluKernelIdeal.nD,
          r.2.mem ((c.tc : Thread Cert.MoeGluKernelIdeal.nD Cert.MoeGluKernelIdeal.τ).loc Cert.MoeGluKernelIdeal.main_v0) = v0 c
          ∧ r.2.mem ((c.tc : Thread Cert.MoeGluKernelIdeal.nD Cert.MoeGluKernelIdeal.τ).loc Cert.MoeGluKernelIdeal.main_arg0) = m ((c.tc : Thread Cert.MoeGluKernelIdeal.nD Cert.MoeGluKernelIdeal.τ).loc Cert.MoeGluKernelIdeal.main_arg0)
          ∧ r.2.mem ((c.tc : Thread Cert.MoeGluKernelIdeal.nD Cert.MoeGluKernelIdeal.τ).loc Cert.MoeGluKernelIdeal.main_arg1) = m ((c.tc : Thread Cert.MoeGluKernelIdeal.nD Cert.MoeGluKernelIdeal.τ).loc Cert.MoeGluKernelIdeal.main_arg1)
          ∧ r.2.mem ((c.tc : Thread Cert.MoeGluKernelIdeal.nD Cert.MoeGluKernelIdeal.τ).loc Cert.MoeGluKernelIdeal.main_arg2) = m ((c.tc : Thread Cert.MoeGluKernelIdeal.nD Cert.MoeGluKernelIdeal.τ).loc Cert.MoeGluKernelIdeal.main_arg2)
          ∧ r.2.mem ((c.tc : Thread Cert.MoeGluKernelIdeal.nD Cert.MoeGluKernelIdeal.τ).loc Cert.MoeGluKernelIdeal.main_arg3) = m ((c.tc : Thread Cert.MoeGluKernelIdeal.nD Cert.MoeGluKernelIdeal.τ).loc Cert.MoeGluKernelIdeal.main_arg3)
          ∧ r.2.mem ((c.tc : Thread Cert.MoeGluKernelIdeal.nD Cert.MoeGluKernelIdeal.τ).loc Cert.MoeGluKernelIdeal.main_arg4) = m ((c.tc : Thread Cert.MoeGluKernelIdeal.nD Cert.MoeGluKernelIdeal.τ).loc Cert.MoeGluKernelIdeal.main_arg4))
      ∧ θ_run (Cert.MoeGluReferenceIdeal.defs (F := Ideal)) (onTc (τ := Cert.MoeGluReferenceIdeal.τ) (Cert.MoeGluReferenceIdeal.main (F := Ideal))) ⟨m', fun _ => 0, g'⟩ (fun r => ∀ c : Dev Cert.MoeGluReferenceIdeal.nD,
          r.2.mem ((c.tc : Thread Cert.MoeGluReferenceIdeal.nD Cert.MoeGluReferenceIdeal.τ).loc Cert.MoeGluReferenceIdeal.main_v106) = v0 c
          ∧ r.2.mem ((c.tc : Thread Cert.MoeGluReferenceIdeal.nD Cert.MoeGluReferenceIdeal.τ).loc Cert.MoeGluReferenceIdeal.main_arg0) = m' ((c.tc : Thread Cert.MoeGluReferenceIdeal.nD Cert.MoeGluReferenceIdeal.τ).loc Cert.MoeGluReferenceIdeal.main_arg0)
          ∧ r.2.mem ((c.tc : Thread Cert.MoeGluReferenceIdeal.nD Cert.MoeGluReferenceIdeal.τ).loc Cert.MoeGluReferenceIdeal.main_arg1) = m' ((c.tc : Thread Cert.MoeGluReferenceIdeal.nD Cert.MoeGluReferenceIdeal.τ).loc Cert.MoeGluReferenceIdeal.main_arg1)
          ∧ r.2.mem ((c.tc : Thread Cert.MoeGluReferenceIdeal.nD Cert.MoeGluReferenceIdeal.τ).loc Cert.MoeGluReferenceIdeal.main_arg2) = m' ((c.tc : Thread Cert.MoeGluReferenceIdeal.nD Cert.MoeGluReferenceIdeal.τ).loc Cert.MoeGluReferenceIdeal.main_arg2)
          ∧ r.2.mem ((c.tc : Thread Cert.MoeGluReferenceIdeal.nD Cert.MoeGluReferenceIdeal.τ).loc Cert.MoeGluReferenceIdeal.main_arg3) = m' ((c.tc : Thread Cert.MoeGluReferenceIdeal.nD Cert.MoeGluReferenceIdeal.τ).loc Cert.MoeGluReferenceIdeal.main_arg3)
          ∧ r.2.mem ((c.tc : Thread Cert.MoeGluReferenceIdeal.nD Cert.MoeGluReferenceIdeal.τ).loc Cert.MoeGluReferenceIdeal.main_arg4) = m' ((c.tc : Thread Cert.MoeGluReferenceIdeal.nD Cert.MoeGluReferenceIdeal.τ).loc Cert.MoeGluReferenceIdeal.main_arg4))

def preserves_ConvGatedKernel_ConvGatedKernelIdeal : Prop :=
  True

def algebraic_ConvGatedKernelIdeal_ConvGatedReferenceIdeal [hConvGatedKernelIdeal : Cert.ConvGatedKernelIdeal.Facts] [hConvGatedReferenceIdeal : Cert.ConvGatedReferenceIdeal.Facts] : Prop :=
  ∀ (m : (ℓ : Loc Cert.ConvGatedKernelIdeal.nD Cert.ConvGatedKernelIdeal.τ Cert.ConvGatedKernelIdeal.sig) → Buf (Elt Ideal) ℓ) (g : Dev Cert.ConvGatedKernelIdeal.nD → PrngReg)
    (m' : (ℓ : Loc Cert.ConvGatedReferenceIdeal.nD Cert.ConvGatedReferenceIdeal.τ Cert.ConvGatedReferenceIdeal.sig) → Buf (Elt Ideal) ℓ) (g' : Dev Cert.ConvGatedReferenceIdeal.nD → PrngReg), Pre_ConvGatedKernelIdeal m →
    (∀ c : Dev Cert.ConvGatedKernelIdeal.nD,
      m' ((c.tc : Thread Cert.ConvGatedReferenceIdeal.nD Cert.ConvGatedReferenceIdeal.τ).loc Cert.ConvGatedReferenceIdeal.main_arg0) = m ((c.tc : Thread Cert.ConvGatedKernelIdeal.nD Cert.ConvGatedKernelIdeal.τ).loc Cert.ConvGatedKernelIdeal.main_arg0)
      ∧ m' ((c.tc : Thread Cert.ConvGatedReferenceIdeal.nD Cert.ConvGatedReferenceIdeal.τ).loc Cert.ConvGatedReferenceIdeal.main_arg1) = m ((c.tc : Thread Cert.ConvGatedKernelIdeal.nD Cert.ConvGatedKernelIdeal.τ).loc Cert.ConvGatedKernelIdeal.main_arg1)) →
    ∃ (v0 : (c : Dev Cert.ConvGatedKernelIdeal.nD) → Buf (Elt Ideal) ((c.tc : Thread Cert.ConvGatedKernelIdeal.nD Cert.ConvGatedKernelIdeal.τ).loc Cert.ConvGatedKernelIdeal.main_v2)),
      θ_run (Cert.ConvGatedKernelIdeal.defs (F := Ideal)) (onTc (τ := Cert.ConvGatedKernelIdeal.τ) (Cert.ConvGatedKernelIdeal.main (F := Ideal))) ⟨m, fun _ => 0, g⟩ (fun r => ∀ c : Dev Cert.ConvGatedKernelIdeal.nD,
          r.2.mem ((c.tc : Thread Cert.ConvGatedKernelIdeal.nD Cert.ConvGatedKernelIdeal.τ).loc Cert.ConvGatedKernelIdeal.main_v2) = v0 c
          ∧ r.2.mem ((c.tc : Thread Cert.ConvGatedKernelIdeal.nD Cert.ConvGatedKernelIdeal.τ).loc Cert.ConvGatedKernelIdeal.main_arg0) = m ((c.tc : Thread Cert.ConvGatedKernelIdeal.nD Cert.ConvGatedKernelIdeal.τ).loc Cert.ConvGatedKernelIdeal.main_arg0)
          ∧ r.2.mem ((c.tc : Thread Cert.ConvGatedKernelIdeal.nD Cert.ConvGatedKernelIdeal.τ).loc Cert.ConvGatedKernelIdeal.main_arg1) = m ((c.tc : Thread Cert.ConvGatedKernelIdeal.nD Cert.ConvGatedKernelIdeal.τ).loc Cert.ConvGatedKernelIdeal.main_arg1))
      ∧ θ_run (Cert.ConvGatedReferenceIdeal.defs (F := Ideal)) (onTc (τ := Cert.ConvGatedReferenceIdeal.τ) (Cert.ConvGatedReferenceIdeal.main (F := Ideal))) ⟨m', fun _ => 0, g'⟩ (fun r => ∀ c : Dev Cert.ConvGatedReferenceIdeal.nD,
          r.2.mem ((c.tc : Thread Cert.ConvGatedReferenceIdeal.nD Cert.ConvGatedReferenceIdeal.τ).loc Cert.ConvGatedReferenceIdeal.main_v30) = v0 c
          ∧ r.2.mem ((c.tc : Thread Cert.ConvGatedReferenceIdeal.nD Cert.ConvGatedReferenceIdeal.τ).loc Cert.ConvGatedReferenceIdeal.main_arg0) = m' ((c.tc : Thread Cert.ConvGatedReferenceIdeal.nD Cert.ConvGatedReferenceIdeal.τ).loc Cert.ConvGatedReferenceIdeal.main_arg0)
          ∧ r.2.mem ((c.tc : Thread Cert.ConvGatedReferenceIdeal.nD Cert.ConvGatedReferenceIdeal.τ).loc Cert.ConvGatedReferenceIdeal.main_arg1) = m' ((c.tc : Thread Cert.ConvGatedReferenceIdeal.nD Cert.ConvGatedReferenceIdeal.τ).loc Cert.ConvGatedReferenceIdeal.main_arg1))

def preserves_ConvXbcKernel_ConvXbcKernelIdeal : Prop :=
  True

def algebraic_ConvXbcKernelIdeal_ConvXbcReferenceIdeal [hConvXbcKernelIdeal : Cert.ConvXbcKernelIdeal.Facts] [hConvXbcReferenceIdeal : Cert.ConvXbcReferenceIdeal.Facts] : Prop :=
  ∀ (m : (ℓ : Loc Cert.ConvXbcKernelIdeal.nD Cert.ConvXbcKernelIdeal.τ Cert.ConvXbcKernelIdeal.sig) → Buf (Elt Ideal) ℓ) (g : Dev Cert.ConvXbcKernelIdeal.nD → PrngReg)
    (m' : (ℓ : Loc Cert.ConvXbcReferenceIdeal.nD Cert.ConvXbcReferenceIdeal.τ Cert.ConvXbcReferenceIdeal.sig) → Buf (Elt Ideal) ℓ) (g' : Dev Cert.ConvXbcReferenceIdeal.nD → PrngReg), Pre_ConvXbcKernelIdeal m →
    (∀ c : Dev Cert.ConvXbcKernelIdeal.nD,
      m' ((c.tc : Thread Cert.ConvXbcReferenceIdeal.nD Cert.ConvXbcReferenceIdeal.τ).loc Cert.ConvXbcReferenceIdeal.main_arg0) = m ((c.tc : Thread Cert.ConvXbcKernelIdeal.nD Cert.ConvXbcKernelIdeal.τ).loc Cert.ConvXbcKernelIdeal.main_arg0)
      ∧ m' ((c.tc : Thread Cert.ConvXbcReferenceIdeal.nD Cert.ConvXbcReferenceIdeal.τ).loc Cert.ConvXbcReferenceIdeal.main_arg1) = m ((c.tc : Thread Cert.ConvXbcKernelIdeal.nD Cert.ConvXbcKernelIdeal.τ).loc Cert.ConvXbcKernelIdeal.main_arg1)
      ∧ m' ((c.tc : Thread Cert.ConvXbcReferenceIdeal.nD Cert.ConvXbcReferenceIdeal.τ).loc Cert.ConvXbcReferenceIdeal.main_arg2) = m ((c.tc : Thread Cert.ConvXbcKernelIdeal.nD Cert.ConvXbcKernelIdeal.τ).loc Cert.ConvXbcKernelIdeal.main_arg2)) →
    ∃ (v0 : (c : Dev Cert.ConvXbcKernelIdeal.nD) → Buf (Elt Ideal) ((c.tc : Thread Cert.ConvXbcKernelIdeal.nD Cert.ConvXbcKernelIdeal.τ).loc Cert.ConvXbcKernelIdeal.main_v5)),
      θ_run (Cert.ConvXbcKernelIdeal.defs (F := Ideal)) (onTc (τ := Cert.ConvXbcKernelIdeal.τ) (Cert.ConvXbcKernelIdeal.main (F := Ideal))) ⟨m, fun _ => 0, g⟩ (fun r => ∀ c : Dev Cert.ConvXbcKernelIdeal.nD,
          r.2.mem ((c.tc : Thread Cert.ConvXbcKernelIdeal.nD Cert.ConvXbcKernelIdeal.τ).loc Cert.ConvXbcKernelIdeal.main_v5) = v0 c
          ∧ r.2.mem ((c.tc : Thread Cert.ConvXbcKernelIdeal.nD Cert.ConvXbcKernelIdeal.τ).loc Cert.ConvXbcKernelIdeal.main_arg0) = m ((c.tc : Thread Cert.ConvXbcKernelIdeal.nD Cert.ConvXbcKernelIdeal.τ).loc Cert.ConvXbcKernelIdeal.main_arg0)
          ∧ r.2.mem ((c.tc : Thread Cert.ConvXbcKernelIdeal.nD Cert.ConvXbcKernelIdeal.τ).loc Cert.ConvXbcKernelIdeal.main_arg1) = m ((c.tc : Thread Cert.ConvXbcKernelIdeal.nD Cert.ConvXbcKernelIdeal.τ).loc Cert.ConvXbcKernelIdeal.main_arg1)
          ∧ r.2.mem ((c.tc : Thread Cert.ConvXbcKernelIdeal.nD Cert.ConvXbcKernelIdeal.τ).loc Cert.ConvXbcKernelIdeal.main_arg2) = m ((c.tc : Thread Cert.ConvXbcKernelIdeal.nD Cert.ConvXbcKernelIdeal.τ).loc Cert.ConvXbcKernelIdeal.main_arg2))
      ∧ θ_run (Cert.ConvXbcReferenceIdeal.defs (F := Ideal)) (onTc (τ := Cert.ConvXbcReferenceIdeal.τ) (Cert.ConvXbcReferenceIdeal.main (F := Ideal))) ⟨m', fun _ => 0, g'⟩ (fun r => ∀ c : Dev Cert.ConvXbcReferenceIdeal.nD,
          r.2.mem ((c.tc : Thread Cert.ConvXbcReferenceIdeal.nD Cert.ConvXbcReferenceIdeal.τ).loc Cert.ConvXbcReferenceIdeal.main_v37) = v0 c
          ∧ r.2.mem ((c.tc : Thread Cert.ConvXbcReferenceIdeal.nD Cert.ConvXbcReferenceIdeal.τ).loc Cert.ConvXbcReferenceIdeal.main_arg0) = m' ((c.tc : Thread Cert.ConvXbcReferenceIdeal.nD Cert.ConvXbcReferenceIdeal.τ).loc Cert.ConvXbcReferenceIdeal.main_arg0)
          ∧ r.2.mem ((c.tc : Thread Cert.ConvXbcReferenceIdeal.nD Cert.ConvXbcReferenceIdeal.τ).loc Cert.ConvXbcReferenceIdeal.main_arg1) = m' ((c.tc : Thread Cert.ConvXbcReferenceIdeal.nD Cert.ConvXbcReferenceIdeal.τ).loc Cert.ConvXbcReferenceIdeal.main_arg1)
          ∧ r.2.mem ((c.tc : Thread Cert.ConvXbcReferenceIdeal.nD Cert.ConvXbcReferenceIdeal.τ).loc Cert.ConvXbcReferenceIdeal.main_arg2) = m' ((c.tc : Thread Cert.ConvXbcReferenceIdeal.nD Cert.ConvXbcReferenceIdeal.τ).loc Cert.ConvXbcReferenceIdeal.main_arg2))

def preserves_InProjSmallKernel_InProjSmallKernelIdeal : Prop :=
  True

def algebraic_InProjSmallKernelIdeal_InProjSmallReferenceIdeal [hInProjSmallKernelIdeal : Cert.InProjSmallKernelIdeal.Facts] [hInProjSmallReferenceIdeal : Cert.InProjSmallReferenceIdeal.Facts] : Prop :=
  ∀ (m : (ℓ : Loc Cert.InProjSmallKernelIdeal.nD Cert.InProjSmallKernelIdeal.τ Cert.InProjSmallKernelIdeal.sig) → Buf (Elt Ideal) ℓ) (g : Dev Cert.InProjSmallKernelIdeal.nD → PrngReg)
    (m' : (ℓ : Loc Cert.InProjSmallReferenceIdeal.nD Cert.InProjSmallReferenceIdeal.τ Cert.InProjSmallReferenceIdeal.sig) → Buf (Elt Ideal) ℓ) (g' : Dev Cert.InProjSmallReferenceIdeal.nD → PrngReg), Pre_InProjSmallKernelIdeal m →
    (∀ c : Dev Cert.InProjSmallKernelIdeal.nD,
      m' ((c.tc : Thread Cert.InProjSmallReferenceIdeal.nD Cert.InProjSmallReferenceIdeal.τ).loc Cert.InProjSmallReferenceIdeal.main_arg0) = m ((c.tc : Thread Cert.InProjSmallKernelIdeal.nD Cert.InProjSmallKernelIdeal.τ).loc Cert.InProjSmallKernelIdeal.main_arg0)
      ∧ m' ((c.tc : Thread Cert.InProjSmallReferenceIdeal.nD Cert.InProjSmallReferenceIdeal.τ).loc Cert.InProjSmallReferenceIdeal.main_arg1) = m ((c.tc : Thread Cert.InProjSmallKernelIdeal.nD Cert.InProjSmallKernelIdeal.τ).loc Cert.InProjSmallKernelIdeal.main_arg1)) →
    ∃ (v0 : (c : Dev Cert.InProjSmallKernelIdeal.nD) → Buf (Elt Ideal) ((c.tc : Thread Cert.InProjSmallKernelIdeal.nD Cert.InProjSmallKernelIdeal.τ).loc Cert.InProjSmallKernelIdeal.main_v10)),
      θ_run (Cert.InProjSmallKernelIdeal.defs (F := Ideal)) (onTc (τ := Cert.InProjSmallKernelIdeal.τ) (Cert.InProjSmallKernelIdeal.main (F := Ideal))) ⟨m, fun _ => 0, g⟩ (fun r => ∀ c : Dev Cert.InProjSmallKernelIdeal.nD,
          r.2.mem ((c.tc : Thread Cert.InProjSmallKernelIdeal.nD Cert.InProjSmallKernelIdeal.τ).loc Cert.InProjSmallKernelIdeal.main_v10) = v0 c
          ∧ r.2.mem ((c.tc : Thread Cert.InProjSmallKernelIdeal.nD Cert.InProjSmallKernelIdeal.τ).loc Cert.InProjSmallKernelIdeal.main_arg0) = m ((c.tc : Thread Cert.InProjSmallKernelIdeal.nD Cert.InProjSmallKernelIdeal.τ).loc Cert.InProjSmallKernelIdeal.main_arg0)
          ∧ r.2.mem ((c.tc : Thread Cert.InProjSmallKernelIdeal.nD Cert.InProjSmallKernelIdeal.τ).loc Cert.InProjSmallKernelIdeal.main_arg1) = m ((c.tc : Thread Cert.InProjSmallKernelIdeal.nD Cert.InProjSmallKernelIdeal.τ).loc Cert.InProjSmallKernelIdeal.main_arg1))
      ∧ θ_run (Cert.InProjSmallReferenceIdeal.defs (F := Ideal)) (onTc (τ := Cert.InProjSmallReferenceIdeal.τ) (Cert.InProjSmallReferenceIdeal.main (F := Ideal))) ⟨m', fun _ => 0, g'⟩ (fun r => ∀ c : Dev Cert.InProjSmallReferenceIdeal.nD,
          r.2.mem ((c.tc : Thread Cert.InProjSmallReferenceIdeal.nD Cert.InProjSmallReferenceIdeal.τ).loc Cert.InProjSmallReferenceIdeal.main_v23) = v0 c
          ∧ r.2.mem ((c.tc : Thread Cert.InProjSmallReferenceIdeal.nD Cert.InProjSmallReferenceIdeal.τ).loc Cert.InProjSmallReferenceIdeal.main_arg0) = m' ((c.tc : Thread Cert.InProjSmallReferenceIdeal.nD Cert.InProjSmallReferenceIdeal.τ).loc Cert.InProjSmallReferenceIdeal.main_arg0)
          ∧ r.2.mem ((c.tc : Thread Cert.InProjSmallReferenceIdeal.nD Cert.InProjSmallReferenceIdeal.τ).loc Cert.InProjSmallReferenceIdeal.main_arg1) = m' ((c.tc : Thread Cert.InProjSmallReferenceIdeal.nD Cert.InProjSmallReferenceIdeal.τ).loc Cert.InProjSmallReferenceIdeal.main_arg1))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v3)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v3) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v15) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_PrepKernel_PrepKernelIdeal : Prop :=
  True

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)
      ∧ m' ((c.tc : Thread Cert.PrepReferenceIdeal.nD Cert.PrepReferenceIdeal.τ).loc Cert.PrepReferenceIdeal.main_arg3) = m ((c.tc : Thread Cert.PrepKernelIdeal.nD Cert.PrepKernelIdeal.τ).loc Cert.PrepKernelIdeal.main_arg3)
      ∧ m' ((c.tc : Thread Cert.PrepReferenceIdeal.nD Cert.PrepReferenceIdeal.τ).loc Cert.PrepReferenceIdeal.main_arg4) = m ((c.tc : Thread Cert.PrepKernelIdeal.nD Cert.PrepKernelIdeal.τ).loc Cert.PrepKernelIdeal.main_arg4)
      ∧ m' ((c.tc : Thread Cert.PrepReferenceIdeal.nD Cert.PrepReferenceIdeal.τ).loc Cert.PrepReferenceIdeal.main_arg5) = m ((c.tc : Thread Cert.PrepKernelIdeal.nD Cert.PrepKernelIdeal.τ).loc Cert.PrepKernelIdeal.main_arg5)) →
    ∃ (v0 : (c : Dev Cert.PrepKernelIdeal.nD) → Buf (Elt Ideal) ((c.tc : Thread Cert.PrepKernelIdeal.nD Cert.PrepKernelIdeal.τ).loc Cert.PrepKernelIdeal.main_v12_0)) (v1 : (c : Dev Cert.PrepKernelIdeal.nD) → Buf (Elt Ideal) ((c.tc : Thread Cert.PrepKernelIdeal.nD Cert.PrepKernelIdeal.τ).loc Cert.PrepKernelIdeal.main_v12_1)) (v2 : (c : Dev Cert.PrepKernelIdeal.nD) → Buf (Elt Ideal) ((c.tc : Thread Cert.PrepKernelIdeal.nD Cert.PrepKernelIdeal.τ).loc Cert.PrepKernelIdeal.main_v12_2)) (v3 : (c : Dev Cert.PrepKernelIdeal.nD) → Buf (Elt Ideal) ((c.tc : Thread Cert.PrepKernelIdeal.nD Cert.PrepKernelIdeal.τ).loc Cert.PrepKernelIdeal.main_v12_3)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v12_0) = v0 c
          ∧ r.2.mem ((c.tc : Thread Cert.PrepKernelIdeal.nD Cert.PrepKernelIdeal.τ).loc Cert.PrepKernelIdeal.main_v12_1) = v1 c
          ∧ r.2.mem ((c.tc : Thread Cert.PrepKernelIdeal.nD Cert.PrepKernelIdeal.τ).loc Cert.PrepKernelIdeal.main_v12_2) = v2 c
          ∧ r.2.mem ((c.tc : Thread Cert.PrepKernelIdeal.nD Cert.PrepKernelIdeal.τ).loc Cert.PrepKernelIdeal.main_v12_3) = v3 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
          ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
          ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
          ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v57) = v0 c
          ∧ r.2.mem ((c.tc : Thread Cert.PrepReferenceIdeal.nD Cert.PrepReferenceIdeal.τ).loc Cert.PrepReferenceIdeal.main_v58) = v1 c
          ∧ r.2.mem ((c.tc : Thread Cert.PrepReferenceIdeal.nD Cert.PrepReferenceIdeal.τ).loc Cert.PrepReferenceIdeal.main_v60) = v2 c
          ∧ r.2.mem ((c.tc : Thread Cert.PrepReferenceIdeal.nD Cert.PrepReferenceIdeal.τ).loc Cert.PrepReferenceIdeal.main_v61) = v3 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5))

def Claim : Prop :=
  ∃ (hKernel : Cert.Kernel.Facts) (hKernelIdeal : Cert.KernelIdeal.Facts) (hReferenceIdeal : Cert.ReferenceIdeal.Facts) (hMergeKernel : Cert.MergeKernel.Facts) (hMergeKernelIdeal : Cert.MergeKernelIdeal.Facts) (hMergeReferenceIdeal : Cert.MergeReferenceIdeal.Facts) (hGluKernel : Cert.GluKernel.Facts) (hGluKernelIdeal : Cert.GluKernelIdeal.Facts) (hGluReferenceIdeal : Cert.GluReferenceIdeal.Facts) (hDownKernel : Cert.DownKernel.Facts) (hDownKernelIdeal : Cert.DownKernelIdeal.Facts) (hDownReferenceIdeal : Cert.DownReferenceIdeal.Facts) (hInProjKernel : Cert.InProjKernel.Facts) (hInProjKernelIdeal : Cert.InProjKernelIdeal.Facts) (hInProjReferenceIdeal : Cert.InProjReferenceIdeal.Facts) (hMoeGluKernel : Cert.MoeGluKernel.Facts) (hMoeGluKernelIdeal : Cert.MoeGluKernelIdeal.Facts) (hMoeGluReferenceIdeal : Cert.MoeGluReferenceIdeal.Facts) (hConvGatedKernel : Cert.ConvGatedKernel.Facts) (hConvGatedKernelIdeal : Cert.ConvGatedKernelIdeal.Facts) (hConvGatedReferenceIdeal : Cert.ConvGatedReferenceIdeal.Facts) (hConvXbcKernel : Cert.ConvXbcKernel.Facts) (hConvXbcKernelIdeal : Cert.ConvXbcKernelIdeal.Facts) (hConvXbcReferenceIdeal : Cert.ConvXbcReferenceIdeal.Facts) (hInProjSmallKernel : Cert.InProjSmallKernel.Facts) (hInProjSmallKernelIdeal : Cert.InProjSmallKernelIdeal.Facts) (hInProjSmallReferenceIdeal : Cert.InProjSmallReferenceIdeal.Facts) (hNormKernel : Cert.NormKernel.Facts) (hNormKernelIdeal : Cert.NormKernelIdeal.Facts) (hNormReferenceIdeal : Cert.NormReferenceIdeal.Facts) (hPrepKernel : Cert.PrepKernel.Facts) (hPrepKernelIdeal : Cert.PrepKernelIdeal.Facts) (hPrepReferenceIdeal : Cert.PrepReferenceIdeal.Facts) (hPre_tables_in_range : Cert.Pre_tables_in_range.Facts),
    quiescent_Kernel (hKernel := hKernel)
    ∧ quiescent_KernelIdeal (hKernelIdeal := hKernelIdeal)
    ∧ quiescent_ReferenceIdeal (hReferenceIdeal := hReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_InProjKernel (hInProjKernel := hInProjKernel)
    ∧ quiescent_InProjKernelIdeal (hInProjKernelIdeal := hInProjKernelIdeal)
    ∧ quiescent_InProjReferenceIdeal (hInProjReferenceIdeal := hInProjReferenceIdeal)
    ∧ quiescent_MoeGluKernel (hMoeGluKernel := hMoeGluKernel) (hPre_tables_in_range := hPre_tables_in_range)
    ∧ quiescent_MoeGluKernelIdeal (hMoeGluKernelIdeal := hMoeGluKernelIdeal) (hPre_tables_in_range := hPre_tables_in_range)
    ∧ quiescent_MoeGluReferenceIdeal (hMoeGluReferenceIdeal := hMoeGluReferenceIdeal)
    ∧ quiescent_MoeGluReferenceIdeal_pre_tables_in_range (hMoeGluReferenceIdeal := hMoeGluReferenceIdeal) (hPre_tables_in_range := hPre_tables_in_range)
    ∧ quiescent_ConvGatedKernel (hConvGatedKernel := hConvGatedKernel)
    ∧ quiescent_ConvGatedKernelIdeal (hConvGatedKernelIdeal := hConvGatedKernelIdeal)
    ∧ quiescent_ConvGatedReferenceIdeal (hConvGatedReferenceIdeal := hConvGatedReferenceIdeal)
    ∧ quiescent_ConvXbcKernel (hConvXbcKernel := hConvXbcKernel)
    ∧ quiescent_ConvXbcKernelIdeal (hConvXbcKernelIdeal := hConvXbcKernelIdeal)
    ∧ quiescent_ConvXbcReferenceIdeal (hConvXbcReferenceIdeal := hConvXbcReferenceIdeal)
    ∧ quiescent_InProjSmallKernel (hInProjSmallKernel := hInProjSmallKernel)
    ∧ quiescent_InProjSmallKernelIdeal (hInProjSmallKernelIdeal := hInProjSmallKernelIdeal)
    ∧ quiescent_InProjSmallReferenceIdeal (hInProjSmallReferenceIdeal := hInProjSmallReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ preserves_Kernel_KernelIdeal
    ∧ algebraic_KernelIdeal_ReferenceIdeal (hKernelIdeal := hKernelIdeal) (hReferenceIdeal := hReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_GluKernel_GluKernelIdeal
    ∧ algebraic_GluKernelIdeal_GluReferenceIdeal (hGluKernelIdeal := hGluKernelIdeal) (hGluReferenceIdeal := hGluReferenceIdeal)
    ∧ preserves_DownKernel_DownKernelIdeal
    ∧ algebraic_DownKernelIdeal_DownReferenceIdeal (hDownKernelIdeal := hDownKernelIdeal) (hDownReferenceIdeal := hDownReferenceIdeal)
    ∧ preserves_InProjKernel_InProjKernelIdeal
    ∧ algebraic_InProjKernelIdeal_InProjReferenceIdeal (hInProjKernelIdeal := hInProjKernelIdeal) (hInProjReferenceIdeal := hInProjReferenceIdeal)
    ∧ preserves_MoeGluKernel_MoeGluKernelIdeal
    ∧ algebraic_MoeGluKernelIdeal_MoeGluReferenceIdeal (hMoeGluKernelIdeal := hMoeGluKernelIdeal) (hMoeGluReferenceIdeal := hMoeGluReferenceIdeal) (hPre_tables_in_range := hPre_tables_in_range)
    ∧ preserves_ConvGatedKernel_ConvGatedKernelIdeal
    ∧ algebraic_ConvGatedKernelIdeal_ConvGatedReferenceIdeal (hConvGatedKernelIdeal := hConvGatedKernelIdeal) (hConvGatedReferenceIdeal := hConvGatedReferenceIdeal)
    ∧ preserves_ConvXbcKernel_ConvXbcKernelIdeal
    ∧ algebraic_ConvXbcKernelIdeal_ConvXbcReferenceIdeal (hConvXbcKernelIdeal := hConvXbcKernelIdeal) (hConvXbcReferenceIdeal := hConvXbcReferenceIdeal)
    ∧ preserves_InProjSmallKernel_InProjSmallKernelIdeal
    ∧ algebraic_InProjSmallKernelIdeal_InProjSmallReferenceIdeal (hInProjSmallKernelIdeal := hInProjSmallKernelIdeal) (hInProjSmallReferenceIdeal := hInProjSmallReferenceIdeal)
    ∧ preserves_NormKernel_NormKernelIdeal
    ∧ algebraic_NormKernelIdeal_NormReferenceIdeal (hNormKernelIdeal := hNormKernelIdeal) (hNormReferenceIdeal := hNormReferenceIdeal)
    ∧ preserves_PrepKernel_PrepKernelIdeal
    ∧ algebraic_PrepKernelIdeal_PrepReferenceIdeal (hPrepKernelIdeal := hPrepKernelIdeal) (hPrepReferenceIdeal := hPrepReferenceIdeal)
-- ==== Pre_tables_in_range.lean ====
abbrev S72 : Shape := ⟨1, ![72]⟩
abbrev S1 : Shape := ⟨1, ![1]⟩
abbrev S36864x2048 : Shape := ⟨2, ![36864, 2048]⟩
abbrev S1x8x4096x4096 : Shape := ⟨4, ![1, 8, 4096, 4096]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S72 32) (main_arg1 : IVec S1 32) (main_arg2 : IVec S36864x2048 32) (main_arg3 : FVec F S1x8x4096x4096 .f32) (main_arg4 : FVec F S1x8x4096x4096 .f32) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S8x2048x1536 : Shape := ⟨3, ![8, 2048, 1536]⟩
abbrev S8x2048x11520 : Shape := ⟨3, ![8, 2048, 11520]⟩
abbrev S8x2048x128 : Shape := ⟨3, ![8, 2048, 128]⟩
abbrev S16 : Shape := ⟨1, ![16]⟩
abbrev S1024 : Shape := ⟨1, ![1024]⟩
abbrev S_ : Shape := ⟨0, ![]⟩
abbrev S1x128 : Shape := ⟨2, ![1, 128]⟩
abbrev S1 : Shape := ⟨1, ![1]⟩
abbrev S2 : Shape := ⟨1, ![2]⟩
abbrev S16x64 : Shape := ⟨2, ![16, 64]⟩
abbrev S1x1024 : Shape := ⟨2, ![1, 1024]⟩
abbrev S8x2048x1024 : Shape := ⟨3, ![8, 2048, 1024]⟩
abbrev S1x64x1536 : Shape := ⟨3, ![1, 64, 1536]⟩
abbrev S1x64x1024 : Shape := ⟨3, ![1, 64, 1024]⟩
abbrev S1x64x128 : Shape := ⟨3, ![1, 64, 128]⟩
abbrev S16x64x128 : Shape := ⟨3, ![16, 64, 128]⟩
abbrev S64x128 : Shape := ⟨2, ![64, 128]⟩
abbrev S64x64 : Shape := ⟨2, ![64, 64]⟩
abbrev S128x128 : Shape := ⟨2, ![128, 128]⟩
abbrev S128x64 : Shape := ⟨2, ![128, 64]⟩
abbrev S1x64x64 : Shape := ⟨3, ![1, 64, 64]⟩
abbrev S64x1 : Shape := ⟨2, ![64, 1]⟩
abbrev S1x64 : Shape := ⟨2, ![1, 64]⟩
abbrev S1x1 : Shape := ⟨2, ![1, 1]⟩
abbrev S64x1024 : Shape := ⟨2, ![64, 1024]⟩
abbrev S64x512 : Shape := ⟨2, ![64, 512]⟩
abbrev S64 : Shape := ⟨1, ![64]⟩
abbrev S1x512 : Shape := ⟨2, ![1, 512]⟩
abbrev S1x64x512 : Shape := ⟨3, ![1, 64, 512]⟩

abbrev nBuf : Space → Nat
  | .hbm => 28
  | .vmem => 13
  | .smem => 0
  | _ => 0

abbrev bufTy : (tb : Table) → Fin (tcTables nBuf tb) → BufTy
  | .hbm, ⟨0, _⟩ => ⟨S8x2048x1536, .f32⟩
  | .hbm, ⟨1, _⟩ => ⟨S8x2048x11520, .bf16⟩
  | .hbm, ⟨2, _⟩ => ⟨S8x2048x128, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S_, .f32⟩
  | .hbm, ⟨8, _⟩ => ⟨S1x128, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S16x64, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S8x2048x1024, .bf16⟩
  | .local _ .vmem, ⟨0, _⟩ => ⟨S1x64x1536, .f32⟩
  | .local _ .vmem, ⟨1, _⟩ => ⟨S1x64x1536, .f32⟩
  | .local _ .vmem, ⟨2, _⟩ => ⟨S1x64x1024, .bf16⟩
  | .local _ .vmem, ⟨3, _⟩ => ⟨S1x64x1024, .bf16⟩
  | .local _ .vmem, ⟨4, _⟩ => ⟨S1x64x128, .f32⟩
  | .local _ .vmem, ⟨5, _⟩ => ⟨S1x64x128, .f32⟩
  | .local _ .vmem, ⟨6, _⟩ => ⟨S1x128, .f32⟩
  | .local _ .vmem, ⟨7, _⟩ => ⟨S1x128, .f32⟩
  | .local _ .vmem, ⟨8, _⟩ => ⟨S1x1024, .f32⟩
  | .local _ .vmem, ⟨9, _⟩ => ⟨S1x1024, .f32⟩
  | .local _ .vmem, ⟨10, _⟩ => ⟨S1x64x1024, .bf16⟩
  | .local _ .vmem, ⟨11, _⟩ => ⟨S1x64x1024, .bf16⟩
  | .local _ .vmem, ⟨12, _⟩ => ⟨S16x64x128, .f32⟩
  | _, _ => ⟨S8x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_c_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x2048x1536 : Shape := ⟨3, ![8, 2048, 1536]⟩
abbrev S8x2048x11520 : Shape := ⟨3, ![8, 2048, 11520]⟩
abbrev S8x2048x128 : Shape := ⟨3, ![8, 2048, 128]⟩
abbrev S16 : Shape := ⟨1, ![16]⟩
abbrev S1024 : Shape := ⟨1, ![1024]⟩
abbrev S8x2048x16 : Shape := ⟨3, ![8, 2048, 16]⟩
abbrev S8x2048x1024 : Shape := ⟨3, ![8, 2048, 1024]⟩
abbrev S8x2048x16x64 : Shape := ⟨4, ![8, 2048, 16, 64]⟩
abbrev S8x2048x256 : Shape := ⟨3, ![8, 2048, 256]⟩
abbrev S8x2048x2x128 : Shape := ⟨4, ![8, 2048, 2, 128]⟩
abbrev S8x2048x2x8x128 : Shape := ⟨5, ![8, 2048, 2, 8, 128]⟩
abbrev S8x2048x16x128 : Shape := ⟨4, ![8, 2048, 16, 128]⟩
abbrev S1x1x16 : Shape := ⟨3, ![1, 1, 16]⟩
abbrev S_ : Shape := ⟨0, ![]⟩
abbrev S8x32x64x16 : Shape := ⟨4, ![8, 32, 64, 16]⟩
abbrev S8x16x32x64 : Shape := ⟨4, ![8, 16, 32, 64]⟩
abbrev S8x2048x16x1 : Shape := ⟨4, ![8, 2048, 16, 1]⟩
abbrev S8x32x64x16x64 : Shape := ⟨5, ![8, 32, 64, 16, 64]⟩
abbrev S8x16x32x64x64 : Shape := ⟨5, ![8, 16, 32, 64, 64]⟩
abbrev S8x32x64x16x128 : Shape := ⟨5, ![8, 32, 64, 16, 128]⟩
abbrev S8x16x32x64x128 : Shape := ⟨5, ![8, 16, 32, 64, 128]⟩
abbrev S64x64 : Shape := ⟨2, ![64, 64]⟩
abbrev S8x16x32x64x1 : Shape := ⟨5, ![8, 16, 32, 64, 1]⟩
abbrev S8x16x32x1x64 : Shape := ⟨5, ![8, 16, 32, 1, 64]⟩
abbrev S8x16x32x1 : Shape := ⟨4, ![8, 16, 32, 1]⟩
abbrev S8x16x64x128 : Shape := ⟨4, ![8, 16, 64, 128]⟩
abbrev S32x8x16x64x128 : Shape := ⟨5, ![32, 8, 16, 64, 128]⟩
abbrev S8x16x32 : Shape := ⟨3, ![8, 16, 32]⟩
abbrev S32x8x16 : Shape := ⟨3, ![32, 8, 16]⟩
abbrev S32x8x16x64x64 : Shape := ⟨5, ![32, 8, 16, 64, 64]⟩
abbrev S1x8x16x64x128 : Shape := ⟨5, ![1, 8, 16, 64, 128]⟩
abbrev S1x8x16 : Shape := ⟨3, ![1, 8, 16]⟩
abbrev S8x16 : Shape := ⟨2, ![8, 16]⟩
abbrev S1x8x16x64x64 : Shape := ⟨5, ![1, 8, 16, 64, 64]⟩
abbrev S8x16x64x64 : Shape := ⟨4, ![8, 16, 64, 64]⟩
abbrev S8x16x1x1 : Shape := ⟨4, ![8, 16, 1, 1]⟩
abbrev S16x1 : Shape := ⟨2, ![16, 1]⟩
abbrev S1x1x16x1 : Shape := ⟨4, ![1, 1, 16, 1]⟩
abbrev S8x2048x2x512 : Shape := ⟨4, ![8, 2048, 2, 512]⟩
abbrev S2x512 : Shape := ⟨2, ![2, 512]⟩
abbrev S8x2048x2 : Shape := ⟨3, ![8, 2048, 2]⟩
abbrev S8x2048x2x1 : Shape := ⟨4, ![8, 2048, 2, 1]⟩
abbrev S1x1x2x512 : Shape := ⟨4, ![1, 1, 2, 512]⟩

abbrev nBuf : Space → Nat
  | .hbm => 196
  | .vmem => 0
  | .smem => 0
  | _ => 0

abbrev hbmTy0_0 (i : Nat) : BufTy := match i % 128 with
  | 0 => ⟨S8x2048x1536, .f32⟩
  | 1 => ⟨S8x2048x11520, .bf16⟩
  | 2 => ⟨S8x2048x128, .f32⟩
  | 3 => ⟨S16, .f32⟩
  | 4 => ⟨S16, .f32⟩
  | 5 => ⟨S16, .f32⟩
  | 6 => ⟨S1024, .f32⟩
  | 7 => ⟨S8x2048x16, .f32⟩
  | 8 => ⟨S8x2048x1024, .f32⟩
  | 9 => ⟨S8x2048x16x64, .f32⟩
  | 10 => ⟨S8x2048x256, .f32⟩
  | 11 => ⟨S8x2048x2x128, .f32⟩
  | 12 => ⟨S8x2048x256, .f32⟩
  | 13 => ⟨S8x2048x2x128, .f32⟩
  | 14 => ⟨S8x2048x2x8x128, .f32⟩
  | 15 => ⟨S8x2048x16x128, .f32⟩
  | 16 => ⟨S8x2048x2x8x128, .f32⟩
  | 17 => ⟨S8x2048x16x128, .f32⟩
  | 18 => ⟨S1x1x16, .f32⟩
  | 19 => ⟨S8x2048x16, .f32⟩
  | 20 => ⟨S8x2048x16, .f32⟩
  | 21 => ⟨S_, .f32⟩
  | 22 => ⟨S8x2048x16, .f32⟩
  | 23 => ⟨S8x2048x16, .f32⟩
  | 24 => ⟨S8x2048x16, .f32⟩
  | 25 => ⟨S8x2048x16, .f32⟩
  | 26 => ⟨S8x2048x16, .i1⟩
  | 27 => ⟨S8x2048x16, .f32⟩
  | 28 => ⟨S8x2048x16, .f32⟩
  | 29 => ⟨S8x2048x16, .f32⟩
  | 30 => ⟨S8x2048x16, .f32⟩
  | 31 => ⟨S8x2048x16, .f32⟩
  | 32 => ⟨S8x2048x16, .f32⟩
  | 33 => ⟨S8x2048x16, .f32⟩
  | 34 => ⟨S8x2048x16, .f32⟩
  | 35 => ⟨S16, .f32⟩
  | 36 => ⟨S16, .f32⟩
  | 37 => ⟨S1x1x16, .f32⟩
  | 38 => ⟨S8x2048x16, .f32⟩
  | 39 => ⟨S8x2048x16, .f32⟩
  | 40 => ⟨S8x32x64x16, .f32⟩
  | 41 => ⟨S8x16x32x64, .f32⟩
  | 42 => ⟨S_, .f32⟩
  | 43 => ⟨S_, .f32⟩
  | 44 => ⟨S8x16x32x64, .f32⟩
  | 45 => ⟨S8x2048x16x1, .f32⟩
  | 46 => ⟨S8x2048x16x64, .f32⟩
  | 47 => ⟨S8x2048x16x64, .f32⟩
  | 48 => ⟨S8x32x64x16x64, .f32⟩
  | 49 => ⟨S8x16x32x64x64, .f32⟩
  | 50 => ⟨S8x32x64x16x128, .f32⟩
  | 51 => ⟨S8x16x32x64x128, .f32⟩
  | 52 => ⟨S8x32x64x16x128, .f32⟩
  | 53 => ⟨S8x16x32x64x128, .f32⟩
  | 54 => ⟨S8x16x32x64x64, .f32⟩
  | 55 => ⟨S_, .i1⟩
  | 56 => ⟨S64x64, .i1⟩
  | 57 => ⟨S64x64, .i32⟩
  | 58 => ⟨S_, .i32⟩
  | 59 => ⟨S64x64, .i32⟩
  | 60 => ⟨S64x64, .i32⟩
  | 61 => ⟨S64x64, .i32⟩
  | 62 => ⟨S64x64, .i1⟩
  | 63 => ⟨S_, .i1⟩
  | 64 => ⟨S64x64, .i1⟩
  | 65 => ⟨S64x64, .i1⟩
  | 66 => ⟨S8x16x32x64x1, .f32⟩
  | 67 => ⟨S8x16x32x1x64, .f32⟩
  | 68 => ⟨S8x16x32x64x64, .f32⟩
  | 69 => ⟨S8x16x32x64x64, .f32⟩
  | 70 => ⟨S8x16x32x64x64, .f32⟩
  | 71 => ⟨S_, .f32⟩
  | 72 => ⟨S_, .f32⟩
  | 73 => ⟨S8x16x32x64x64, .i1⟩
  | 74 => ⟨S8x16x32x64x64, .f32⟩
  | 75 => ⟨S8x16x32x64x64, .f32⟩
  | 76 => ⟨S8x16x32x64x64, .f32⟩
  | 77 => ⟨S_, .f32⟩
  | 78 => ⟨S_, .f32⟩
  | 79 => ⟨S8x16x32x64x64, .i1⟩
  | 80 => ⟨S8x16x32x64x64, .f32⟩
  | 81 => ⟨S8x16x32x64x64, .f32⟩
  | 82 => ⟨S8x16x32x64x64, .f32⟩
  | 83 => ⟨S8x16x32x64x64, .f32⟩
  | 84 => ⟨S8x16x32x1, .f32⟩
  | 85 => ⟨S8x16x32x64, .f32⟩
  | 86 => ⟨S8x16x32x64, .f32⟩
  | 87 => ⟨S8x16x32x64, .f32⟩
  | 88 => ⟨S8x16x32x64x1, .f32⟩
  | 89 => ⟨S8x16x32x64x128, .f32⟩
  | 90 => ⟨S8x16x32x64x128, .f32⟩
  | 91 => ⟨S8x16x32x64x128, .f32⟩
  | 92 => ⟨S8x16x32x64, .f32⟩
  | 93 => ⟨S8x16x32x64x1, .f32⟩
  | 94 => ⟨S8x16x32x64x128, .f32⟩
  | 95 => ⟨S8x16x32x64x128, .f32⟩
  | 96 => ⟨S_, .f32⟩
  | 97 => ⟨S8x16x64x128, .f32⟩
  | 98 => ⟨S32x8x16x64x128, .f32⟩
  | 99 => ⟨S8x16x32x1, .f32⟩
  | 100 => ⟨S8x16x32, .f32⟩
  | 101 => ⟨S8x16x32, .f32⟩
  | 102 => ⟨S32x8x16, .f32⟩
  | 103 => ⟨S32x8x16x64x128, .f32⟩
  | 104 => ⟨S32x8x16x64x64, .f32⟩
  | 105 => ⟨S_, .f32⟩
  | 106 => ⟨S32x8x16x64x64, .f32⟩
  | 107 => ⟨S_, .i32⟩
  | 108 => ⟨S32x8x16x64x128, .f32⟩
  | 109 => ⟨S32x8x16, .f32⟩
  | 110 => ⟨S32x8x16x64x128, .f32⟩
  | 111 => ⟨S32x8x16x64x64, .f32⟩
  | 112 => ⟨S_, .i32⟩
  | 113 => ⟨S8x16x64x128, .f32⟩
  | 114 => ⟨S32x8x16x64x64, .f32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S1x8x16x64x128, .f32⟩
  | 122 => ⟨S8x16x64x128, .f32⟩
  | 123 => ⟨S_, .i32⟩
  | 124 => ⟨S_, .i32⟩
  | 125 => ⟨S1x8x16, .f32⟩
  | 126 => ⟨S8x16, .f32⟩
  | 127 => ⟨S_, .i32⟩
  | _ => ⟨S8x2048x1536, .f32⟩

abbrev hbmTy0_1 (i : Nat) : BufTy := match i % 128 with
  | 0 => ⟨S_, .i32⟩
  | 1 => ⟨S_, .i32⟩
  | 2 => ⟨S_, .i32⟩
  | 3 => ⟨S1x8x16x64x128, .f32⟩
  | 4 => ⟨S8x16x64x128, .f32⟩
  | 5 => ⟨S_, .i32⟩
  | 6 => ⟨S_, .i32⟩
  | 7 => ⟨S_, .i32⟩
  | 8 => ⟨S_, .i32⟩
  | 9 => ⟨S1x8x16x64x64, .f32⟩
  | 10 => ⟨S8x16x64x64, .f32⟩
  | 11 => ⟨S8x16x64x64, .f32⟩
  | 12 => ⟨S8x16x64x64, .f32⟩
  | 13 => ⟨S8x16x1x1, .f32⟩
  | 14 => ⟨S8x16x64x128, .f32⟩
  | 15 => ⟨S8x16x64x128, .f32⟩
  | 16 => ⟨S8x16x64x128, .f32⟩
  | 17 => ⟨S1x8x16x64x64, .f32⟩
  | 18 => ⟨S_, .i32⟩
  | 19 => ⟨S_, .i32⟩
  | 20 => ⟨S_, .i32⟩
  | 21 => ⟨S_, .i32⟩
  | 22 => ⟨S32x8x16x64x64, .f32⟩
  | 23 => ⟨S_, .i32⟩
  | 24 => ⟨S_, .i32⟩
  | 25 => ⟨S8x2048x1024, .f32⟩
  | 26 => ⟨S8x2048x16x64, .f32⟩
  | 27 => ⟨S8x2048x1024, .bf16⟩
  | 28 => ⟨S8x16x32x64x64, .f32⟩
  | 29 => ⟨S8x32x64x16x64, .f32⟩
  | 30 => ⟨S8x2048x16x64, .f32⟩
  | 31 => ⟨S16x1, .f32⟩
  | 32 => ⟨S1x1x16x1, .f32⟩
  | 33 => ⟨S8x2048x16x64, .f32⟩
  | 34 => ⟨S8x2048x16x64, .f32⟩
  | 35 => ⟨S8x2048x16x64, .f32⟩
  | 36 => ⟨S8x2048x1024, .f32⟩
  | 37 => ⟨S8x2048x1024, .f32⟩
  | 38 => ⟨S8x2048x1024, .f32⟩
  | 39 => ⟨S8x2048x1024, .f32⟩
  | 40 => ⟨S_, .f32⟩
  | 41 => ⟨S8x2048x1024, .f32⟩
  | 42 => ⟨S8x2048x1024, .f32⟩
  | 43 => ⟨S_, .f32⟩
  | 44 => ⟨S8x2048x1024, .f32⟩
  | 45 => ⟨S8x2048x1024, .f32⟩
  | 46 => ⟨S8x2048x1024, .f32⟩
  | 47 => ⟨S8x2048x1024, .f32⟩
  | 48 => ⟨S8x2048x2x512, .f32⟩
  | 49 => ⟨S2x512, .f32⟩
  | 50 => ⟨S8x2048x2x512, .f32⟩
  | 51 => ⟨S_, .f32⟩
  | 52 => ⟨S8x2048x2, .f32⟩
  | 53 => ⟨S8x2048x2x1, .f32⟩
  | 54 => ⟨S_, .f32⟩
  | 55 => ⟨S8x2048x2x1, .f32⟩
  | 56 => ⟨S8x2048x2x1, .f32⟩
  | 57 => ⟨S_, .f32⟩
  | 58 => ⟨S8x2048x2x1, .f32⟩
  | 59 => ⟨S8x2048x2x1, .f32⟩
  | 60 => ⟨S8x2048x2x1, .f32⟩
  | 61 => ⟨S8x2048x2x512, .f32⟩
  | 62 => ⟨S8x2048x2x512, .f32⟩
  | 63 => ⟨S1x1x2x512, .f32⟩
  | 64 => ⟨S8x2048x2x512, .f32⟩
  | 65 => ⟨S8x2048x2x512, .f32⟩
  | 66 => ⟨S8x2048x1024, .f32⟩
  | 67 => ⟨S8x2048x1024, .bf16⟩
  | _ => ⟨S8x2048x1536, .f32⟩

abbrev hbmTy (i : Nat) : BufTy := match i / 128 with
  | 0 => hbmTy0_0 i
  | 1 => hbmTy0_1 i
  | _ => ⟨S8x2048x1536, .f32⟩

abbrev bufTy : (tb : Table) → Fin (tcTables nBuf tb) → BufTy
  | .hbm, ⟨i, _⟩ => hbmTy i
  | _, _ => ⟨S8x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_call0_cst : Ref sig .tc := ⟨.hbm, 42, rfl⟩
abbrev main_call1_call0_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c : Ref sig .tc := ⟨.hbm, 55, rfl⟩
abbrev main_v33 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_0 : Ref sig .tc := ⟨.hbm, 63, rfl⟩
abbrev main_call2_v5 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v40 : Ref sig .tc := ⟨.hbm, 75, rfl⟩
abbrev main_v41 : Ref sig .tc := ⟨.hbm, 76, rfl⟩
abbrev main_cst_0 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_1 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_2 : Ref sig .tc := ⟨.hbm, 105, rfl⟩
abbrev main_v65 : Ref sig .tc := ⟨.hbm, 106, rfl⟩
abbrev main_c_3 : Ref sig .tc := ⟨.hbm, 107, rfl⟩
abbrev main_v66_0 : Ref sig .tc := ⟨.hbm, 108, rfl⟩
abbrev main_v66_1 : Ref sig .tc := ⟨.hbm, 109, rfl⟩
abbrev main_v66_2 : Ref sig .tc := ⟨.hbm, 110, rfl⟩
abbrev main_v66_3 : Ref sig .tc := ⟨.hbm, 111, rfl⟩
abbrev main_v66_4 : Ref sig .tc := ⟨.hbm, 112, rfl⟩
abbrev main_v66_5 : Ref sig .tc := ⟨.hbm, 113, rfl⟩
abbrev main_v66_6 : Ref sig .tc := ⟨.hbm, 114, rfl⟩
abbrev main_while0c_c_13 : Ref sig .tc := ⟨.hbm, 115, rfl⟩
abbrev main_while0c_v99 : Ref sig .tc := ⟨.hbm, 116, rfl⟩
abbrev main_while0b_call5_c : Ref sig .tc := ⟨.hbm, 117, rfl⟩
abbrev main_while0b_call5_c_0 : Ref sig .tc := ⟨.hbm, 118, rfl⟩
abbrev main_while0b_call5_c_1 : Ref sig .tc := ⟨.hbm, 119, rfl⟩
abbrev main_while0b_call5_c_2 : Ref sig .tc := ⟨.hbm, 120, rfl⟩
abbrev main_while0b_call5_v0 : Ref sig .tc := ⟨.hbm, 121, rfl⟩
abbrev main_while0b_v99 : Ref sig .tc := ⟨.hbm, 122, rfl⟩
abbrev main_while0b_call6_c : Ref sig .tc := ⟨.hbm, 123, rfl⟩
abbrev main_while0b_call6_c_0 : Ref sig .tc := ⟨.hbm, 124, rfl⟩
abbrev main_while0b_call6_v0 : Ref sig .tc := ⟨.hbm, 125, rfl⟩
abbrev main_while0b_v100 : Ref sig .tc := ⟨.hbm, 126, rfl⟩
abbrev main_while0b_call7_c : Ref sig .tc := ⟨.hbm, 127, rfl⟩
abbrev main_while0b_call7_c_0 : Ref sig .tc := ⟨.hbm, 128, rfl⟩
abbrev main_while0b_call7_c_1 : Ref sig .tc := ⟨.hbm, 129, rfl⟩
abbrev main_while0b_call7_c_2 : Ref sig .tc := ⟨.hbm, 130, rfl⟩
abbrev main_while0b_call7_v0 : Ref sig .tc := ⟨.hbm, 131, rfl⟩
abbrev main_while0b_v101 : Ref sig .tc := ⟨.hbm, 132, rfl⟩
abbrev main_while0b_call8_c : Ref sig .tc := ⟨.hbm, 133, rfl⟩
abbrev main_while0b_call8_c_0 : Ref sig .tc := ⟨.hbm, 134, rfl⟩
abbrev main_while0b_call8_c_1 : Ref sig .tc := ⟨.hbm, 135, rfl⟩
abbrev main_while0b_call8_c_2 : Ref sig .tc := ⟨.hbm, 136, rfl⟩
abbrev main_while0b_call8_v0 : Ref sig .tc := ⟨.hbm, 137, rfl⟩
abbrev main_while0b_v102 : Ref sig .tc := ⟨.hbm, 138, rfl⟩
abbrev main_while0b_v103 : Ref sig .tc := ⟨.hbm, 139, rfl⟩
abbrev main_while0b_v104 : Ref sig .tc := ⟨.hbm, 140, rfl⟩
abbrev main_while0b_v105 : Ref sig .tc := ⟨.hbm, 141, rfl⟩
abbrev main_while0b_v106 : Ref sig .tc := ⟨.hbm, 142, rfl⟩
abbrev main_while0b_v107 : Ref sig .tc := ⟨.hbm, 143, rfl⟩
abbrev main_while0b_v108 : Ref sig .tc := ⟨.hbm, 144, rfl⟩
abbrev main_while0b_call9_v0 : Ref sig .tc := ⟨.hbm, 145, rfl⟩
abbrev main_while0b_call9_c : Ref sig .tc := ⟨.hbm, 146, rfl⟩
abbrev main_while0b_call9_c_0 : Ref sig .tc := ⟨.hbm, 147, rfl⟩
abbrev main_while0b_call9_c_1 : Ref sig .tc := ⟨.hbm, 148, rfl⟩
abbrev main_while0b_call9_c_2 : Ref sig .tc := ⟨.hbm, 149, rfl⟩
abbrev main_while0b_v109 : Ref sig .tc := ⟨.hbm, 150, rfl⟩
abbrev main_while0b_c_13 : Ref sig .tc := ⟨.hbm, 151, rfl⟩
abbrev main_while0b_v110 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_call10_v0 : Ref sig .tc := ⟨.hbm, 166, rfl⟩
abbrev main_call10_v1 : Ref sig .tc := ⟨.hbm, 167, rfl⟩
abbrev main_call10_cst : Ref sig .tc := ⟨.hbm, 168, rfl⟩
abbrev main_call10_v2 : Ref sig .tc := ⟨.hbm, 169, rfl⟩
abbrev main_call10_v3 : Ref sig .tc := ⟨.hbm, 170, rfl⟩
abbrev main_call10_cst_0 : Ref sig .tc := ⟨.hbm, 171, rfl⟩
abbrev main_call10_v4 : Ref sig .tc := ⟨.hbm, 172, rfl⟩
abbrev main_call10_v5 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_cst_4 : Ref sig .tc := ⟨.hbm, 179, rfl⟩
abbrev main_v85 : Ref sig .tc := ⟨.hbm, 180, rfl⟩
abbrev main_v86 : Ref sig .tc := ⟨.hbm, 181, rfl⟩
abbrev main_cst_5 : Ref sig .tc := ⟨.hbm, 182, rfl⟩
abbrev main_v87 : Ref sig .tc := ⟨.hbm, 183, rfl⟩
abbrev main_v88 : Ref sig .tc := ⟨.hbm, 184, rfl⟩
abbrev main_cst_6 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩

abbrev nD : Nat := 1
abbrev τ : Topo := Topo.v7x

variable {F : FTy → Type} [FloatOps F]

abbrev main_while0_count : Scf.Loop 32 := ⟨0#32, 32#32, 1#32⟩
-- ==== MergeKernel.lean ====
abbrev S16384x4096 : Shape := ⟨2, ![16384, 4096]⟩
abbrev S16384x1024 : Shape := ⟨2, ![16384, 1024]⟩
abbrev S2x4096x28008 : Shape := ⟨3, ![2, 4096, 28008]⟩
abbrev S2x4x1024x4096 : Shape := ⟨4, ![2, 4, 1024, 4096]⟩
abbrev S1x4096x28008 : Shape := ⟨3, ![1, 4096, 28008]⟩
abbrev S4096x28008 : Shape := ⟨2, ![4096, 28008]⟩
abbrev S4096x16384 : Shape := ⟨2, ![4096, 16384]⟩
abbrev S512x4096 : Shape := ⟨2, ![512, 4096]⟩
abbrev S512x1024 : Shape := ⟨2, ![512, 1024]⟩
abbrev S4096x256 : Shape := ⟨2, ![4096, 256]⟩
abbrev S1x1x1024x256 : Shape := ⟨4, ![1, 1, 1024, 256]⟩
abbrev S512x256 : Shape := ⟨2, ![512, 256]⟩
abbrev S1024x256 : Shape := ⟨2, ![1024, 256]⟩

abbrev nBuf : Space → Nat
  | .hbm => 12
  | .vmem => 28
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S2x4096x28008, .f32⟩
  | .hbm, ⟨6, _⟩ => ⟨S2x4x1024x4096, .f32⟩
  | .hbm, ⟨7, _⟩ => ⟨S1x4096x28008, .f32⟩
  | .hbm, ⟨8, _⟩ => ⟨S4096x28008, .f32⟩
  | .hbm, ⟨9, _⟩ => ⟨S4096x16384, .f32⟩
  | .hbm, ⟨10, _⟩ => ⟨S4096x16384, .bf16⟩
  | .hbm, ⟨11, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S1x1x1024x256, .f32⟩
  | .local _ .vmem, ⟨19, _⟩ => ⟨S1x1x1024x256, .f32⟩
  | .local _ .vmem, ⟨20, _⟩ => ⟨S1x1x1024x256, .f32⟩
  | .local _ .vmem, ⟨21, _⟩ => ⟨S1x1x1024x256, .f32⟩
  | .local _ .vmem, ⟨22, _⟩ => ⟨S1x1x1024x256, .f32⟩
  | .local _ .vmem, ⟨23, _⟩ => ⟨S1x1x1024x256, .f32⟩
  | .local _ .vmem, ⟨24, _⟩ => ⟨S1x1x1024x256, .f32⟩
  | .local _ .vmem, ⟨25, _⟩ => ⟨S1x1x1024x256, .f32⟩
  | .local _ .vmem, ⟨26, _⟩ => ⟨S512x256, .bf16⟩
  | .local _ .vmem, ⟨27, _⟩ => ⟨S512x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeReferenceIdeal.lean ====
abbrev S16384x4096 : Shape := ⟨2, ![16384, 4096]⟩
abbrev S16384x1024 : Shape := ⟨2, ![16384, 1024]⟩
abbrev S2x4096x28008 : Shape := ⟨3, ![2, 4096, 28008]⟩
abbrev S2x4x1024x4096 : Shape := ⟨4, ![2, 4, 1024, 4096]⟩
abbrev S1x4096x4096 : Shape := ⟨3, ![1, 4096, 4096]⟩
abbrev S4096x4096 : Shape := ⟨2, ![4096, 4096]⟩
abbrev S_ : Shape := ⟨0, ![]⟩
abbrev S1x1x1024x4096 : Shape := ⟨4, ![1, 1, 1024, 4096]⟩
abbrev S1024x4096 : Shape := ⟨2, ![1024, 4096]⟩

abbrev nBuf : Space → Nat
  | .hbm => 79
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S2x4096x28008, .f32⟩
  | .hbm, ⟨6, _⟩ => ⟨S2x4x1024x4096, .f32⟩
  | .hbm, ⟨7, _⟩ => ⟨S16384x4096, .f32⟩
  | .hbm, ⟨8, _⟩ => ⟨S1x4096x4096, .f32⟩
  | .hbm, ⟨9, _⟩ => ⟨S4096x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x1024, .f32⟩
  | .hbm, ⟨20, _⟩ => ⟨S1x1x1024x4096, .f32⟩
  | .hbm, ⟨21, _⟩ => ⟨S1024x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S1x4096x4096, .f32⟩
  | .hbm, ⟨26, _⟩ => ⟨S4096x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x1024, .f32⟩
  | .hbm, ⟨37, _⟩ => ⟨S1x1x1024x4096, .f32⟩
  | .hbm, ⟨38, _⟩ => ⟨S1024x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S1x4096x4096, .f32⟩
  | .hbm, ⟨44, _⟩ => ⟨S4096x4096, .f32⟩
  | .hbm, ⟨45, _⟩ => ⟨S16384x4096, .f32⟩
  | .hbm, ⟨46, _⟩ => ⟨S16384x4096, .f32⟩
  | .hbm, ⟨47, _⟩ => ⟨S16384x4096, .f32⟩
  | .hbm, ⟨48, _⟩ => ⟨S_, .f32⟩
  | .hbm, ⟨49, _⟩ => ⟨S16384x4096, .f32⟩
  | .hbm, ⟨50, _⟩ => ⟨S16384x4096, .f32⟩
  | .hbm, ⟨51, _⟩ => ⟨S_, .f32⟩
  | .hbm, ⟨52, _⟩ => ⟨S16384x4096, .f32⟩
  | .hbm, ⟨53, _⟩ => ⟨S16384x4096, .f32⟩
  | .hbm, ⟨54, _⟩ => ⟨S16384x1024, .f32⟩
  | .hbm, ⟨55, _⟩ => ⟨S1x1x1024x4096, .f32⟩
  | .hbm, ⟨56, _⟩ => ⟨S1024x4096, .f32⟩
  | .hbm, ⟨57, _⟩ => ⟨S16384x4096, .f32⟩
  | .hbm, ⟨58, _⟩ => ⟨S16384x4096, .f32⟩
  | .hbm, ⟨59, _⟩ => ⟨S16384x4096, .f32⟩
  | .hbm, ⟨60, _⟩ => ⟨S16384x4096, .f32⟩
  | .hbm, ⟨61, _⟩ => ⟨S1x4096x4096, .f32⟩
  | .hbm, ⟨62, _⟩ => ⟨S4096x4096, .f32⟩
  | .hbm, ⟨63, _⟩ => ⟨S16384x4096, .f32⟩
  | .hbm, ⟨64, _⟩ => ⟨S16384x4096, .f32⟩
  | .hbm, ⟨65, _⟩ => ⟨S16384x4096, .f32⟩
  | .hbm, ⟨66, _⟩ => ⟨S_, .f32⟩
  | .hbm, ⟨67, _⟩ => ⟨S16384x4096, .f32⟩
  | .hbm, ⟨68, _⟩ => ⟨S16384x4096, .f32⟩
  | .hbm, ⟨69, _⟩ => ⟨S_, .f32⟩
  | .hbm, ⟨70, _⟩ => ⟨S16384x4096, .f32⟩
  | .hbm, ⟨71, _⟩ => ⟨S16384x4096, .f32⟩
  | .hbm, ⟨72, _⟩ => ⟨S16384x1024, .f32⟩
  | .hbm, ⟨73, _⟩ => ⟨S1x1x1024x4096, .f32⟩
  | .hbm, ⟨74, _⟩ => ⟨S1024x4096, .f32⟩
  | .hbm, ⟨75, _⟩ => ⟨S16384x4096, .f32⟩
  | .hbm, ⟨76, _⟩ => ⟨S16384x4096, .f32⟩
  | .hbm, ⟨77, _⟩ => ⟨S16384x4096, .f32⟩
  | .hbm, ⟨78, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== GluKernel.lean ====
abbrev S16384x4096 : Shape := ⟨2, ![16384, 4096]⟩
abbrev S1x4096x11008 : Shape := ⟨3, ![1, 4096, 11008]⟩
abbrev S4096x11008 : Shape := ⟨2, ![4096, 11008]⟩
abbrev S16384x11008 : Shape := ⟨2, ![16384, 11008]⟩
abbrev S2048x4096 : Shape := ⟨2, ![2048, 4096]⟩
abbrev S4096x256 : Shape := ⟨2, ![4096, 256]⟩
abbrev S2048x256 : Shape := ⟨2, ![2048, 256]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S1x4096x11008, .f32⟩
  | .hbm, ⟨3, _⟩ => ⟨S4096x11008, .f32⟩
  | .hbm, ⟨4, _⟩ => ⟨S4096x11008, .f32⟩
  | .hbm, ⟨5, _⟩ => ⟨S16384x11008, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S2048x256, .bf16⟩
  | .local _ .vmem, ⟨7, _⟩ => ⟨S2048x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluReferenceIdeal.lean ====
abbrev S16384x4096 : Shape := ⟨2, ![16384, 4096]⟩
abbrev S1x4096x11008 : Shape := ⟨3, ![1, 4096, 11008]⟩
abbrev S4096x11008 : Shape := ⟨2, ![4096, 11008]⟩
abbrev S16384x11008 : Shape := ⟨2, ![16384, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S1x4096x11008, .f32⟩
  | .hbm, ⟨3, _⟩ => ⟨S16384x4096, .f32⟩
  | .hbm, ⟨4, _⟩ => ⟨S4096x11008, .f32⟩
  | .hbm, ⟨5, _⟩ => ⟨S16384x11008, .f32⟩
  | .hbm, ⟨6, _⟩ => ⟨S16384x11008, .f32⟩
  | .hbm, ⟨7, _⟩ => ⟨S16384x11008, .f32⟩
  | .hbm, ⟨8, _⟩ => ⟨S_, .f32⟩
  | .hbm, ⟨9, _⟩ => ⟨S16384x11008, .f32⟩
  | .hbm, ⟨10, _⟩ => ⟨S16384x11008, .f32⟩
  | .hbm, ⟨11, _⟩ => ⟨S_, .f32⟩
  | .hbm, ⟨12, _⟩ => ⟨S16384x11008, .f32⟩
  | .hbm, ⟨13, _⟩ => ⟨S16384x11008, .f32⟩
  | .hbm, ⟨14, _⟩ => ⟨S16384x11008, .f32⟩
  | .hbm, ⟨15, _⟩ => ⟨S4096x11008, .f32⟩
  | .hbm, ⟨16, _⟩ => ⟨S16384x11008, .f32⟩
  | .hbm, ⟨17, _⟩ => ⟨S16384x11008, .f32⟩
  | .hbm, ⟨18, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== DownKernel.lean ====
abbrev S16384x11008 : Shape := ⟨2, ![16384, 11008]⟩
abbrev S1x11008x4096 : Shape := ⟨3, ![1, 11008, 4096]⟩
abbrev S16384x4096 : Shape := ⟨2, ![16384, 4096]⟩
abbrev S11008x4096 : Shape := ⟨2, ![11008, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .f32⟩
  | .hbm, ⟨2, _⟩ => ⟨S16384x4096, .f32⟩
  | .hbm, ⟨3, _⟩ => ⟨S11008x4096, .f32⟩
  | .hbm, ⟨4, _⟩ => ⟨S11008x4096, .bf16⟩
  | .hbm, ⟨5, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S16384x11008 : Shape := ⟨2, ![16384, 11008]⟩
abbrev S1x11008x4096 : Shape := ⟨3, ![1, 11008, 4096]⟩
abbrev S16384x4096 : Shape := ⟨2, ![16384, 4096]⟩
abbrev S11008x4096 : Shape := ⟨2, ![11008, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .f32⟩
  | .hbm, ⟨2, _⟩ => ⟨S16384x4096, .f32⟩
  | .hbm, ⟨3, _⟩ => ⟨S16384x11008, .f32⟩
  | .hbm, ⟨4, _⟩ => ⟨S11008x4096, .f32⟩
  | .hbm, ⟨5, _⟩ => ⟨S16384x4096, .f32⟩
  | .hbm, ⟨6, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProjKernel.lean ====
abbrev S16384x4096 : Shape := ⟨2, ![16384, 4096]⟩
abbrev S2x4096x28008 : Shape := ⟨3, ![2, 4096, 28008]⟩
abbrev S1x4096x28008 : Shape := ⟨3, ![1, 4096, 28008]⟩
abbrev S4096x28008 : Shape := ⟨2, ![4096, 28008]⟩
abbrev S4096x3072 : Shape := ⟨2, ![4096, 3072]⟩
abbrev S4096x1024 : Shape := ⟨2, ![4096, 1024]⟩
abbrev S4096x1536 : Shape := ⟨2, ![4096, 1536]⟩
abbrev S4096x512 : Shape := ⟨2, ![4096, 512]⟩
abbrev S4096x256 : Shape := ⟨2, ![4096, 256]⟩
abbrev S4096x11520 : Shape := ⟨2, ![4096, 11520]⟩
abbrev S16384x11520 : Shape := ⟨2, ![16384, 11520]⟩
abbrev S1024x4096 : Shape := ⟨2, ![1024, 4096]⟩
abbrev S4096x768 : Shape := ⟨2, ![4096, 768]⟩
abbrev S1024x768 : Shape := ⟨2, ![1024, 768]⟩

abbrev nBuf : Space → Nat
  | .hbm => 15
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x28008, .f32⟩
  | .hbm, ⟨2, _⟩ => ⟨S1x4096x28008, .f32⟩
  | .hbm, ⟨3, _⟩ => ⟨S4096x28008, .f32⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S4096x3072, .f32⟩
  | .hbm, ⟨8, _⟩ => ⟨S4096x1024, .f32⟩
  | .hbm, ⟨9, _⟩ => ⟨S4096x1536, .f32⟩
  | .hbm, ⟨10, _⟩ => ⟨S4096x512, .f32⟩
  | .hbm, ⟨11, _⟩ => ⟨S4096x256, .f32⟩
  | .hbm, ⟨12, _⟩ => ⟨S4096x11520, .f32⟩
  | .hbm, ⟨13, _⟩ => ⟨S4096x11520, .bf16⟩
  | .hbm, ⟨14, _⟩ => ⟨S16384x11520, .bf16⟩
  | .local _ .vmem, ⟨0, _⟩ => ⟨S1024x4096, .bf16⟩
  | .local _ .vmem, ⟨1, _⟩ => ⟨S1024x4096, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .bf16⟩
  | .local _ .vmem, ⟨5, _⟩ => ⟨S1024x768, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 15, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjReferenceIdeal.lean ====
abbrev S16384x4096 : Shape := ⟨2, ![16384, 4096]⟩
abbrev S2x4096x28008 : Shape := ⟨3, ![2, 4096, 28008]⟩
abbrev S1x4096x28008 : Shape := ⟨3, ![1, 4096, 28008]⟩
abbrev S4096x28008 : Shape := ⟨2, ![4096, 28008]⟩
abbrev S4096x11624 : Shape := ⟨2, ![4096, 11624]⟩
abbrev S16384x11624 : Shape := ⟨2, ![16384, 11624]⟩
abbrev S16384x1024 : Shape := ⟨2, ![16384, 1024]⟩
abbrev S16384x8 : Shape := ⟨2, ![16384, 8]⟩
abbrev S16384x256 : Shape := ⟨2, ![16384, 256]⟩
abbrev S16384x512 : Shape := ⟨2, ![16384, 512]⟩
abbrev S16384x64 : Shape := ⟨2, ![16384, 64]⟩
abbrev S16384x1536 : Shape := ⟨2, ![16384, 1536]⟩
abbrev S16384x16 : Shape := ⟨2, ![16384, 16]⟩
abbrev S16384x11520 : Shape := ⟨2, ![16384, 11520]⟩

abbrev nBuf : Space → Nat
  | .hbm => 26
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x28008, .f32⟩
  | .hbm, ⟨2, _⟩ => ⟨S16384x4096, .f32⟩
  | .hbm, ⟨3, _⟩ => ⟨S1x4096x28008, .f32⟩
  | .hbm, ⟨4, _⟩ => ⟨S4096x28008, .f32⟩
  | .hbm, ⟨5, _⟩ => ⟨S4096x11624, .f32⟩
  | .hbm, ⟨6, _⟩ => ⟨S16384x11624, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x8, .f32⟩
  | .hbm, ⟨12, _⟩ => ⟨S16384x8, .f32⟩
  | .hbm, ⟨13, _⟩ => ⟨S16384x1024, .f32⟩
  | .hbm, ⟨14, _⟩ => ⟨S16384x256, .f32⟩
  | .hbm, ⟨15, _⟩ => ⟨S16384x512, .f32⟩
  | .hbm, ⟨16, _⟩ => ⟨S16384x64, .f32⟩
  | .hbm, ⟨17, _⟩ => ⟨S16384x8, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1536, .f32⟩
  | .hbm, ⟨23, _⟩ => ⟨S16384x16, .f32⟩
  | .hbm, ⟨24, _⟩ => ⟨S16384x11520, .f32⟩
  | .hbm, ⟨25, _⟩ => ⟨S16384x11520, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩

abbrev nD : Nat := 1
abbrev τ : Topo := Topo.v7x

variable {F : FTy → Type} [FloatOps F]
-- ==== MoeGluKernel.lean ====
abbrev S72 : Shape := ⟨1, ![72]⟩
abbrev S1 : Shape := ⟨1, ![1]⟩
abbrev S36864x2048 : Shape := ⟨2, ![36864, 2048]⟩
abbrev S1x8x4096x4096 : Shape := ⟨4, ![1, 8, 4096, 4096]⟩
abbrev S36864x4096 : Shape := ⟨2, ![36864, 4096]⟩
abbrev S512x2048 : Shape := ⟨2, ![512, 2048]⟩
abbrev S1x1x4096x512 : Shape := ⟨4, ![1, 1, 4096, 512]⟩
abbrev S512x512 : Shape := ⟨2, ![512, 512]⟩
abbrev S1x1x2048x512 : Shape := ⟨4, ![1, 1, 2048, 512]⟩
abbrev S2048x512 : Shape := ⟨2, ![2048, 512]⟩

abbrev nBuf : Space → Nat
  | .hbm => 4
  | .vmem => 8
  | .smem => 2
  | _ => 0

abbrev bufTy : (tb : Table) → Fin (tcTables nBuf tb) → BufTy
  | .hbm, ⟨0, _⟩ => ⟨S36864x2048, .i32⟩
  | .hbm, ⟨1, _⟩ => ⟨S1x8x4096x4096, .f32⟩
  | .hbm, ⟨2, _⟩ => ⟨S1x8x4096x4096, .f32⟩
  | .hbm, ⟨3, _⟩ => ⟨S36864x4096, .bf16⟩
  | .local _ .vmem, ⟨0, _⟩ => ⟨S512x2048, .i32⟩
  | .local _ .vmem, ⟨1, _⟩ => ⟨S512x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S512x512, .bf16⟩
  | .local _ .vmem, ⟨7, _⟩ => ⟨S512x512, .bf16⟩
  | .local _ .smem, ⟨0, _⟩ => ⟨S72, .i32⟩
  | .local _ .smem, ⟨1, _⟩ => ⟨S1, .i32⟩
  | _, _ => ⟨S36864x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 72], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg1 : BitVec 32 := BitVec.ofNat 32 (i 1).val
  let v1 : BitVec 1 := Scalar.cmpi .slt arg1 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeGluReferenceIdeal.lean ====
abbrev S72 : Shape := ⟨1, ![72]⟩
abbrev S1 : Shape := ⟨1, ![1]⟩
abbrev S36864x2048 : Shape := ⟨2, ![36864, 2048]⟩
abbrev S1x8x4096x4096 : Shape := ⟨4, ![1, 8, 4096, 4096]⟩
abbrev S8x4096x4096 : Shape := ⟨3, ![8, 4096, 4096]⟩
abbrev S_ : Shape := ⟨0, ![]⟩
abbrev S36864x4096 : Shape := ⟨2, ![36864, 4096]⟩
abbrev S72x512 : Shape := ⟨2, ![72, 512]⟩
abbrev S36864 : Shape := ⟨1, ![36864]⟩
abbrev S36864x1 : Shape := ⟨2, ![36864, 1]⟩
abbrev S1x4096x4096 : Shape := ⟨3, ![1, 4096, 4096]⟩
abbrev S4096x4096 : Shape := ⟨2, ![4096, 4096]⟩

abbrev nBuf : Space → Nat
  | .hbm => 198
  | .vmem => 0
  | .smem => 0
  | _ => 0

abbrev hbmTy0_0 (i : Nat) : BufTy := match i % 128 with
  | 0 => ⟨S72, .i32⟩
  | 1 => ⟨S1, .i32⟩
  | 2 => ⟨S36864x2048, .i32⟩
  | 3 => ⟨S1x8x4096x4096, .f32⟩
  | 4 => ⟨S1x8x4096x4096, .f32⟩
  | 5 => ⟨S8x4096x4096, .f32⟩
  | 6 => ⟨S8x4096x4096, .f32⟩
  | 7 => ⟨S_, .i32⟩
  | 8 => ⟨S36864x2048, .i32⟩
  | 9 => ⟨S36864x2048, .i32⟩
  | 10 => ⟨S36864x2048, .f32⟩
  | 11 => ⟨S_, .i32⟩
  | 12 => ⟨S36864x2048, .i32⟩
  | 13 => ⟨S36864x2048, .i32⟩
  | 14 => ⟨S36864x2048, .f32⟩
  | 15 => ⟨S36864x4096, .f32⟩
  | 16 => ⟨S72, .i32⟩
  | 17 => ⟨S_, .i32⟩
  | 18 => ⟨S72, .i32⟩
  | 19 => ⟨S72, .i1⟩
  | 20 => ⟨S_, .i32⟩
  | 21 => ⟨S_, .i32⟩
  | 22 => ⟨S72, .i32⟩
  | 23 => ⟨S72, .i32⟩
  | 24 => ⟨S72x512, .i32⟩
  | 25 => ⟨S36864, .i32⟩
  | 26 => ⟨S36864x1, .i32⟩
  | 27 => ⟨S_, .f32⟩
  | 28 => ⟨S36864x4096, .f32⟩
  | 29 => ⟨S_, .i32⟩
  | 30 => ⟨S36864x1, .i32⟩
  | 31 => ⟨S36864x1, .i1⟩
  | 32 => ⟨S1x4096x4096, .f32⟩
  | 33 => ⟨S4096x4096, .f32⟩
  | 34 => ⟨S36864x4096, .f32⟩
  | 35 => ⟨S36864x4096, .f32⟩
  | 36 => ⟨S36864x4096, .f32⟩
  | 37 => ⟨S_, .f32⟩
  | 38 => ⟨S36864x4096, .f32⟩
  | 39 => ⟨S36864x4096, .f32⟩
  | 40 => ⟨S_, .f32⟩
  | 41 => ⟨S36864x4096, .f32⟩
  | 42 => ⟨S36864x4096, .f32⟩
  | 43 => ⟨S36864x4096, .f32⟩
  | 44 => ⟨S1x4096x4096, .f32⟩
  | 45 => ⟨S4096x4096, .f32⟩
  | 46 => ⟨S36864x4096, .f32⟩
  | 47 => ⟨S36864x4096, .f32⟩
  | 48 => ⟨S36864x4096, .i1⟩
  | 49 => ⟨S36864x4096, .f32⟩
  | 50 => ⟨S_, .i32⟩
  | 51 => ⟨S36864x1, .i32⟩
  | 52 => ⟨S36864x1, .i1⟩
  | 53 => ⟨S1x4096x4096, .f32⟩
  | 54 => ⟨S4096x4096, .f32⟩
  | 55 => ⟨S36864x4096, .f32⟩
  | 56 => ⟨S36864x4096, .f32⟩
  | 57 => ⟨S36864x4096, .f32⟩
  | 58 => ⟨S_, .f32⟩
  | 59 => ⟨S36864x4096, .f32⟩
  | 60 => ⟨S36864x4096, .f32⟩
  | 61 => ⟨S_, .f32⟩
  | 62 => ⟨S36864x4096, .f32⟩
  | 63 => ⟨S36864x4096, .f32⟩
  | 64 => ⟨S36864x4096, .f32⟩
  | 65 => ⟨S1x4096x4096, .f32⟩
  | 66 => ⟨S4096x4096, .f32⟩
  | 67 => ⟨S36864x4096, .f32⟩
  | 68 => ⟨S36864x4096, .f32⟩
  | 69 => ⟨S36864x4096, .i1⟩
  | 70 => ⟨S36864x4096, .f32⟩
  | 71 => ⟨S_, .i32⟩
  | 72 => ⟨S36864x1, .i32⟩
  | 73 => ⟨S36864x1, .i1⟩
  | 74 => ⟨S1x4096x4096, .f32⟩
  | 75 => ⟨S4096x4096, .f32⟩
  | 76 => ⟨S36864x4096, .f32⟩
  | 77 => ⟨S36864x4096, .f32⟩
  | 78 => ⟨S36864x4096, .f32⟩
  | 79 => ⟨S_, .f32⟩
  | 80 => ⟨S36864x4096, .f32⟩
  | 81 => ⟨S36864x4096, .f32⟩
  | 82 => ⟨S_, .f32⟩
  | 83 => ⟨S36864x4096, .f32⟩
  | 84 => ⟨S36864x4096, .f32⟩
  | 85 => ⟨S36864x4096, .f32⟩
  | 86 => ⟨S1x4096x4096, .f32⟩
  | 87 => ⟨S4096x4096, .f32⟩
  | 88 => ⟨S36864x4096, .f32⟩
  | 89 => ⟨S36864x4096, .f32⟩
  | 90 => ⟨S36864x4096, .i1⟩
  | 91 => ⟨S36864x4096, .f32⟩
  | 92 => ⟨S_, .i32⟩
  | 93 => ⟨S36864x1, .i32⟩
  | 94 => ⟨S36864x1, .i1⟩
  | 95 => ⟨S1x4096x4096, .f32⟩
  | 96 => ⟨S4096x4096, .f32⟩
  | 97 => ⟨S36864x4096, .f32⟩
  | 98 => ⟨S36864x4096, .f32⟩
  | 99 => ⟨S36864x4096, .f32⟩
  | 100 => ⟨S_, .f32⟩
  | 101 => ⟨S36864x4096, .f32⟩
  | 102 => ⟨S36864x4096, .f32⟩
  | 103 => ⟨S_, .f32⟩
  | 104 => ⟨S36864x4096, .f32⟩
  | 105 => ⟨S36864x4096, .f32⟩
  | 106 => ⟨S36864x4096, .f32⟩
  | 107 => ⟨S1x4096x4096, .f32⟩
  | 108 => ⟨S4096x4096, .f32⟩
  | 109 => ⟨S36864x4096, .f32⟩
  | 110 => ⟨S36864x4096, .f32⟩
  | 111 => ⟨S36864x4096, .i1⟩
  | 112 => ⟨S36864x4096, .f32⟩
  | 113 => ⟨S_, .i32⟩
  | 114 => ⟨S36864x1, .i32⟩
  | 115 => ⟨S36864x1, .i1⟩
  | 116 => ⟨S1x4096x4096, .f32⟩
  | 117 => ⟨S4096x4096, .f32⟩
  | 118 => ⟨S36864x4096, .f32⟩
  | 119 => ⟨S36864x4096, .f32⟩
  | 120 => ⟨S36864x4096, .f32⟩
  | 121 => ⟨S_, .f32⟩
  | 122 => ⟨S36864x4096, .f32⟩
  | 123 => ⟨S36864x4096, .f32⟩
  | 124 => ⟨S_, .f32⟩
  | 125 => ⟨S36864x4096, .f32⟩
  | 126 => ⟨S36864x4096, .f32⟩
  | 127 => ⟨S36864x4096, .f32⟩
  | _ => ⟨S72, .i32⟩

abbrev hbmTy0_1 (i : Nat) : BufTy := match i % 128 with
  | 0 => ⟨S1x4096x4096, .f32⟩
  | 1 => ⟨S4096x4096, .f32⟩
  | 2 => ⟨S36864x4096, .f32⟩
  | 3 => ⟨S36864x4096, .f32⟩
  | 4 => ⟨S36864x4096, .i1⟩
  | 5 => ⟨S36864x4096, .f32⟩
  | 6 => ⟨S_, .i32⟩
  | 7 => ⟨S36864x1, .i32⟩
  | 8 => ⟨S36864x1, .i1⟩
  | 9 => ⟨S1x4096x4096, .f32⟩
  | 10 => ⟨S4096x4096, .f32⟩
  | 11 => ⟨S36864x4096, .f32⟩
  | 12 => ⟨S36864x4096, .f32⟩
  | 13 => ⟨S36864x4096, .f32⟩
  | 14 => ⟨S_, .f32⟩
  | 15 => ⟨S36864x4096, .f32⟩
  | 16 => ⟨S36864x4096, .f32⟩
  | 17 => ⟨S_, .f32⟩
  | 18 => ⟨S36864x4096, .f32⟩
  | 19 => ⟨S36864x4096, .f32⟩
  | 20 => ⟨S36864x4096, .f32⟩
  | 21 => ⟨S1x4096x4096, .f32⟩
  | 22 => ⟨S4096x4096, .f32⟩
  | 23 => ⟨S36864x4096, .f32⟩
  | 24 => ⟨S36864x4096, .f32⟩
  | 25 => ⟨S36864x4096, .i1⟩
  | 26 => ⟨S36864x4096, .f32⟩
  | 27 => ⟨S_, .i32⟩
  | 28 => ⟨S36864x1, .i32⟩
  | 29 => ⟨S36864x1, .i1⟩
  | 30 => ⟨S1x4096x4096, .f32⟩
  | 31 => ⟨S4096x4096, .f32⟩
  | 32 => ⟨S36864x4096, .f32⟩
  | 33 => ⟨S36864x4096, .f32⟩
  | 34 => ⟨S36864x4096, .f32⟩
  | 35 => ⟨S_, .f32⟩
  | 36 => ⟨S36864x4096, .f32⟩
  | 37 => ⟨S36864x4096, .f32⟩
  | 38 => ⟨S_, .f32⟩
  | 39 => ⟨S36864x4096, .f32⟩
  | 40 => ⟨S36864x4096, .f32⟩
  | 41 => ⟨S36864x4096, .f32⟩
  | 42 => ⟨S1x4096x4096, .f32⟩
  | 43 => ⟨S4096x4096, .f32⟩
  | 44 => ⟨S36864x4096, .f32⟩
  | 45 => ⟨S36864x4096, .f32⟩
  | 46 => ⟨S36864x4096, .i1⟩
  | 47 => ⟨S36864x4096, .f32⟩
  | 48 => ⟨S_, .i32⟩
  | 49 => ⟨S36864x1, .i32⟩
  | 50 => ⟨S36864x1, .i1⟩
  | 51 => ⟨S1x4096x4096, .f32⟩
  | 52 => ⟨S4096x4096, .f32⟩
  | 53 => ⟨S36864x4096, .f32⟩
  | 54 => ⟨S36864x4096, .f32⟩
  | 55 => ⟨S36864x4096, .f32⟩
  | 56 => ⟨S_, .f32⟩
  | 57 => ⟨S36864x4096, .f32⟩
  | 58 => ⟨S36864x4096, .f32⟩
  | 59 => ⟨S_, .f32⟩
  | 60 => ⟨S36864x4096, .f32⟩
  | 61 => ⟨S36864x4096, .f32⟩
  | 62 => ⟨S36864x4096, .f32⟩
  | 63 => ⟨S1x4096x4096, .f32⟩
  | 64 => ⟨S4096x4096, .f32⟩
  | 65 => ⟨S36864x4096, .f32⟩
  | 66 => ⟨S36864x4096, .f32⟩
  | 67 => ⟨S36864x4096, .i1⟩
  | 68 => ⟨S36864x4096, .f32⟩
  | 69 => ⟨S36864x4096, .bf16⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call2_v0 : Ref sig .tc := ⟨.hbm, 48, rfl⟩
abbrev main_v28 : Ref sig .tc := ⟨.hbm, 49, rfl⟩
abbrev main_c_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call3_v0 : Ref sig .tc := ⟨.hbm, 56, rfl⟩
abbrev main_call3_v1 : Ref sig .tc := ⟨.hbm, 57, rfl⟩
abbrev main_call3_cst : Ref sig .tc := ⟨.hbm, 58, rfl⟩
abbrev main_call3_v2 : Ref sig .tc := ⟨.hbm, 59, rfl⟩
abbrev main_call3_v3 : Ref sig .tc := ⟨.hbm, 60, rfl⟩
abbrev main_call3_cst_0 : Ref sig .tc := ⟨.hbm, 61, rfl⟩
abbrev main_call3_v4 : Ref sig .tc := ⟨.hbm, 62, rfl⟩
abbrev main_call3_v5 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_call4_v0 : Ref sig .tc := ⟨.hbm, 69, rfl⟩
abbrev main_v39 : Ref sig .tc := ⟨.hbm, 70, rfl⟩
abbrev main_c_4 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_call5_v0 : Ref sig .tc := ⟨.hbm, 77, rfl⟩
abbrev main_call5_v1 : Ref sig .tc := ⟨.hbm, 78, rfl⟩
abbrev main_call5_cst : Ref sig .tc := ⟨.hbm, 79, rfl⟩
abbrev main_call5_v2 : Ref sig .tc := ⟨.hbm, 80, rfl⟩
abbrev main_call5_v3 : Ref sig .tc := ⟨.hbm, 81, rfl⟩
abbrev main_call5_cst_0 : Ref sig .tc := ⟨.hbm, 82, rfl⟩
abbrev main_call5_v4 : Ref sig .tc := ⟨.hbm, 83, rfl⟩
abbrev main_call5_v5 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_call6_v0 : Ref sig .tc := ⟨.hbm, 90, rfl⟩
abbrev main_v50 : Ref sig .tc := ⟨.hbm, 91, rfl⟩
abbrev main_c_5 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_call7_v0 : Ref sig .tc := ⟨.hbm, 98, rfl⟩
abbrev main_call7_v1 : Ref sig .tc := ⟨.hbm, 99, rfl⟩
abbrev main_call7_cst : Ref sig .tc := ⟨.hbm, 100, rfl⟩
abbrev main_call7_v2 : Ref sig .tc := ⟨.hbm, 101, rfl⟩
abbrev main_call7_v3 : Ref sig .tc := ⟨.hbm, 102, rfl⟩
abbrev main_call7_cst_0 : Ref sig .tc := ⟨.hbm, 103, rfl⟩
abbrev main_call7_v4 : Ref sig .tc := ⟨.hbm, 104, rfl⟩
abbrev main_call7_v5 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_call8_v0 : Ref sig .tc := ⟨.hbm, 111, rfl⟩
abbrev main_v61 : Ref sig .tc := ⟨.hbm, 112, rfl⟩
abbrev main_c_6 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_call9_v0 : Ref sig .tc := ⟨.hbm, 119, rfl⟩
abbrev main_call9_v1 : Ref sig .tc := ⟨.hbm, 120, rfl⟩
abbrev main_call9_cst : Ref sig .tc := ⟨.hbm, 121, rfl⟩
abbrev main_call9_v2 : Ref sig .tc := ⟨.hbm, 122, rfl⟩
abbrev main_call9_v3 : Ref sig .tc := ⟨.hbm, 123, rfl⟩
abbrev main_call9_cst_0 : Ref sig .tc := ⟨.hbm, 124, rfl⟩
abbrev main_call9_v4 : Ref sig .tc := ⟨.hbm, 125, rfl⟩
abbrev main_call9_v5 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_call10_v0 : Ref sig .tc := ⟨.hbm, 132, rfl⟩
abbrev main_v72 : Ref sig .tc := ⟨.hbm, 133, rfl⟩
abbrev main_c_7 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_call11_v0 : Ref sig .tc := ⟨.hbm, 140, rfl⟩
abbrev main_call11_v1 : Ref sig .tc := ⟨.hbm, 141, rfl⟩
abbrev main_call11_cst : Ref sig .tc := ⟨.hbm, 142, rfl⟩
abbrev main_call11_v2 : Ref sig .tc := ⟨.hbm, 143, rfl⟩
abbrev main_call11_v3 : Ref sig .tc := ⟨.hbm, 144, rfl⟩
abbrev main_call11_cst_0 : Ref sig .tc := ⟨.hbm, 145, rfl⟩
abbrev main_call11_v4 : Ref sig .tc := ⟨.hbm, 146, rfl⟩
abbrev main_call11_v5 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_call12_v0 : Ref sig .tc := ⟨.hbm, 153, rfl⟩
abbrev main_v83 : Ref sig .tc := ⟨.hbm, 154, rfl⟩
abbrev main_c_8 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_call13_v0 : Ref sig .tc := ⟨.hbm, 161, rfl⟩
abbrev main_call13_v1 : Ref sig .tc := ⟨.hbm, 162, rfl⟩
abbrev main_call13_cst : Ref sig .tc := ⟨.hbm, 163, rfl⟩
abbrev main_call13_v2 : Ref sig .tc := ⟨.hbm, 164, rfl⟩
abbrev main_call13_v3 : Ref sig .tc := ⟨.hbm, 165, rfl⟩
abbrev main_call13_cst_0 : Ref sig .tc := ⟨.hbm, 166, rfl⟩
abbrev main_call13_v4 : Ref sig .tc := ⟨.hbm, 167, rfl⟩
abbrev main_call13_v5 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_call14_v0 : Ref sig .tc := ⟨.hbm, 174, rfl⟩
abbrev main_v94 : Ref sig .tc := ⟨.hbm, 175, rfl⟩
abbrev main_c_9 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_call15_v0 : Ref sig .tc := ⟨.hbm, 182, rfl⟩
abbrev main_call15_v1 : Ref sig .tc := ⟨.hbm, 183, rfl⟩
abbrev main_call15_cst : Ref sig .tc := ⟨.hbm, 184, rfl⟩
abbrev main_call15_v2 : Ref sig .tc := ⟨.hbm, 185, rfl⟩
abbrev main_call15_v3 : Ref sig .tc := ⟨.hbm, 186, rfl⟩
abbrev main_call15_cst_0 : Ref sig .tc := ⟨.hbm, 187, rfl⟩
abbrev main_call15_v4 : Ref sig .tc := ⟨.hbm, 188, rfl⟩
abbrev main_call15_v5 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_call16_v0 : Ref sig .tc := ⟨.hbm, 195, rfl⟩
abbrev main_v105 : Ref sig .tc := ⟨.hbm, 196, rfl⟩
abbrev main_v106 : Ref sig .tc := ⟨.hbm, 197, rfl⟩

abbrev nD : Nat := 1
abbrev τ : Topo := Topo.v7x

variable {F : FTy → Type} [FloatOps F]
-- ==== ConvGatedKernel.lean ====
abbrev S8x2048x11520 : Shape := ⟨3, ![8, 2048, 11520]⟩
abbrev S2x3x1024 : Shape := ⟨3, ![2, 3, 1024]⟩
abbrev S1x3x1024 : Shape := ⟨3, ![1, 3, 1024]⟩
abbrev S3x1024 : Shape := ⟨2, ![3, 1024]⟩
abbrev S8x2048x1024 : Shape := ⟨3, ![8, 2048, 1024]⟩
abbrev S1x2048x512 : Shape := ⟨3, ![1, 2048, 512]⟩
abbrev S3x512 : Shape := ⟨2, ![3, 512]⟩
abbrev S2056x512 : Shape := ⟨2, ![2056, 512]⟩
abbrev S2048x512 : Shape := ⟨2, ![2048, 512]⟩
abbrev S8x512 : Shape := ⟨2, ![8, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S8x2048x11520, .bf16⟩
  | .hbm, ⟨1, _⟩ => ⟨S2x3x1024, .f32⟩
  | .hbm, ⟨2, _⟩ => ⟨S1x3x1024, .f32⟩
  | .hbm, ⟨3, _⟩ => ⟨S3x1024, .f32⟩
  | .hbm, ⟨4, _⟩ => ⟨S8x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S3x512, .f32⟩
  | .local _ .vmem, ⟨7, _⟩ => ⟨S3x512, .f32⟩
  | .local _ .vmem, ⟨8, _⟩ => ⟨S1x2048x512, .bf16⟩
  | .local _ .vmem, ⟨9, _⟩ => ⟨S1x2048x512, .bf16⟩
  | .local _ .vmem, ⟨10, _⟩ => ⟨S2056x512, .f32⟩
  | _, _ => ⟨S8x2048x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvGatedReferenceIdeal.lean ====
abbrev S8x2048x11520 : Shape := ⟨3, ![8, 2048, 11520]⟩
abbrev S2x3x1024 : Shape := ⟨3, ![2, 3, 1024]⟩
abbrev S8x2048x3072 : Shape := ⟨3, ![8, 2048, 3072]⟩
abbrev S8x2048x1024 : Shape := ⟨3, ![8, 2048, 1024]⟩
abbrev S1x3x1024 : Shape := ⟨3, ![1, 3, 1024]⟩
abbrev S3x1024 : Shape := ⟨2, ![3, 1024]⟩
abbrev S_ : Shape := ⟨0, ![]⟩
abbrev S8x2050x1024 : Shape := ⟨3, ![8, 2050, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x11520, .bf16⟩
  | .hbm, ⟨1, _⟩ => ⟨S2x3x1024, .f32⟩
  | .hbm, ⟨2, _⟩ => ⟨S8x2048x3072, .bf16⟩
  | .hbm, ⟨3, _⟩ => ⟨S8x2048x3072, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S1x3x1024, .f32⟩
  | .hbm, ⟨9, _⟩ => ⟨S3x1024, .f32⟩
  | .hbm, ⟨10, _⟩ => ⟨S_, .i32⟩
  | .hbm, ⟨11, _⟩ => ⟨S_, .f32⟩
  | .hbm, ⟨12, _⟩ => ⟨S8x2050x1024, .f32⟩
  | .hbm, ⟨13, _⟩ => ⟨S8x2048x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .bf16⟩
  | _, _ => ⟨S8x2048x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== ConvXbcKernel.lean ====
abbrev S8x2048x11520 : Shape := ⟨3, ![8, 2048, 11520]⟩
abbrev S2x4x1536 : Shape := ⟨3, ![2, 4, 1536]⟩
abbrev S2x1536 : Shape := ⟨2, ![2, 1536]⟩
abbrev S1x4x1536 : Shape := ⟨3, ![1, 4, 1536]⟩
abbrev S4x1536 : Shape := ⟨2, ![4, 1536]⟩
abbrev S1x1536 : Shape := ⟨2, ![1, 1536]⟩
abbrev S1536 : Shape := ⟨1, ![1536]⟩
abbrev S8x2048x1536 : Shape := ⟨3, ![8, 2048, 1536]⟩
abbrev S1x2048x512 : Shape := ⟨3, ![1, 2048, 512]⟩
abbrev S4x512 : Shape := ⟨2, ![4, 512]⟩
abbrev S1x512 : Shape := ⟨2, ![1, 512]⟩
abbrev S2056x512 : Shape := ⟨2, ![2056, 512]⟩
abbrev S2048x512 : Shape := ⟨2, ![2048, 512]⟩
abbrev S8x512 : Shape := ⟨2, ![8, 512]⟩

abbrev nBuf : Space → Nat
  | .hbm => 9
  | .vmem => 9
  | .smem => 0
  | _ => 0

abbrev bufTy : (tb : Table) → Fin (tcTables nBuf tb) → BufTy
  | .hbm, ⟨0, _⟩ => ⟨S8x2048x11520, .bf16⟩
  | .hbm, ⟨1, _⟩ => ⟨S2x4x1536, .f32⟩
  | .hbm, ⟨2, _⟩ => ⟨S2x1536, .f32⟩
  | .hbm, ⟨3, _⟩ => ⟨S1x4x1536, .f32⟩
  | .hbm, ⟨4, _⟩ => ⟨S4x1536, .f32⟩
  | .hbm, ⟨5, _⟩ => ⟨S1x1536, .f32⟩
  | .hbm, ⟨6, _⟩ => ⟨S1536, .f32⟩
  | .hbm, ⟨7, _⟩ => ⟨S1x1536, .f32⟩
  | .hbm, ⟨8, _⟩ => ⟨S8x2048x1536, .f32⟩
  | .local _ .vmem, ⟨0, _⟩ => ⟨S1x2048x512, .bf16⟩
  | .local _ .vmem, ⟨1, _⟩ => ⟨S1x2048x512, .bf16⟩
  | .local _ .vmem, ⟨2, _⟩ => ⟨S4x512, .f32⟩
  | .local _ .vmem, ⟨3, _⟩ => ⟨S4x512, .f32⟩
  | .local _ .vmem, ⟨4, _⟩ => ⟨S1x512, .f32⟩
  | .local _ .vmem, ⟨5, _⟩ => ⟨S1x512, .f32⟩
  | .local _ .vmem, ⟨6, _⟩ => ⟨S1x2048x512, .f32⟩
  | .local _ .vmem, ⟨7, _⟩ => ⟨S1x2048x512, .f32⟩
  | .local _ .vmem, ⟨8, _⟩ => ⟨S2056x512, .f32⟩
  | _, _ => ⟨S8x2048x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvXbcReferenceIdeal.lean ====
abbrev S8x2048x11520 : Shape := ⟨3, ![8, 2048, 11520]⟩
abbrev S2x4x1536 : Shape := ⟨3, ![2, 4, 1536]⟩
abbrev S2x1536 : Shape := ⟨2, ![2, 1536]⟩
abbrev S8x2048x1536 : Shape := ⟨3, ![8, 2048, 1536]⟩
abbrev S1x4x1536 : Shape := ⟨3, ![1, 4, 1536]⟩
abbrev S4x1536 : Shape := ⟨2, ![4, 1536]⟩
abbrev S_ : Shape := ⟨0, ![]⟩
abbrev S8x2051x1536 : Shape := ⟨3, ![8, 2051, 1536]⟩
abbrev S1x1536 : Shape := ⟨2, ![1, 1536]⟩
abbrev S1536 : Shape := ⟨1, ![1536]⟩
abbrev S1x1x1536 : Shape := ⟨3, ![1, 1, 1536]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x11520, .bf16⟩
  | .hbm, ⟨1, _⟩ => ⟨S2x4x1536, .f32⟩
  | .hbm, ⟨2, _⟩ => ⟨S2x1536, .f32⟩
  | .hbm, ⟨3, _⟩ => ⟨S8x2048x1536, .bf16⟩
  | .hbm, ⟨4, _⟩ => ⟨S8x2048x1536, .f32⟩
  | .hbm, ⟨5, _⟩ => ⟨S1x4x1536, .f32⟩
  | .hbm, ⟨6, _⟩ => ⟨S4x1536, .f32⟩
  | .hbm, ⟨7, _⟩ => ⟨S_, .i32⟩
  | .hbm, ⟨8, _⟩ => ⟨S_, .f32⟩
  | .hbm, ⟨9, _⟩ => ⟨S8x2051x1536, .f32⟩
  | .hbm, ⟨10, _⟩ => ⟨S8x2048x1536, .f32⟩
  | .hbm, ⟨11, _⟩ => ⟨S1x1536, .f32⟩
  | .hbm, ⟨12, _⟩ => ⟨S1536, .f32⟩
  | .hbm, ⟨13, _⟩ => ⟨S1x1x1536, .f32⟩
  | .hbm, ⟨14, _⟩ => ⟨S8x2048x1536, .f32⟩
  | .hbm, ⟨15, _⟩ => ⟨S8x2048x1536, .f32⟩
  | .hbm, ⟨16, _⟩ => ⟨S8x2048x1536, .f32⟩
  | .hbm, ⟨17, _⟩ => ⟨S1x1536, .f32⟩
  | .hbm, ⟨18, _⟩ => ⟨S1536, .f32⟩
  | .hbm, ⟨19, _⟩ => ⟨S1x1x1536, .f32⟩
  | .hbm, ⟨20, _⟩ => ⟨S8x2048x1536, .f32⟩
  | .hbm, ⟨21, _⟩ => ⟨S8x2048x1536, .f32⟩
  | .hbm, ⟨22, _⟩ => ⟨S8x2048x1536, .f32⟩
  | .hbm, ⟨23, _⟩ => ⟨S8x2048x1536, .f32⟩
  | .hbm, ⟨24, _⟩ => ⟨S1x1536, .f32⟩
  | .hbm, ⟨25, _⟩ => ⟨S1536, .f32⟩
  | .hbm, ⟨26, _⟩ => ⟨S1x1x1536, .f32⟩
  | .hbm, ⟨27, _⟩ => ⟨S8x2048x1536, .f32⟩
  | .hbm, ⟨28, _⟩ => ⟨S8x2048x1536, .f32⟩
  | .hbm, ⟨29, _⟩ => ⟨S8x2048x1536, .f32⟩
  | .hbm, ⟨30, _⟩ => ⟨S8x2048x1536, .f32⟩
  | .hbm, ⟨31, _⟩ => ⟨S1x1536, .f32⟩
  | .hbm, ⟨32, _⟩ => ⟨S1536, .f32⟩
  | .hbm, ⟨33, _⟩ => ⟨S1x1x1536, .f32⟩
  | .hbm, ⟨34, _⟩ => ⟨S8x2048x1536, .f32⟩
  | .hbm, ⟨35, _⟩ => ⟨S8x2048x1536, .f32⟩
  | .hbm, ⟨36, _⟩ => ⟨S8x2048x1536, .f32⟩
  | .hbm, ⟨37, _⟩ => ⟨S1x1536, .f32⟩
  | .hbm, ⟨38, _⟩ => ⟨S1536, .f32⟩
  | .hbm, ⟨39, _⟩ => ⟨S1x1x1536, .f32⟩
  | .hbm, ⟨40, _⟩ => ⟨S8x2048x1536, .f32⟩
  | .hbm, ⟨41, _⟩ => ⟨S8x2048x1536, .f32⟩
  | .hbm, ⟨42, _⟩ => ⟨S8x2048x1536, .f32⟩
  | .hbm, ⟨43, _⟩ => ⟨S8x2048x1536, .f32⟩
  | .hbm, ⟨44, _⟩ => ⟨S_, .f32⟩
  | .hbm, ⟨45, _⟩ => ⟨S8x2048x1536, .f32⟩
  | .hbm, ⟨46, _⟩ => ⟨S8x2048x1536, .f32⟩
  | .hbm, ⟨47, _⟩ => ⟨S_, .f32⟩
  | .hbm, ⟨48, _⟩ => ⟨S8x2048x1536, .f32⟩
  | .hbm, ⟨49, _⟩ => ⟨S8x2048x1536, .f32⟩
  | .hbm, ⟨50, _⟩ => ⟨S8x2048x1536, .f32⟩
  | _, _ => ⟨S8x2048x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== InProjSmallKernel.lean ====
abbrev S16384x4096 : Shape := ⟨2, ![16384, 4096]⟩
abbrev S2x4096x28008 : Shape := ⟨3, ![2, 4096, 28008]⟩
abbrev S1x4096x28008 : Shape := ⟨3, ![1, 4096, 28008]⟩
abbrev S4096x28008 : Shape := ⟨2, ![4096, 28008]⟩
abbrev S_ : Shape := ⟨0, ![]⟩
abbrev S4096x24 : Shape := ⟨2, ![4096, 24]⟩
abbrev S4096x8 : Shape := ⟨2, ![4096, 8]⟩
abbrev S4096x64 : Shape := ⟨2, ![4096, 64]⟩
abbrev S4096x16 : Shape := ⟨2, ![4096, 16]⟩
abbrev S4096x128 : Shape := ⟨2, ![4096, 128]⟩
abbrev S16384x128 : Shape := ⟨2, ![16384, 128]⟩
abbrev S1024x4096 : Shape := ⟨2, ![1024, 4096]⟩
abbrev S1024x128 : Shape := ⟨2, ![1024, 128]⟩

abbrev nBuf : Space → Nat
  | .hbm => 14
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S2x4096x28008, .f32⟩
  | .hbm, ⟨2, _⟩ => ⟨S1x4096x28008, .f32⟩
  | .hbm, ⟨3, _⟩ => ⟨S4096x28008, .f32⟩
  | .hbm, ⟨4, _⟩ => ⟨S_, .f32⟩
  | .hbm, ⟨5, _⟩ => ⟨S4096x24, .f32⟩
  | .hbm, ⟨6, _⟩ => ⟨S4096x8, .f32⟩
  | .hbm, ⟨7, _⟩ => ⟨S4096x8, .f32⟩
  | .hbm, ⟨8, _⟩ => ⟨S4096x64, .f32⟩
  | .hbm, ⟨9, _⟩ => ⟨S4096x8, .f32⟩
  | .hbm, ⟨10, _⟩ => ⟨S4096x16, .f32⟩
  | .hbm, ⟨11, _⟩ => ⟨S4096x128, .f32⟩
  | .hbm, ⟨12, _⟩ => ⟨S4096x128, .bf16⟩
  | .hbm, ⟨13, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjSmallReferenceIdeal.lean ====
abbrev S16384x4096 : Shape := ⟨2, ![16384, 4096]⟩
abbrev S2x4096x28008 : Shape := ⟨3, ![2, 4096, 28008]⟩
abbrev S1x4096x28008 : Shape := ⟨3, ![1, 4096, 28008]⟩
abbrev S4096x28008 : Shape := ⟨2, ![4096, 28008]⟩
abbrev S4096x11624 : Shape := ⟨2, ![4096, 11624]⟩
abbrev S16384x11624 : Shape := ⟨2, ![16384, 11624]⟩
abbrev S16384x1024 : Shape := ⟨2, ![16384, 1024]⟩
abbrev S16384x8 : Shape := ⟨2, ![16384, 8]⟩
abbrev S16384x256 : Shape := ⟨2, ![16384, 256]⟩
abbrev S16384x512 : Shape := ⟨2, ![16384, 512]⟩
abbrev S16384x64 : Shape := ⟨2, ![16384, 64]⟩
abbrev S16384x1536 : Shape := ⟨2, ![16384, 1536]⟩
abbrev S16384x16 : Shape := ⟨2, ![16384, 16]⟩
abbrev S_ : Shape := ⟨0, ![]⟩
abbrev S16384x24 : Shape := ⟨2, ![16384, 24]⟩
abbrev S16384x128 : Shape := ⟨2, ![16384, 128]⟩

abbrev nBuf : Space → Nat
  | .hbm => 27
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x28008, .f32⟩
  | .hbm, ⟨2, _⟩ => ⟨S16384x4096, .f32⟩
  | .hbm, ⟨3, _⟩ => ⟨S1x4096x28008, .f32⟩
  | .hbm, ⟨4, _⟩ => ⟨S4096x28008, .f32⟩
  | .hbm, ⟨5, _⟩ => ⟨S4096x11624, .f32⟩
  | .hbm, ⟨6, _⟩ => ⟨S16384x11624, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x8, .f32⟩
  | .hbm, ⟨12, _⟩ => ⟨S16384x8, .f32⟩
  | .hbm, ⟨13, _⟩ => ⟨S16384x1024, .f32⟩
  | .hbm, ⟨14, _⟩ => ⟨S16384x256, .f32⟩
  | .hbm, ⟨15, _⟩ => ⟨S16384x512, .f32⟩
  | .hbm, ⟨16, _⟩ => ⟨S16384x64, .f32⟩
  | .hbm, ⟨17, _⟩ => ⟨S16384x8, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1536, .f32⟩
  | .hbm, ⟨23, _⟩ => ⟨S16384x16, .f32⟩
  | .hbm, ⟨24, _⟩ => ⟨S_, .f32⟩
  | .hbm, ⟨25, _⟩ => ⟨S16384x24, .f32⟩
  | .hbm, ⟨26, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]
-- ==== NormKernel.lean ====
abbrev S16384x4096 : Shape := ⟨2, ![16384, 4096]⟩
abbrev S2x4096 : Shape := ⟨2, ![2, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S16384x4096 : Shape := ⟨2, ![16384, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== PrepKernel.lean ====
abbrev S8x2048x11520 : Shape := ⟨3, ![8, 2048, 11520]⟩
abbrev S8x2048x128 : Shape := ⟨3, ![8, 2048, 128]⟩
abbrev S2x256x128 : Shape := ⟨3, ![2, 256, 128]⟩
abbrev S2x256 : Shape := ⟨2, ![2, 256]⟩
abbrev S2x128 : Shape := ⟨2, ![2, 128]⟩
abbrev S1x256x128 : Shape := ⟨3, ![1, 256, 128]⟩
abbrev S256x128 : Shape := ⟨2, ![256, 128]⟩
abbrev S1x256 : Shape := ⟨2, ![1, 256]⟩
abbrev S256 : Shape := ⟨1, ![256]⟩
abbrev S1x128 : Shape := ⟨2, ![1, 128]⟩
abbrev S128 : Shape := ⟨1, ![128]⟩
abbrev S8x2048x1024 : Shape := ⟨3, ![8, 2048, 1024]⟩
abbrev S8x256x2048 : Shape := ⟨3, ![8, 256, 2048]⟩
abbrev S8x2048x64 : Shape := ⟨3, ![8, 2048, 64]⟩
abbrev S1x512x1024 : Shape := ⟨3, ![1, 512, 1024]⟩
abbrev S1x512x256 : Shape := ⟨3, ![1, 512, 256]⟩
abbrev S1x512x128 : Shape := ⟨3, ![1, 512, 128]⟩
abbrev S1x256x512 : Shape := ⟨3, ![1, 256, 512]⟩
abbrev S1x512x64 : Shape := ⟨3, ![1, 512, 64]⟩
abbrev S512x256 : Shape := ⟨2, ![512, 256]⟩
abbrev S512 : Shape := ⟨1, ![512]⟩
abbrev S512x1 : Shape := ⟨2, ![512, 1]⟩
abbrev S256x512 : Shape := ⟨2, ![256, 512]⟩
abbrev S512x128 : Shape := ⟨2, ![512, 128]⟩
abbrev S512x64 : Shape := ⟨2, ![512, 64]⟩

abbrev nBuf : Space → Nat
  | .hbm => 22
  | .vmem => 18
  | .smem => 0
  | _ => 0

abbrev bufTy : (tb : Table) → Fin (tcTables nBuf tb) → BufTy
  | .hbm, ⟨0, _⟩ => ⟨S8x2048x11520, .bf16⟩
  | .hbm, ⟨1, _⟩ => ⟨S8x2048x128, .f32⟩
  | .hbm, ⟨2, _⟩ => ⟨S2x256x128, .f32⟩
  | .hbm, ⟨3, _⟩ => ⟨S2x256, .f32⟩
  | .hbm, ⟨4, _⟩ => ⟨S2x128, .f32⟩
  | .hbm, ⟨5, _⟩ => ⟨S2x128, .f32⟩
  | .hbm, ⟨6, _⟩ => ⟨S1x256x128, .f32⟩
  | .hbm, ⟨7, _⟩ => ⟨S256x128, .f32⟩
  | .hbm, ⟨8, _⟩ => ⟨S1x256, .f32⟩
  | .hbm, ⟨9, _⟩ => ⟨S256, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S256x128, .bf16⟩
  | .hbm, ⟨15, _⟩ => ⟨S1x256, .f32⟩
  | .hbm, ⟨16, _⟩ => ⟨S1x128, .f32⟩
  | .hbm, ⟨17, _⟩ => ⟨S1x128, .f32⟩
  | .hbm, ⟨18, _⟩ => ⟨S8x2048x1024, .bf16⟩
  | .hbm, ⟨19, _⟩ => ⟨S8x2048x128, .bf16⟩
  | .hbm, ⟨20, _⟩ => ⟨S8x256x2048, .bf16⟩
  | .hbm, ⟨21, _⟩ => ⟨S8x2048x64, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x128, .f32⟩
  | .local _ .vmem, ⟨5, _⟩ => ⟨S1x512x128, .f32⟩
  | .local _ .vmem, ⟨6, _⟩ => ⟨S256x128, .bf16⟩
  | .local _ .vmem, ⟨7, _⟩ => ⟨S1x256, .f32⟩
  | .local _ .vmem, ⟨8, _⟩ => ⟨S1x128, .f32⟩
  | .local _ .vmem, ⟨9, _⟩ => ⟨S1x128, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x128, .bf16⟩
  | .local _ .vmem, ⟨13, _⟩ => ⟨S1x512x128, .bf16⟩
  | .local _ .vmem, ⟨14, _⟩ => ⟨S1x256x512, .bf16⟩
  | .local _ .vmem, ⟨15, _⟩ => ⟨S1x256x512, .bf16⟩
  | .local _ .vmem, ⟨16, _⟩ => ⟨S1x512x64, .bf16⟩
  | .local _ .vmem, ⟨17, _⟩ => ⟨S1x512x64, .bf16⟩
  | _, _ => ⟨S8x2048x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg0.toNat, arg1.toNat, c44_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PrepReferenceIdeal.lean ====
abbrev S8x2048x11520 : Shape := ⟨3, ![8, 2048, 11520]⟩
abbrev S8x2048x128 : Shape := ⟨3, ![8, 2048, 128]⟩
abbrev S2x256x128 : Shape := ⟨3, ![2, 256, 128]⟩
abbrev S2x256 : Shape := ⟨2, ![2, 256]⟩
abbrev S2x128 : Shape := ⟨2, ![2, 128]⟩
abbrev S8x2048x1024 : Shape := ⟨3, ![8, 2048, 1024]⟩
abbrev S8x2048x256 : Shape := ⟨3, ![8, 2048, 256]⟩
abbrev S8x2048x64 : Shape := ⟨3, ![8, 2048, 64]⟩
abbrev S1x256 : Shape := ⟨2, ![1, 256]⟩
abbrev S256 : Shape := ⟨1, ![256]⟩
abbrev S_ : Shape := ⟨0, ![]⟩
abbrev S8x2048 : Shape := ⟨2, ![8, 2048]⟩
abbrev S8x2048x1 : Shape := ⟨3, ![8, 2048, 1]⟩
abbrev S1x1x256 : Shape := ⟨3, ![1, 1, 256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S1x1x128 : Shape := ⟨3, ![1, 1, 128]⟩
abbrev S8x2048x8x128 : Shape := ⟨4, ![8, 2048, 8, 128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x256x2048 : Shape := ⟨3, ![8, 256, 2048]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x11520, .bf16⟩
  | .hbm, ⟨1, _⟩ => ⟨S8x2048x128, .f32⟩
  | .hbm, ⟨2, _⟩ => ⟨S2x256x128, .f32⟩
  | .hbm, ⟨3, _⟩ => ⟨S2x256, .f32⟩
  | .hbm, ⟨4, _⟩ => ⟨S2x128, .f32⟩
  | .hbm, ⟨5, _⟩ => ⟨S2x128, .f32⟩
  | .hbm, ⟨6, _⟩ => ⟨S8x2048x1024, .bf16⟩
  | .hbm, ⟨7, _⟩ => ⟨S8x2048x1024, .f32⟩
  | .hbm, ⟨8, _⟩ => ⟨S8x2048x256, .bf16⟩
  | .hbm, ⟨9, _⟩ => ⟨S8x2048x256, .f32⟩
  | .hbm, ⟨10, _⟩ => ⟨S8x2048x64, .f32⟩
  | .hbm, ⟨11, _⟩ => ⟨S1x256, .f32⟩
  | .hbm, ⟨12, _⟩ => ⟨S256, .f32⟩
  | .hbm, ⟨13, _⟩ => ⟨S8x2048x256, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x256, .f32⟩
  | .hbm, ⟨25, _⟩ => ⟨S8x2048x256, .f32⟩
  | .hbm, ⟨26, _⟩ => ⟨S1x1x256, .f32⟩
  | .hbm, ⟨27, _⟩ => ⟨S8x2048x256, .f32⟩
  | .hbm, ⟨28, _⟩ => ⟨S8x2048x256, .f32⟩
  | .hbm, ⟨29, _⟩ => ⟨S1x256x128, .f32⟩
  | .hbm, ⟨30, _⟩ => ⟨S256x128, .f32⟩
  | .hbm, ⟨31, _⟩ => ⟨S8x2048x128, .f32⟩
  | .hbm, ⟨32, _⟩ => ⟨S1x128, .f32⟩
  | .hbm, ⟨33, _⟩ => ⟨S128, .f32⟩
  | .hbm, ⟨34, _⟩ => ⟨S8x2048x128, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S8x2048x128, .f32⟩
  | .hbm, ⟨46, _⟩ => ⟨S8x2048x128, .f32⟩
  | .hbm, ⟨47, _⟩ => ⟨S1x1x128, .f32⟩
  | .hbm, ⟨48, _⟩ => ⟨S8x2048x128, .f32⟩
  | .hbm, ⟨49, _⟩ => ⟨S8x2048x128, .f32⟩
  | .hbm, ⟨50, _⟩ => ⟨S8x2048x8x128, .f32⟩
  | .hbm, ⟨51, _⟩ => ⟨S1x128, .f32⟩
  | .hbm, ⟨52, _⟩ => ⟨S128, .f32⟩
  | .hbm, ⟨53, _⟩ => ⟨S8x2048x8x128, .f32⟩
  | .hbm, ⟨54, _⟩ => ⟨S_, .f32⟩
  | .hbm, ⟨55, _⟩ => ⟨S8x2048x8, .f32⟩
  | .hbm, ⟨56, _⟩ => ⟨S8x2048x8x1, .f32⟩
  | .hbm, ⟨57, _⟩ => ⟨S_, .f32⟩
  | .hbm, ⟨58, _⟩ => ⟨S8x2048x8x1, .f32⟩
  | .hbm, ⟨59, _⟩ => ⟨S8x2048x8x1, .f32⟩
  | .hbm, ⟨60, _⟩ => ⟨S_, .f32⟩
  | .hbm, ⟨61, _⟩ => ⟨S8x2048x8x1, .f32⟩
  | .hbm, ⟨62, _⟩ => ⟨S8x2048x8x1, .f32⟩
  | .hbm, ⟨63, _⟩ => ⟨S8x2048x8x1, .f32⟩
  | .hbm, ⟨64, _⟩ => ⟨S8x2048x8x128, .f32⟩
  | .hbm, ⟨65, _⟩ => ⟨S8x2048x8x128, .f32⟩
  | .hbm, ⟨66, _⟩ => ⟨S1x1x1x128, .f32⟩
  | .hbm, ⟨67, _⟩ => ⟨S8x2048x8x128, .f32⟩
  | .hbm, ⟨68, _⟩ => ⟨S8x2048x8x128, .f32⟩
  | .hbm, ⟨69, _⟩ => ⟨S_, .f32⟩
  | .hbm, ⟨70, _⟩ => ⟨S8x2048x8x128, .f32⟩
  | .hbm, ⟨71, _⟩ => ⟨S8x2048x8x128, .f32⟩
  | .hbm, ⟨72, _⟩ => ⟨S8x2048x1024, .f32⟩
  | .hbm, ⟨73, _⟩ => ⟨S8x2048x1024, .bf16⟩
  | .hbm, ⟨74, _⟩ => ⟨S8x2048x128, .bf16⟩
  | .hbm, ⟨75, _⟩ => ⟨S8x256x2048, .f32⟩
  | .hbm, ⟨76, _⟩ => ⟨S8x256x2048, .bf16⟩
  | .hbm, ⟨77, _⟩ => ⟨S8x2048x64, .bf16⟩
  | _, _ => ⟨S8x2048x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Proof.Ssd.RefLoop.lean ====
/- The reference's loop as a sequence of states: what its buffers hold before every trip, and the result it leaves. -/
module

public import proofs.«01_k».proof.Proof.Gen.ReferenceIdeal.Run
public import proofs.«01_k».proof.Proof.Gen.ReferenceIdeal.Step
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.ReferenceIdeal.Loop

open Cert.ReferenceIdeal Cert.ReferenceIdeal.Gen Cert.ReferenceIdeal.Value
open Cert.ReferenceIdeal.Step (State step init R_main_v98)

section

variable (V0 : Valuation τ sig (Elt Ideal)) (s : State Ideal) (j : ℕ)

/-- Before trip `j` the loop's buffers hold the state `s`. -/
structure Holds : Prop where
  carried : V0 (Proc.devRef .tc main_v66_5) = s.main_v66_5
  outputs : V0 (Proc.devRef .tc main_v66_6) = s.main_v66_6
  gains : V0 (Proc.devRef .tc main_v66_0) = s.main_v66_0
  decays : V0 (Proc.devRef .tc main_v66_1) = s.main_v66_1
  readers : V0 (Proc.devRef .tc main_v66_2) = s.main_v66_2
  diags : V0 (Proc.devRef .tc main_v66_3) = s.main_v66_3
  trip : V0 (Proc.devRef .tc main_v66_4) = constantI S_ 32 (BitVec.ofNat 32 j)

end

variable {V0 : Valuation τ sig (Elt Ideal)} {s : State Ideal} {j : ℕ}

/-- A trip takes the carried state on by one step. -/
theorem carried_step (h : Holds V0 s j) : step_main_v66_5 V0 = (step j s).main_v66_5 := by
  unfold step_main_v66_5
  rw [h.carried, h.gains, h.decays, h.trip]
  rfl

/-- A trip writes its row of the outputs. -/
theorem outputs_step (h : Holds V0 s j) : step_main_v66_6 V0 = (step j s).main_v66_6 := by
  unfold step_main_v66_6
  rw [h.carried, h.outputs, h.readers, h.diags, h.trip]
  rfl

/-- A trip counts itself. -/
theorem trip_step (h : Holds V0 s j) : step_main_v66_4 V0 = constantI S_ 32 (BitVec.ofNat 32 (j + 1)) := by
  unfold step_main_v66_4
  rw [h.trip]
  funext i
  show BitVec.ofNat 32 j + 1#32 = BitVec.ofNat 32 (j + 1)
  simp only [BitVec.ofNat_add]

/-- One trip of the loop is one step of the state. -/
theorem holds_step (h : Holds V0 s j) : Holds (STEP V0) (step j s) (j + 1) :=
  ⟨(STEP_main_v66_5 V0).trans (carried_step h), (STEP_main_v66_6 V0).trans (outputs_step h),
    (STEP_main_v66_0 V0).trans h.gains, (STEP_main_v66_1 V0).trans h.decays, (STEP_main_v66_2 V0).trans h.readers,
    (STEP_main_v66_3 V0).trans h.diags, (STEP_main_v66_4 V0).trans (trip_step h)⟩

variable (m : (ℓ : Loc nD τ sig) → Buf (Elt Ideal) ℓ) (c : Dev nD)

/-- The loop's states, one per trip, from the arguments. -/
def states : ℕ → State Ideal
  | 0 => init (m ((c.tc : Thread nD τ).loc main_arg0)) (m ((c.tc : Thread nD τ).loc main_arg2))
      (m ((c.tc : Thread nD τ).loc main_arg3)) (m ((c.tc : Thread nD τ).loc main_arg4))
  | k + 1 => step k (states k)

set_option maxRecDepth 65536 in
set_option maxHeartbeats 1400000 in
/-- The operations before the loop leave the first state. -/
theorem holds_zero : Holds (entryContents preI m c) (states m c 0) 0 := by
  constructor <;> (simp only [entryContents, afterL_cons, afterL_nil]; after_reads_simp) <;> rfl

/-- Before every trip the buffers hold that trip's state. -/
theorem holds_all : ∀ k, Holds (STEP^[k] (entryContents preI m c)) (states m c k) k
  | 0 => holds_zero m c
  | k + 1 => by
    rw [Function.iterate_succ_apply']
    exact holds_step (holds_all k)

/-- The result, from the state the loop ends with. -/
theorem result (c : Dev nD) : out_main_v98 (STEP^[32] (entryContents preI m c))
    = R_main_v98 (states m c 32) (m ((c.tc : Thread nD τ).loc main_arg0)) (m ((c.tc : Thread nD τ).loc main_arg1))
        (m ((c.tc : Thread nD τ).loc main_arg5)) (m ((c.tc : Thread nD τ).loc main_arg6)) := by
  unfold out_main_v98
  rw [(holds_all m c 32).outputs, iter_main_arg0 m c 32, iter_main_arg1 m c 32, iter_main_arg5 m c 32, iter_main_arg6 m c 32]
  rfl

end Cert.ReferenceIdeal.Loop

end
-- ==== Proof.Ssd.Spec.lean ====
/- The chunked form of the selective state-space scan, as plain formulas over the extended reals: what one head does with
   one chunk of 64 steps, and the states the chunks hand each other. -/
module

public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Ssd

/-- The softplus of a step size. -/
def soft (s : EReal) : EReal := max s 0 + Ideal.log1p (Ideal.exp (-FloatOps.absf (F := Ideal) (φ := .f32) s))

/-- What one head reads of one chunk of 64 steps: the step sizes `dt`, the logarithm `a` of its decay rate, the values
    `X`, and the vectors `B`, `C` of its group. -/
structure Chunk where
  dt : Fin 64 → EReal
  a : EReal
  X : Fin 64 → Fin 64 → EReal
  B : Fin 64 → Fin 128 → EReal
  C : Fin 64 → Fin 128 → EReal

namespace Chunk

/-- The logarithm of the decay from the chunk's start up to and including step `l`. -/
def cum (K : Chunk) (l : Fin 64) : EReal := ∑ k : Fin 64, if k ≤ l then K.dt k * -Ideal.exp K.a else 0

/-- The discretised value of step `l`. -/
def xc (K : Chunk) (l p : Fin 64) : EReal := K.X l p * K.dt l

/-- The decay from step `s` to step `l`; nothing flows backwards. -/
def seg (K : Chunk) (l s : Fin 64) : EReal := if s ≤ l then Ideal.exp (K.cum l - K.cum s) else 0

/-- The chunk's output before the gate: what the steps of the chunk hand each other, and what the state `S` carried in
    gives. -/
def y (K : Chunk) (S : Fin 64 → Fin 128 → EReal) (l p : Fin 64) : EReal :=
  (∑ s : Fin 64, (∑ d : Fin 128, K.C l d * K.B s d) * K.seg l s * K.xc s p)
    + ∑ d : Fin 128, K.C l d * Ideal.exp (K.cum l) * S p d

/-- The state handed to the next chunk. -/
def next (K : Chunk) (S : Fin 64 → Fin 128 → EReal) (p : Fin 64) (d : Fin 128) : EReal :=
  S p d * Ideal.exp (K.cum 63) + ∑ s : Fin 64, K.xc s p * (K.B s d * Ideal.exp (K.cum 63 - K.cum s))

end Chunk

section Arrays

variable (x : FVec Ideal ⟨3, ![8, 2048, 1536]⟩ .f32) (sm : FVec Ideal ⟨3, ![8, 2048, 128]⟩ .f32)
  (al db : FVec Ideal ⟨1, ![16]⟩ .f32)

/-- The chunk `n` of batch row `b`, as head `h` reads it from the packed arrays. -/
def chunk (b : Fin 8) (n : Fin 32) (h : Fin 16) : Chunk where
  dt := fun l => soft (sm (ix3 b ⟨n.val * 64 + l.val, by omega⟩ ⟨88 + h.val, by omega⟩) + db (ix1 h))
  a := al (ix1 h)
  X := fun l p => x (ix3 b ⟨n.val * 64 + l.val, by omega⟩ ⟨h.val * 64 + p.val, by omega⟩)
  B := fun l d => x (ix3 b ⟨n.val * 64 + l.val, by omega⟩ ⟨1024 + (h.val / 8 * 128 + d.val), by omega⟩)
  C := fun l d => x (ix3 b ⟨n.val * 64 + l.val, by omega⟩ ⟨1280 + (h.val / 8 * 128 + d.val), by omega⟩)

/-- The state of head `h` in batch row `b` before chunk `k`. -/
def state (b : Fin 8) (h : Fin 16) : ℕ → Fin 64 → Fin 128 → EReal
  | 0 => fun _ _ => 0
  | k + 1 => (chunk x sm al db b ⟨k % 32, by omega⟩ h).next (state b h k)

/-- The scan's output, head by head. -/
def scan (b : Fin 8) (n : Fin 32) (h : Fin 16) (l p : Fin 64) : EReal :=
  (chunk x sm al db b n h).y (state x sm al db b h n.val) l p

end Arrays

end Ssd

end
-- ==== Proof.Ssd.Cumulative.lean ====
/- The running sums of a row, as the host's window sum prints them. -/
module

public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Ssd

/-- The sums of a whole row's window padded low by one less are the running sums: entry `l` is what stands at or before
    `l`. -/
theorem cumulative (x : FVec Ideal ⟨4, ![8, 16, 32, 64]⟩ .f32) (init : FVec Ideal ⟨0, ![]⟩ .f32) (hi : init ix0 = (0 : EReal))
    (hR : (⟨4, ![8, 16, 32, 64]⟩ : Shape).ReduceWindows (![1, 1, 1, 64] : Fin 4 → ℕ) ![1, 1, 1, 1] ![0, 0, 0, 63] ![0, 0, 0, 0]
      ⟨4, ![8, 16, 32, 64]⟩)
    (hu : 0 < (⟨0, ![]⟩ : Shape).numel) (b : Fin 8) (h : Fin 16) (n : Fin 32) (l : Fin 64) :
    Host.reduceWindowAdd ![1, 1, 1, 64] ![1, 1, 1, 1] ![0, 0, 0, 63] ![0, 0, 0, 0] x init hR hu (ix4 b h n l)
      = ∑ k : Fin 64, if k ≤ l then x (ix4 b h n k) else (0 : EReal) := by
  have hv : init (Shape.Idx.first hu) = (0 : EReal) := (congrArg init (funext fun a => a.elim0)).trans hi
  have hN : (⟨4, ![1, 1, 1, 64]⟩ : Shape).numel = 64 := by decide
  have fold : ∀ (L : List (Fin (⟨4, ![1, 1, 1, 64]⟩ : Shape).numel)) (g : _ → EReal) (v : EReal),
      L.foldl (fun r k => r + g k) v = v + (L.map g).sum := by
    intro L g
    induction L with
    | nil => intro v; simp
    | cons a L ih => intro v; rw [List.foldl_cons, ih, List.map_cons, List.sum_cons, add_assoc]
  have hs : ∀ k : Fin (⟨4, ![1, 1, 1, 64]⟩ : Shape).numel,
      (⟨4, ![1, 1, 1, 64]⟩ : Shape).rowMajor.symm k = ix4 (0 : Fin 1) (0 : Fin 1) (0 : Fin 1) (k.cast hN) := fun k =>
    ((⟨4, ![1, 1, 1, 64]⟩ : Shape).rowMajor.symm_apply_eq).2 (Fin.ext (by
      rw [Shape.rowMajor_val_four]
      show k.val = _
      simp [ix4]))
  have step : ∀ (k : Fin (⟨4, ![1, 1, 1, 64]⟩ : Shape).numel) (w : (⟨4, ![1, 1, 1, 64]⟩ : Shape).Idx)
      (hw : w = ix4 (0 : Fin 1) (0 : Fin 1) (0 : Fin 1) (k.cast hN)) (dec : Decidable (∀ a : Fin 4, (![0, 0, 0, 63] : Fin 4 → ℕ) a
            ≤ ((ix4 b h n l : (⟨4, ![8, 16, 32, 64]⟩ : Shape).Idx) a).val * (![1, 1, 1, 1] : Fin 4 → ℕ) a + (w a).val
          ∧ ((ix4 b h n l : (⟨4, ![8, 16, 32, 64]⟩ : Shape).Idx) a).val * (![1, 1, 1, 1] : Fin 4 → ℕ) a + (w a).val
              - (![0, 0, 0, 63] : Fin 4 → ℕ) a < (![8, 16, 32, 64] : Fin 4 → ℕ) a)),
      (if hin : (∀ a : Fin 4, (![0, 0, 0, 63] : Fin 4 → ℕ) a
            ≤ ((ix4 b h n l : (⟨4, ![8, 16, 32, 64]⟩ : Shape).Idx) a).val * (![1, 1, 1, 1] : Fin 4 → ℕ) a + (w a).val
          ∧ ((ix4 b h n l : (⟨4, ![8, 16, 32, 64]⟩ : Shape).Idx) a).val * (![1, 1, 1, 1] : Fin 4 → ℕ) a + (w a).val
              - (![0, 0, 0, 63] : Fin 4 → ℕ) a < (![8, 16, 32, 64] : Fin 4 → ℕ) a)
        then x (fun a => ⟨_, (hin a).2⟩) else (0 : EReal))
      = (fun q : Fin 64 => if q ≤ l then x (ix4 b h n q) else (0 : EReal)) ((k.cast hN) + (l + 1)) := by
    intro k w hw dec
    subst hw
    have hk : k.val < 64 := (k.cast hN).isLt
    have hl := l.isLt
    have hq : ((k.cast hN) + (l + 1)).val = (k.val + (l.val + 1)) % 64 := by
      rw [Fin.val_add, Fin.val_add]; simp
    have e0 : (ix4 (0 : Fin 1) (0 : Fin 1) (0 : Fin 1) (k.cast hN) : (⟨4, ![1, 1, 1, 64]⟩ : Shape).Idx) 0 = (0 : Fin 1) := rfl
    by_cases hc : 63 ≤ l.val + k.val
    · have hle : (k.cast hN) + (l + 1) ≤ l := by rw [Fin.le_def, hq]; omega
      have hval : ((k.cast hN) + (l + 1)).val = l.val + k.val - 63 := by rw [hq]; omega
      have hin : ∀ a : Fin 4, (![0, 0, 0, 63] : Fin 4 → ℕ) a
            ≤ ((ix4 b h n l : (⟨4, ![8, 16, 32, 64]⟩ : Shape).Idx) a).val * (![1, 1, 1, 1] : Fin 4 → ℕ) a
              + ((ix4 (0 : Fin 1) (0 : Fin 1) (0 : Fin 1) (k.cast hN) : (⟨4, ![1, 1, 1, 64]⟩ : Shape).Idx) a).val
          ∧ ((ix4 b h n l : (⟨4, ![8, 16, 32, 64]⟩ : Shape).Idx) a).val * (![1, 1, 1, 1] : Fin 4 → ℕ) a
              + ((ix4 (0 : Fin 1) (0 : Fin 1) (0 : Fin 1) (k.cast hN) : (⟨4, ![1, 1, 1, 64]⟩ : Shape).Idx) a).val
              - (![0, 0, 0, 63] : Fin 4 → ℕ) a < (![8, 16, 32, 64] : Fin 4 → ℕ) a := by
        intro a
        match a with
        | ⟨0, _⟩ => exact ⟨Nat.zero_le _, by show b.val * 1 + 0 - 0 < 8; omega⟩
        | ⟨1, _⟩ => exact ⟨Nat.zero_le _, by show h.val * 1 + 0 - 0 < 16; omega⟩
        | ⟨2, _⟩ => exact ⟨Nat.zero_le _, by show n.val * 1 + 0 - 0 < 32; omega⟩
        | ⟨3, _⟩ => exact ⟨by show 63 ≤ l.val * 1 + k.val; omega, by show l.val * 1 + k.val - 63 < 64; omega⟩
      rw [dif_pos hin]
      dsimp only
      rw [if_pos hle]
      refine congrArg x (funext fun a => Fin.ext ?_)
      match a with
      | ⟨0, _⟩ => show b.val * 1 + 0 - 0 = b.val; omega
      | ⟨1, _⟩ => show h.val * 1 + 0 - 0 = h.val; omega
      | ⟨2, _⟩ => show n.val * 1 + 0 - 0 = n.val; omega
      | ⟨3, _⟩ => show l.val * 1 + k.val - 63 = ((k.cast hN) + (l + 1)).val; rw [hval]; omega
    · have hgt : ¬ (k.cast hN) + (l + 1) ≤ l := by rw [Fin.le_def, hq]; omega
      dsimp only
      rw [if_neg hgt, dif_neg]
      intro hin
      have := (hin 3).1
      change 63 ≤ l.val * 1 + k.val at this
      omega
  show Host.reduceWindow (· + ·) ![1, 1, 1, 64] ![1, 1, 1, 1] ![0, 0, 0, 63] ![0, 0, 0, 0] x
      (fun _ : (⟨0, ![]⟩ : Shape).Idx => init (Shape.Idx.first hu)) hR (by decide) (ix4 b h n l) = _
  rw [hv]
  unfold Host.reduceWindow
  refine (fold _ _ _).trans ?_
  rw [zero_add]
  refine Eq.trans (b := ((List.finRange (⟨4, ![1, 1, 1, 64]⟩ : Shape).numel).map fun k =>
      (fun q : Fin 64 => if q ≤ l then x (ix4 b h n q) else (0 : EReal)) ((k.cast hN) + (l + 1))).sum)
    (congrArg List.sum (List.map_congr_left fun k _ => ?_)) ?_
  · exact step k _ (hs k) _
  rw [← List.ofFn_eq_map, List.sum_ofFn]
  rw [← Equiv.sum_comp (Equiv.addRight (l + 1)) (fun q : Fin 64 => if q ≤ l then x (ix4 b h n q) else (0 : EReal))]
  exact Equiv.sum_comp (finCongr hN) (fun k : Fin 64 => if k + (l + 1) ≤ l then x (ix4 b h n (k + (l + 1))) else (0 : EReal))

end Ssd

end
-- ==== Proof.Ssd.RefChunk.lean ====
/- What the reference computes before its scan, read at an index: the quantities of one head's chunk. -/
module

public import proofs.«01_k».proof.Proof.Gen.ReferenceIdeal.Step
public import proofs.«01_k».proof.Proof.Ssd.Spec
public import proofs.«01_k».proof.Proof.Ssd.Cumulative
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.ReferenceIdeal.Step

open Cert.ReferenceIdeal Cert.ReferenceIdeal.Gen Ssd

variable (x : FVec Ideal S8x2048x1536 .f32) (sm : FVec Ideal S8x2048x128 .f32) (al : FVec Ideal S16 .f32) (db : FVec Ideal S16 .f32)

/-- The step sizes. -/
theorem dt_at (b : Fin 8) (t : Fin 2048) (h : Fin 16) :
    A_main_v14 (F := Ideal) x sm al db (ix3 b t h) = soft (sm (ix3 b t ⟨88 + h.val, by omega⟩) + db (ix1 h)) := by
  pointwise [A_main_v14, A_main_call0_v11, A_main_call0_v10, A_main_call0_v9, A_main_call0_v8, A_main_call0_v7,
    A_main_call0_v6, A_main_call0_v4, A_main_call0_v3, A_main_call0_v1, A_main_v13, A_main_v12, A_main_v11, A_main_v0,
    K_main_call0_v5, K_main_call0_v2, K_main_call0_v0, K_main_call0_cst, soft]
  rw [if_neg (fun hne => hne rfl)]

/-- The step sizes of a chunk. -/
theorem dt_chunk (b : Fin 8) (n : Fin 32) (h : Fin 16) (l : Fin 64) :
    A_main_v14 (F := Ideal) x sm al db (ix3 b ⟨n.val * 64 + l.val, by omega⟩ h) = (chunk x sm al db b n h).dt l :=
  dt_at x sm al db b _ h

/-- The running sums of the decay exponents. -/
theorem cum_at (b : Fin 8) (n : Fin 32) (h : Fin 16) (l : Fin 64) :
    A_main_v22 (F := Ideal) x sm al db (ix4 b h n l) = (chunk x sm al db b n h).cum l := by
  have e : ∀ k : Fin 64, A_main_v21 (F := Ideal) x sm al db (ix4 b h n k)
      = (chunk x sm al db b n h).dt k * -Ideal.exp (chunk x sm al db b n h).a := by
    intro k
    pointwise [A_main_v21, A_main_v20, A_main_v19, A_main_v18, A_main_v17, A_main_v16, A_main_v15]
    rw [dt_chunk]; rfl
  unfold A_main_v22
  refine (cumulative _ _ ?_ _ _ b h n l).trans (Finset.sum_congr rfl fun k _ => ?_)
  · pointwise [K_main_call1_call0_v0, K_main_call1_call0_cst]
  · rw [e k]

/-- The discretised values. -/
theorem xc_at (b : Fin 8) (n : Fin 32) (h : Fin 16) (l : Fin 64) (p : Fin 64) :
    A_main_v27 (F := Ideal) x sm al db (ix5 b h n l p) = (chunk x sm al db b n h).xc l p := by
  pointwise [A_main_v27, A_main_v26, A_main_v25, A_main_v24, A_main_v23, A_main_v2, A_main_v1]
  rw [dt_chunk]; rfl

/-- The input vectors. -/
theorem b_at (b : Fin 8) (n : Fin 32) (h : Fin 16) (l : Fin 64) (d : Fin 128) :
    A_main_v29 (F := Ideal) x sm al db (ix5 b h n l d) = (chunk x sm al db b n h).B l d := by
  pointwise [A_main_v29, A_main_v28, A_main_v8, A_main_v7, A_main_v4, A_main_v3]
  rfl

/-- The output vectors. -/
theorem c_at (b : Fin 8) (n : Fin 32) (h : Fin 16) (l : Fin 64) (d : Fin 128) :
    A_main_v31 (F := Ideal) x sm al db (ix5 b h n l d) = (chunk x sm al db b n h).C l d := by
  pointwise [A_main_v31, A_main_v30, A_main_v10, A_main_v9, A_main_v6, A_main_v5]
  rfl

/-- The lower triangle, as the reference compares the two positions. -/
theorem mask : ∀ l s : Fin 64, Scalar.select (IntOp.cmpi .sge (IntOp.addi (BitVec.ofNat 32 l.val) 0#32) (BitVec.ofNat 32 s.val))
    (1#1) (0#1) = if s ≤ l then 1#1 else 0#1 := by decide +kernel

/-- What the steps of a chunk hand each other. -/
theorem diag_at (b : Fin 8) (n : Fin 32) (h : Fin 16) (l p : Fin 64) :
    A_main_v64 (F := Ideal) x sm al db (ix5 n b h l p) = ∑ s : Fin 64, (∑ d : Fin 128, (chunk x sm al db b n h).C l d
      * (chunk x sm al db b n h).B s d) * (chunk x sm al db b n h).seg l s * (chunk x sm al db b n h).xc s p := by
  pointwise [A_main_v64, A_main_v44, A_main_v43, A_main_v42, A_main_v41, A_main_v40, A_main_v39, A_main_v38, A_main_v37,
    A_main_v36, A_main_v35, A_main_v32, K_main_call4_v2, K_main_call4_v1, K_main_call4_v0, K_main_call3_v2,
    K_main_call3_v1, K_main_call3_v0, K_main_v34, K_main_v33, K_main_c, K_main_call2_v5, K_main_call2_v4,
    K_main_call2_v3, K_main_call2_v2, K_main_call2_v1, K_main_call2_v0, K_main_call2_c_0, K_main_call2_c, K_main_cst,
    K_main_cst_0]
  refine Finset.sum_congr rfl fun s _ => ?_
  rw [mask, xc_at, cum_at, cum_at]
  refine congrArg (· * _) ?_
  refine congrArg₂ (· * ·) (Finset.sum_congr rfl fun d _ => by rw [b_at, c_at]) ?_
  unfold Chunk.seg
  by_cases hs : s ≤ l
  · rw [if_pos hs, if_pos hs]; rfl
  · rw [if_neg hs, if_neg hs]; exact Ideal.ofBits_zero .f32

/-- What a chunk adds to the state. -/
theorem gain_at (b : Fin 8) (n : Fin 32) (h : Fin 16) (p : Fin 64) (d : Fin 128) :
    A_main_v58 (F := Ideal) x sm al db (ix5 n b h p d) = ∑ s : Fin 64, (chunk x sm al db b n h).xc s p
      * ((chunk x sm al db b n h).B s d * Ideal.exp ((chunk x sm al db b n h).cum 63 - (chunk x sm al db b n h).cum s)) := by
  pointwise [A_main_v58, A_main_v52, A_main_v51, A_main_v50, A_main_v49, A_main_v48, A_main_v47, A_main_v46, A_main_v45]
  refine Finset.sum_congr rfl fun s _ => ?_
  rw [xc_at, b_at, cum_at, cum_at]

/-- The output vectors, decayed from the chunk's start. -/
theorem cdec_at (b : Fin 8) (n : Fin 32) (h : Fin 16) (l : Fin 64) (d : Fin 128) :
    A_main_v63 (F := Ideal) x sm al db (ix5 n b h l d)
      = (chunk x sm al db b n h).C l d * Ideal.exp ((chunk x sm al db b n h).cum l) := by
  pointwise [A_main_v63, A_main_v56, A_main_v55, A_main_v54, A_main_v53]
  rw [c_at, cum_at]

/-- The decay over a whole chunk. -/
theorem dec_at (b : Fin 8) (n : Fin 32) (h : Fin 16) :
    A_main_v62 (F := Ideal) x sm al db (ix3 n b h) = Ideal.exp ((chunk x sm al db b n h).cum 63) := by
  pointwise [A_main_v62, A_main_v61, A_main_v60, A_main_v59]
  rw [cum_at]

end Cert.ReferenceIdeal.Step

end
-- ==== Proof.Ssd.RefScan.lean ====
/- The reference's scan over the chunks, read at an index. -/
module

public import proofs.«01_k».proof.Proof.Ssd.RefLoop
public import proofs.«01_k».proof.Proof.Ssd.RefChunk
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.ReferenceIdeal.Step

open Cert.ReferenceIdeal Cert.ReferenceIdeal.Gen Cert.ReferenceIdeal.Loop Ssd

theorem toInt_trip (j : Fin 32) : (BitVec.ofNat 32 j.val).toInt = ((j.val : ℕ) : Int) := by
  revert j; decide

/-- The start of a trip's row in a stack of rank five: the trip's number along the first axis, zero along the others. -/
def start5 (j : Fin 32) : Fin 5 → Int := fun k =>
  ((![constantI S_ 32 (BitVec.ofNat 32 j.val), constantI S_ 32 0#32, constantI S_ 32 0#32, constantI S_ 32 0#32,
    constantI S_ 32 0#32] : Fin 5 → (⟨S_, .i32⟩ : BufTy).Contents (Elt Ideal)) k (Shape.Idx.first h_S_)).toInt

theorem start5_eq (j : Fin 32) (a : Fin 5) : start5 j a = (((![j.val, 0, 0, 0, 0] : Fin 5 → ℕ) a : ℕ) : Int) := by
  match a with
  | ⟨0, _⟩ => exact toInt_trip j
  | ⟨1, _⟩ => rfl
  | ⟨2, _⟩ => rfl
  | ⟨3, _⟩ => rfl
  | ⟨4, _⟩ => rfl

/-- The same in a stack of rank three. -/
def start3 (j : Fin 32) : Fin 3 → Int := fun k =>
  ((![constantI S_ 32 (BitVec.ofNat 32 j.val), constantI S_ 32 0#32, constantI S_ 32 0#32]
    : Fin 3 → (⟨S_, .i32⟩ : BufTy).Contents (Elt Ideal)) k (Shape.Idx.first h_S_)).toInt

theorem start3_eq (j : Fin 32) (a : Fin 3) : start3 j a = (((![j.val, 0, 0] : Fin 3 → ℕ) a : ℕ) : Int) := by
  match a with
  | ⟨0, _⟩ => exact toInt_trip j
  | ⟨1, _⟩ => rfl
  | ⟨2, _⟩ => rfl

/-- A trip's row, cut out of a stack of rank five. -/
theorem row5 {L D : ℕ} (j : Fin 32) (v : FVec Ideal ⟨5, ![32, 8, 16, L, D]⟩ .f32)
    (hf : (⟨5, ![32, 8, 16, L, D]⟩ : Shape).Slices (fun _ => 0) ⟨5, ![1, 8, 16, L, D]⟩)
    (b : Fin 8) (h : Fin 16) (l : Fin L) (d : Fin D) :
    Host.dynamicSlice ⟨5, ![1, 8, 16, L, D]⟩ v (start5 j) hf (ix5 (0 : Fin 1) b h l d) = v (ix5 j b h l d) := by
  have hj := j.isLt
  have e : ∀ a : Fin 5, Host.clampedStart ⟨5, ![32, 8, 16, L, D]⟩ ⟨5, ![1, 8, 16, L, D]⟩ hf.1 (start5 j) a
      = (![j.val, 0, 0, 0, 0] : Fin 5 → ℕ) a := fun a =>
    Host.clampedStart_of_le hf.1 (start5 j) a _ (start5_eq j a) (by
      match a with
      | ⟨0, _⟩ => show j.val + 1 ≤ 32; omega
      | ⟨1, _⟩ => show 0 + 8 ≤ 8; omega
      | ⟨2, _⟩ => show 0 + 16 ≤ 16; omega
      | ⟨3, _⟩ => show 0 + L ≤ L; omega
      | ⟨4, _⟩ => show 0 + D ≤ D; omega)
  rw [Host.dynamicSlice_apply]
  refine congrArg v (funext fun a => Fin.ext ?_)
  match a with
  | ⟨0, _⟩ => exact (congrArg (· + 0) (e 0)).trans (Nat.add_zero _)
  | ⟨1, _⟩ => exact (congrArg (· + b.val) (e 1)).trans (Nat.zero_add _)
  | ⟨2, _⟩ => exact (congrArg (· + h.val) (e 2)).trans (Nat.zero_add _)
  | ⟨3, _⟩ => exact (congrArg (· + l.val) (e 3)).trans (Nat.zero_add _)
  | ⟨4, _⟩ => exact (congrArg (· + d.val) (e 4)).trans (Nat.zero_add _)

/-- A trip's row, cut out of a stack of rank three. -/
theorem row3 (j : Fin 32) (v : FVec Ideal ⟨3, ![32, 8, 16]⟩ .f32)
    (hf : (⟨3, ![32, 8, 16]⟩ : Shape).Slices (fun _ => 0) ⟨3, ![1, 8, 16]⟩) (b : Fin 8) (h : Fin 16) :
    Host.dynamicSlice ⟨3, ![1, 8, 16]⟩ v (start3 j) hf (ix3 (0 : Fin 1) b h) = v (ix3 j b h) := by
  have hj := j.isLt
  have e : ∀ a : Fin 3, Host.clampedStart ⟨3, ![32, 8, 16]⟩ ⟨3, ![1, 8, 16]⟩ hf.1 (start3 j) a
      = (![j.val, 0, 0] : Fin 3 → ℕ) a := fun a =>
    Host.clampedStart_of_le hf.1 (start3 j) a _ (start3_eq j a) (by
      match a with
      | ⟨0, _⟩ => show j.val + 1 ≤ 32; omega
      | ⟨1, _⟩ => show 0 + 8 ≤ 8; omega
      | ⟨2, _⟩ => show 0 + 16 ≤ 16; omega)
  rw [Host.dynamicSlice_apply]
  refine congrArg v (funext fun a => Fin.ext ?_)
  match a with
  | ⟨0, _⟩ => exact (congrArg (· + 0) (e 0)).trans (Nat.add_zero _)
  | ⟨1, _⟩ => exact (congrArg (· + b.val) (e 1)).trans (Nat.zero_add _)
  | ⟨2, _⟩ => exact (congrArg (· + h.val) (e 2)).trans (Nat.zero_add _)

/-- A stack after a trip's row is written: that row is the trip's, the others are as they were. -/
theorem write5 (j n : Fin 32) (v : FVec Ideal ⟨5, ![32, 8, 16, 64, 64]⟩ .f32) (r : FVec Ideal ⟨5, ![1, 8, 16, 64, 64]⟩ .f32)
    (hf : (⟨5, ![32, 8, 16, 64, 64]⟩ : Shape).Slices (fun _ => 0) ⟨5, ![1, 8, 16, 64, 64]⟩)
    (b : Fin 8) (h : Fin 16) (l p : Fin 64) :
    Host.dynamicUpdateSlice v r (start5 j) hf (ix5 n b h l p)
      = if n = j then r (ix5 (0 : Fin 1) b h l p) else v (ix5 n b h l p) := by
  have hj := j.isLt
  have e : ∀ a : Fin 5, Host.clampedStart ⟨5, ![32, 8, 16, 64, 64]⟩ ⟨5, ![1, 8, 16, 64, 64]⟩ hf.1 (start5 j) a
      = (![j.val, 0, 0, 0, 0] : Fin 5 → ℕ) a := fun a =>
    Host.clampedStart_of_le hf.1 (start5 j) a _ (start5_eq j a) (by
      match a with
      | ⟨0, _⟩ => show j.val + 1 ≤ 32; omega
      | ⟨1, _⟩ => show 0 + 8 ≤ 8; omega
      | ⟨2, _⟩ => show 0 + 16 ≤ 16; omega
      | ⟨3, _⟩ => show 0 + 64 ≤ 64; omega
      | ⟨4, _⟩ => show 0 + 64 ≤ 64; omega)
  rw [Host.dynamicUpdateSlice_apply]
  by_cases hn : n = j
  · subst hn
    rw [if_pos rfl, dif_pos]
    · refine congrArg r (funext fun a => Fin.ext ?_)
      match a with
      | ⟨0, _⟩ => exact (congrArg (n.val - ·) (e 0)).trans (Nat.sub_self _)
      | ⟨1, _⟩ => exact (congrArg (b.val - ·) (e 1)).trans (Nat.sub_zero _)
      | ⟨2, _⟩ => exact (congrArg (h.val - ·) (e 2)).trans (Nat.sub_zero _)
      | ⟨3, _⟩ => exact (congrArg (l.val - ·) (e 3)).trans (Nat.sub_zero _)
      | ⟨4, _⟩ => exact (congrArg (p.val - ·) (e 4)).trans (Nat.sub_zero _)
    · intro a
      rw [e a]
      match a with
      | ⟨0, _⟩ => exact ⟨le_refl n.val, by show n.val < n.val + 1; omega⟩
      | ⟨1, _⟩ => exact ⟨Nat.zero_le _, by show b.val < 0 + 8; omega⟩
      | ⟨2, _⟩ => exact ⟨Nat.zero_le _, by show h.val < 0 + 16; omega⟩
      | ⟨3, _⟩ => exact ⟨Nat.zero_le _, by show l.val < 0 + 64; omega⟩
      | ⟨4, _⟩ => exact ⟨Nat.zero_le _, by show p.val < 0 + 64; omega⟩
  · rw [if_neg hn, dif_neg]
    intro hin
    have h0 := hin 0
    rw [e 0] at h0
    change j.val ≤ n.val ∧ n.val < j.val + 1 at h0
    exact hn (Fin.ext (by omega))

variable (m : (ℓ : Loc nD τ sig) → Buf (Elt Ideal) ℓ) (c : Dev nD)

/-- The four arrays the scan reads. -/
abbrev argX : FVec Ideal S8x2048x1536 .f32 := m ((c.tc : Thread nD τ).loc main_arg0)
abbrev argS : FVec Ideal S8x2048x128 .f32 := m ((c.tc : Thread nD τ).loc main_arg2)
abbrev argA : FVec Ideal S16 .f32 := m ((c.tc : Thread nD τ).loc main_arg3)
abbrev argD : FVec Ideal S16 .f32 := m ((c.tc : Thread nD τ).loc main_arg4)

/-- No trip changes what the scan reads. -/
theorem states_fixed (k : ℕ) : (states m c k).main_v66_0 = A_main_v58 (argX m c) (argS m c) (argA m c) (argD m c)
    ∧ (states m c k).main_v66_1 = A_main_v62 (argX m c) (argS m c) (argA m c) (argD m c)
    ∧ (states m c k).main_v66_2 = A_main_v63 (argX m c) (argS m c) (argA m c) (argD m c)
    ∧ (states m c k).main_v66_3 = A_main_v64 (argX m c) (argS m c) (argA m c) (argD m c) := by
  induction k with
  | zero => exact ⟨rfl, rfl, rfl, rfl⟩
  | succ k ih => exact ih

/-- The carried state after a trip. -/
theorem carried_next (j : Fin 32) (s : State Ideal) (b : Fin 8) (h : Fin 16) (p : Fin 64) (d : Fin 128) :
    (step j.val s).main_v66_5 (ix4 b h p d)
      = s.main_v66_5 (ix4 b h p d) * s.main_v66_1 (ix3 j b h) + s.main_v66_0 (ix5 j b h p d) := by
  rw [← row5 j s.main_v66_0 sliceFits_S32x8x16x64x128_S1x8x16x64x128 b h p d,
    ← row3 j s.main_v66_1 sliceFits_S32x8x16_S1x8x16 b h]
  show b27 j.val s (ix4 b h p d) = _
  unfold b27 b26 b25 b24 b9 b5
  have e4 : b4 j.val s = Host.dynamicSlice S1x8x16x64x128 s.main_v66_0 (start5 j) sliceFits_S32x8x16x64x128_S1x8x16x64x128 := rfl
  have e8 : b8 j.val s = Host.dynamicSlice S1x8x16 s.main_v66_1 (start3 j) sliceFits_S32x8x16_S1x8x16 := rfl
  rw [e4, e8]
  generalize Host.dynamicSlice S1x8x16x64x128 s.main_v66_0 (start5 j) sliceFits_S32x8x16x64x128_S1x8x16x64x128 = u
  generalize Host.dynamicSlice S1x8x16 s.main_v66_1 (start3 j) sliceFits_S32x8x16_S1x8x16 = w
  pointwise!

/-- The outputs after a trip. -/
theorem outputs_next (j : Fin 32) (s : State Ideal) (n : Fin 32) (b : Fin 8) (h : Fin 16) (l p : Fin 64) :
    (step j.val s).main_v66_6 (ix5 n b h l p)
      = if n = j then s.main_v66_3 (ix5 j b h l p)
          + ∑ d : Fin 128, s.main_v66_2 (ix5 j b h l d) * s.main_v66_5 (ix4 b h p d)
        else s.main_v66_6 (ix5 n b h l p) := by
  show b33 j.val s (ix5 n b h l p) = _
  have e : b33 j.val s = Host.dynamicUpdateSlice s.main_v66_6 (b28 j.val s) (start5 j) updateFits_S32x8x16x64x64_S1x8x16x64x64 := rfl
  rw [e]
  refine (write5 j n _ _ _ b h l p).trans ?_
  refine if_congr Iff.rfl ?_ rfl
  have hr : ∀ d : Fin 128, s.main_v66_2 (ix5 j b h l d) = _ := fun d =>
    (row5 j s.main_v66_2 sliceFits_S32x8x16x64x128_S1x8x16x64x128 b h l d).symm
  rw [← row5 j s.main_v66_3 sliceFits_S32x8x16x64x64_S1x8x16x64x64 b h l p]
  simp only [hr]
  unfold b28 b23 b22 b21 b15
  have e14 : b14 j.val s = Host.dynamicSlice S1x8x16x64x128 s.main_v66_2 (start5 j) sliceFits_S32x8x16x64x128_S1x8x16x64x128 := rfl
  have e20 : b20 j.val s = Host.dynamicSlice S1x8x16x64x64 s.main_v66_3 (start5 j) sliceFits_S32x8x16x64x64_S1x8x16x64x64 := rfl
  rw [e14, e20]
  generalize Host.dynamicSlice S1x8x16x64x128 s.main_v66_2 (start5 j) sliceFits_S32x8x16x64x128_S1x8x16x64x128 = u
  generalize Host.dynamicSlice S1x8x16x64x64 s.main_v66_3 (start5 j) sliceFits_S32x8x16x64x64_S1x8x16x64x64 = w
  pointwise!

/-- The carried states are the scan's. -/
theorem carried_at (k : ℕ) (hk : k ≤ 32) (b : Fin 8) (h : Fin 16) (p : Fin 64) (d : Fin 128) :
    (states m c k).main_v66_5 (ix4 b h p d)
      = state (argX m c) (argS m c) (argA m c) (argD m c) b h k p d := by
  induction k generalizing p d with
  | zero =>
    show K_main_v57 (F := Ideal) (ix4 b h p d) = (0 : EReal)
    pointwise [K_main_v57, K_main_cst_1]
  | succ k ih =>
    have hm : k % 32 = k := Nat.mod_eq_of_lt (by omega)
    obtain ⟨f0, f1, _, _⟩ := states_fixed m c k
    refine (carried_next ⟨k, by omega⟩ (states m c k) b h p d).trans ?_
    rw [ih (by omega), f0, f1]
    rw [gain_at, dec_at]
    have hc : (⟨k % 32, by omega⟩ : Fin 32) = ⟨k, by omega⟩ := Fin.ext hm
    show _ = (chunk (argX m c) (argS m c) (argA m c) (argD m c) b ⟨k % 32, by omega⟩ h).next _ p d
    rw [hc]
    rfl

/-- The outputs the trips have written are the scan's. -/
theorem outputs_at (k : ℕ) (hk : k ≤ 32) (n : Fin 32) (hn : n.val < k) (b : Fin 8) (h : Fin 16) (l p : Fin 64) :
    (states m c k).main_v66_6 (ix5 n b h l p)
      = scan (argX m c) (argS m c) (argA m c) (argD m c) b n h l p := by
  induction k with
  | zero => omega
  | succ k ih =>
    obtain ⟨_, _, f2, f3⟩ := states_fixed m c k
    refine (outputs_next ⟨k, by omega⟩ (states m c k) n b h l p).trans ?_
    by_cases he : n.val = k
    · subst he
      refine (if_pos rfl).trans ?_
      rw [f2, f3]
      refine congrArg₂ (· + ·) (diag_at _ _ _ _ b n h l p) (Finset.sum_congr rfl fun d _ => ?_)
      exact congrArg₂ (· * ·) (cdec_at _ _ _ _ b n h l d) (carried_at m c n.val (by omega) b h p d)
    · rw [if_neg fun h => he (congrArg Fin.val h)]
      exact ih (by omega) (by omega)

end Cert.ReferenceIdeal.Step

end
-- ==== Proof.Ssd.Norm.lean ====
/- The gate and the grouped normalisation that follow the scan, as plain formulas. -/
module

public import proofs.«01_k».proof.Proof.Ssd.Spec
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Ssd

/-- A value, gated: the scan's output and the skipped input, times the gate's `silu`. -/
def gate (s d x z : EReal) : EReal := (s + d * x) * (z * Ideal.div 1 (1 + Ideal.exp (-z)))

/-- The normalisation over groups of 512 lanes. -/
def normed (w : Fin 1024 → EReal) (g : EReal) (i : Fin 1024) : EReal :=
  w i * Ideal.rsqrt (Ideal.div (∑ j : Fin 512, w ⟨i.val / 512 * 512 + j.val, by omega⟩ * w ⟨i.val / 512 * 512 + j.val, by omega⟩)
    (Ideal.ofBits .f32 0x44000000#32) + Ideal.ofBits .f32 0x358637BD#32) * g

end Ssd

end
-- ==== Proof.Ssd.RefResult.lean ====
/- What the reference makes of the scan's outputs, read at an index. -/
module

public import proofs.«01_k».proof.Proof.Ssd.RefScan
public import proofs.«01_k».proof.Proof.Ssd.Norm
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.ReferenceIdeal.Step

open Cert.ReferenceIdeal Cert.ReferenceIdeal.Gen Cert.ReferenceIdeal.Loop Ssd

/-- What the reference makes of the scan's outputs: skip, gate and normalisation. -/
theorem tail_at (s : State Ideal) (x : FVec Ideal S8x2048x1536 .f32) (z : FVec Ideal S8x2048x11520 .bf16)
    (dk : FVec Ideal S16 .f32) (g : FVec Ideal S1024 .f32) (b : Fin 8) (t : Fin 2048) (i : Fin 1024) :
    R_main_v98 s x z dk g (ix3 b t i)
      = normed (fun q => gate (s.main_v66_6 (ix5 ⟨t.val / 64, by omega⟩ b ⟨q.val / 64, by omega⟩ ⟨t.val % 64, by omega⟩ ⟨q.val % 64, by omega⟩))
          (dk (ix1 ⟨q.val / 64, by omega⟩)) (x (ix3 b t ⟨q.val, by omega⟩)) (z (ix3 b t ⟨8192 + q.val, by omega⟩))) (g (ix1 i)) i := by
  have key : ∀ (q : Fin 1024) (r : ℕ) (hr : r < 1536), r = q.val → x (ix3 b t ⟨r, hr⟩) = x (ix3 b t ⟨q.val, by omega⟩) := by
    intro q r hr e; subst e; rfl
  pointwise [R_main_v98]
  simp only [Nat.div_add_mod']
  rfl

end Cert.ReferenceIdeal.Step

end
-- ==== Proof.Ssd.Head.lean ====
/- One head of one chunk, as the kernel computes it from its blocks, and what that is at an index. -/
module

public import proofs.«01_k».proof.Proof.Gen.KernelIdeal.Value
public import proofs.«01_k».proof.Proof.Ssd.Spec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Cert.KernelIdeal.Head

open Cert.KernelIdeal Cert.KernelIdeal.Gen Ssd

theorem col_slices : ∀ h : Fin 16, S64x128.Slices ![0, 88 + h.val] S64x1 := by decide
theorem row_slices : ∀ h : Fin 16, S128x64.Slices ![88 + h.val, 0] S1x64 := by decide
theorem cell_slices : ∀ h : Fin 16, S1x128.Slices ![0, 88 + h.val] S1x1 := by decide

/-- The lower triangle, as the kernel compares the two positions. -/
def lower : IVec S64x64 1 :=
  cmpi .sge (iota .tc S64x64 32 [0] iota_S64x64_d0_w32) (iota .tc S64x64 32 [1] iota_S64x64_d1_w32)

/-- A head's column of a matrix whose lanes are the heads. -/
def lane (h : Fin 16) (v : FVec Ideal S64x128 .f32) : FVec Ideal S64x1 .f32 :=
  extractStridedSlice S64x1 ![0, 88 + h.val] v (col_slices h)

/-- A head's discretised values. -/
def xc (h : Fin 16) (dtv : FVec Ideal S64x128 .f32) (X : FVec Ideal S1x64x64 .f32) : FVec Ideal S64x64 .f32 :=
  mulf (shapeCast S64x64 X shapeCasts_S1x64x64_S64x64) (broadcastTo S64x64 (lane h dtv) broadcasts_S64x1_S64x64)

/-- A head's decays from step to step. -/
def seg (h : Fin 16) (cum : FVec Ideal S64x128 .f32) : FVec Ideal S64x64 .f32 :=
  select lower (exp (select lower (subf (broadcastTo S64x64 (lane h cum) broadcasts_S64x1_S64x64)
      (broadcastTo S64x64 (extractStridedSlice S1x64 ![88 + h.val, 0] (k0_pay5 cum) (row_slices h)) broadcasts_S1x64_S64x64))
    (broadcast S64x64 (Scalar.ofBits .f32 0x00000000#32)))) (broadcast S64x64 (Scalar.ofBits .f32 0x00000000#32))

/-- A head's output in one chunk. -/
def y (h : Fin 16) (cum dtv : FVec Ideal S64x128 .f32) (X : FVec Ideal S1x64x64 .f32) (B C S : FVec Ideal S1x64x128 .f32) :
    FVec Ideal S64x64 .f32 :=
  addf
    (matmul dot_S64x64_S64x64_S64x64_1_0_0_1_n_n none (mulf (k0_pay14 B C) (seg h cum)) (xc h dtv X)
      (constant S64x64 .f32 0x00000000#32))
    (matmul dot_S64x128_S64x128_S64x64_1_1_0_0_n_n none
      (mulf (k0_pay12 C) (broadcastTo S64x128 (lane h (k0_pay7 cum)) broadcasts_S64x1_S64x128))
      (shapeCast S64x128 S shapeCasts_S1x64x128_S64x128) (constant S64x64 .f32 0x00000000#32))

/-- A head's state after one chunk. -/
def next (h : Fin 16) (cum dtv : FVec Ideal S64x128 .f32) (X : FVec Ideal S1x64x64 .f32) (B S : FVec Ideal S1x64x128 .f32) :
    FVec Ideal S1x64x128 .f32 :=
  shapeCast S1x64x128 (addf
    (mulf (shapeCast S64x128 S shapeCasts_S1x64x128_S64x128) (broadcastTo S64x128
      (extractStridedSlice S1x1 ![0, 88 + h.val] (k0_pay9 cum) (cell_slices h)) broadcasts_S1x1_S64x128))
    (matmul dot_S64x64_S64x128_S64x128_0_0_1_1_n_n none (xc h dtv X)
      (mulf (k0_pay10 B) (broadcastTo S64x128 (lane h (k0_pay8 cum)) broadcasts_S64x1_S64x128))
      (constant S64x128 .f32 0x00000000#32))) shapeCasts_S64x128_S1x64x128

/-- The kernel's comparison of two positions. -/
theorem sge_at : ∀ l s : Fin 64, IntOp.cmpi .sge (BitVec.ofNat 32 l.val) (BitVec.ofNat 32 s.val) = if s ≤ l then 1#1 else 0#1 := by
  decide +kernel

/-- The heads' lanes are the ones the kernel keeps. -/
theorem lane_kept : ∀ h : Fin 16, IntOp.andi (IntOp.cmpi .sge (BitVec.ofNat 32 (88 + h.val)) 88#32)
    (IntOp.cmpi .slt (BitVec.ofNat 32 (88 + h.val)) 104#32) = 1#1 := by
  decide +kernel

/-- The step sizes. -/
theorem dt_at (sm : FVec Ideal S1x64x128 .f32) (bi : FVec Ideal S1x128 .f32) (l : Fin 64) (j : Fin 128) :
    k0_pay3 (F := Ideal) sm bi (ix2 l j) = soft (sm (ix3 0 l j) + bi (ix2 0 j)) := by
  pointwise [k0_pay3, soft]
  simp only [zero_sub]
  rfl

/-- The triangle's bits, as numbers. -/
theorem bit_one : FloatOps.sitofp (F := Ideal) FTy.f32 (BitVec.setWidth 32 1#1) = (1 : EReal) := by
  show (((BitVec.setWidth 32 1#1).toInt : ℝ) : EReal) = 1
  have h : (BitVec.setWidth 32 1#1).toInt = 1 := by decide
  rw [h, Int.cast_one]; rfl

theorem bit_zero : FloatOps.sitofp (F := Ideal) FTy.f32 (BitVec.setWidth 32 0#1) = (0 : EReal) := by
  show (((BitVec.setWidth 32 0#1).toInt : ℝ) : EReal) = 0
  have h : (BitVec.setWidth 32 0#1).toInt = 0 := by decide
  rw [h, Int.cast_zero]; rfl

/-- The running sums of the decay exponents. -/
theorem cum_at (sm : FVec Ideal S1x64x128 .f32) (bi al : FVec Ideal S1x128 .f32) (l : Fin 64) (h : Fin 16) :
    k0_pay4 (F := Ideal) sm bi al (ix2 l ⟨88 + h.val, by omega⟩) = ∑ k : Fin 64, if k ≤ l then
      soft (sm (ix3 0 k ⟨88 + h.val, by omega⟩) + bi (ix2 0 ⟨88 + h.val, by omega⟩)) * -Ideal.exp (al (ix2 0 ⟨88 + h.val, by omega⟩)) else 0 := by
  pointwise [k0_pay4]
  refine Finset.sum_congr rfl fun k _ => ?_
  rw [lane_kept h, sge_at l k, dt_at]
  simp only [zero_sub]
  by_cases hk : k ≤ l
  · rw [if_pos hk, if_pos hk, bit_one]; exact one_mul _
  · rw [if_neg hk, if_neg hk, bit_zero]; exact zero_mul _

theorem xc_at (h : Fin 16) (dtv : FVec Ideal S64x128 .f32) (X : FVec Ideal S1x64x64 .f32) (l p : Fin 64) :
    xc h dtv X (ix2 l p) = X (ix3 0 l p) * dtv (ix2 l ⟨88 + h.val, by omega⟩) := by
  pointwise [xc, lane]

theorem seg_at (h : Fin 16) (cum : FVec Ideal S64x128 .f32) (l s : Fin 64) : seg h cum (ix2 l s)
    = if s ≤ l then Ideal.exp (cum (ix2 l ⟨88 + h.val, by omega⟩) - cum (ix2 s ⟨88 + h.val, by omega⟩)) else 0 := by
  pointwise [seg, lane, lower, k0_pay5]
  rw [sge_at]
  by_cases hs : s ≤ l
  · rw [if_pos hs, if_pos hs]; rfl
  · rw [if_neg hs, if_neg hs]; rfl

/-- A head's output in one chunk, at an index. -/
theorem y_at (h : Fin 16) (cum dtv : FVec Ideal S64x128 .f32) (X : FVec Ideal S1x64x64 .f32) (B C S : FVec Ideal S1x64x128 .f32)
    (l p : Fin 64) : y h cum dtv X B C S (ix2 l p)
      = (∑ s : Fin 64, (∑ d : Fin 128, C (ix3 0 l d) * B (ix3 0 s d)) * seg h cum (ix2 l s) * xc h dtv X (ix2 s p))
        + ∑ d : Fin 128, C (ix3 0 l d) * Ideal.exp (cum (ix2 l ⟨88 + h.val, by omega⟩)) * S (ix3 0 p d) := by
  pointwise! [y, lane, k0_pay14, k0_pay12, k0_pay10, k0_pay7]

/-- A head's state after one chunk, at an index. -/
theorem next_at (h : Fin 16) (cum dtv : FVec Ideal S64x128 .f32) (X : FVec Ideal S1x64x64 .f32) (B S : FVec Ideal S1x64x128 .f32)
    (p : Fin 64) (d : Fin 128) : next h cum dtv X B S (ix3 0 p d)
      = S (ix3 0 p d) * Ideal.exp (cum (ix2 63 ⟨88 + h.val, by omega⟩))
        + ∑ s : Fin 64, xc h dtv X (ix2 s p) * (B (ix3 0 s d)
          * Ideal.exp (cum (ix2 63 ⟨88 + h.val, by omega⟩) - cum (ix2 s ⟨88 + h.val, by omega⟩))) := by
  pointwise! [next, lane, k0_pay10, k0_pay9, k0_pay8, k0_pay6]

section OfChunk

variable (K : Chunk) (h : Fin 16) {cum dtv : FVec Ideal S64x128 .f32} {X : FVec Ideal S1x64x64 .f32} {B C S : FVec Ideal S1x64x128 .f32}
  (hcum : ∀ l, cum (ix2 l ⟨88 + h.val, by omega⟩) = K.cum l) (hdt : ∀ l, dtv (ix2 l ⟨88 + h.val, by omega⟩) = K.dt l)
  (hX : ∀ l p, X (ix3 0 l p) = K.X l p) (hB : ∀ l d, B (ix3 0 l d) = K.B l d)

include hdt hX in
theorem xc_chunk (l p : Fin 64) : xc h dtv X (ix2 l p) = K.xc l p := by
  rw [xc_at, hX, hdt]; rfl

include hcum hdt hX hB in
/-- The head's output is the chunk's. -/
theorem y_chunk (hC : ∀ l d, C (ix3 0 l d) = K.C l d) (T : Fin 64 → Fin 128 → EReal) (hS : ∀ p d, S (ix3 0 p d) = T p d)
    (l p : Fin 64) : y h cum dtv X B C S (ix2 l p) = K.y T l p := by
  rw [y_at]
  refine congrArg₂ (· + ·) (Finset.sum_congr rfl fun s _ => ?_) (Finset.sum_congr rfl fun d _ => ?_)
  · refine congrArg₂ (· * ·) (congrArg₂ (· * ·) (Finset.sum_congr rfl fun d _ => ?_) ?_) (xc_chunk K h hdt hX s p)
    · rw [hC, hB]
    · rw [seg_at, hcum, hcum]; rfl
  · rw [hC, hcum, hS]

include hcum hdt hX hB in
/-- The head's next state is the chunk's. -/
theorem next_chunk (T : Fin 64 → Fin 128 → EReal) (hS : ∀ p d, S (ix3 0 p d) = T p d) (p : Fin 64) (d : Fin 128) :
    next h cum dtv X B S (ix3 0 p d) = K.next T p d := by
  rw [next_at, hS, hcum]
  refine congrArg₂ (· + ·) rfl (Finset.sum_congr rfl fun s _ => ?_)
  rw [xc_chunk K h hdt hX s p, hB, hcum]

end OfChunk

end Cert.KernelIdeal.Head

end
-- ==== Proof.Ssd.Tail.lean ====
/- What the kernel makes of the sixteen heads' outputs of one chunk: skip, gate and normalisation, at an index. -/
module

public import proofs.«01_k».proof.Proof.Gen.KernelIdeal.Value
public import proofs.«01_k».proof.Proof.Ssd.Norm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Cert.KernelIdeal.Head

open Cert.KernelIdeal Cert.KernelIdeal.Gen Ssd

/-- The sixteen heads' outputs side by side, with the skipped inputs. -/
def skip (Y : Fin 16 → FVec Ideal S64x64 .f32) (dk : FVec Ideal S1x1024 .f32) (x : FVec Ideal S1x64x1024 .f32) : FVec Ideal S64x1024 .f32 :=
  k0_pay98 (Y 0) (Y 1) (Y 2) (Y 3) (Y 4) (Y 5) (Y 6) (Y 7) (Y 8) (Y 9) (Y 10) (Y 11) (Y 12) (Y 13) (Y 14) (Y 15) dk x

theorem skip_at (Y : Fin 16 → FVec Ideal S64x64 .f32) (dk : FVec Ideal S1x1024 .f32) (x : FVec Ideal S1x64x1024 .f32)
    (l : Fin 64) (q : Fin 1024) : skip Y dk x (ix2 l q)
      = Y ⟨q.val / 64, by omega⟩ (ix2 l ⟨q.val % 64, by omega⟩) + dk (ix2 0 q) * x (ix3 0 l q) := by
  have hc : concatenate S64x1024 1 (List.ofFn fun n : Fin 16 => (⟨S64x64, Y n⟩ : (s : Shape) × (s.Idx → EReal)))
      concatenates_S64x64_S64x64_S64x64_S64x64_S64x64_S64x64_S64x64_S64x64_S64x64_S64x64_S64x64_S64x64_S64x64_S64x64_S64x64_S64x64_S64x1024_d1
      (ix2 l q) = Y ⟨q.val / 64, by omega⟩ (ix2 l ⟨q.val % 64, by omega⟩) :=
    concatenate_ofFn_apply (s₁ := S64x64) (t := S64x1024) 1 Y _ rfl 64 rfl (ix2 l q) ⟨q.val / 64, by omega⟩ rfl _ rfl
      (fun b hb => by fin_cases b; · rfl
                      · exact absurd rfl hb)
  have hb : mulf (F := Ideal) (broadcastTo S64x1024 (shapeCast S1x1024 dk shapeCasts_S1x1024_S1x1024) broadcasts_S1x1024_S64x1024)
      (shapeCast S64x1024 x shapeCasts_S1x64x1024_S64x1024) (ix2 l q) = dk (ix2 0 q) * x (ix3 0 l q) := by
    pointwise
  exact congrArg₂ (fun u v : EReal => u + v) hc hb

/-- The gate. -/
theorem gate_at (V : FVec Ideal S64x1024 .f32) (Z : FVec Ideal S1x64x1024 .bf16) (l : Fin 64) (q : Fin 1024) :
    k0_pay99 (F := Ideal) V Z (ix2 l q) = V (ix2 l q) * (Z (ix3 0 l q) * Ideal.div 1 (1 + Ideal.exp (-Z (ix3 0 l q)))) := by
  pointwise [k0_pay99]
  simp only [zero_sub]

/-- The normalisation of the first 512 lanes. -/
theorem low_at (V : FVec Ideal S64x1024 .f32) (Z : FVec Ideal S1x64x1024 .bf16) (g : FVec Ideal S1x512 .f32) (l : Fin 64)
    (j : Fin 512) : k0_pay100 (F := Ideal) V Z g (ix3 0 l j)
      = normed (fun q => k0_pay99 (F := Ideal) V Z (ix2 l q)) (g (ix2 0 j)) ⟨j.val, by omega⟩ := by
  have hj : j.val / 512 * 512 = 0 := by omega
  unfold k0_pay100 normed
  generalize k0_pay99 V Z = W
  pointwise
  simp only [hj, Nat.zero_add]

/-- The normalisation of the last 512 lanes. -/
theorem high_at (V : FVec Ideal S64x1024 .f32) (Z : FVec Ideal S1x64x1024 .bf16) (g : FVec Ideal S1x512 .f32) (l : Fin 64)
    (j : Fin 512) : k0_pay1 (F := Ideal) (k0_pay101 V Z) (k0_pay102 g) (ix3 0 l j)
      = normed (fun q => k0_pay99 (F := Ideal) V Z (ix2 l q)) (g (ix2 0 j)) ⟨512 + j.val, by omega⟩ := by
  have hj : (512 + j.val) / 512 * 512 = 512 := by omega
  unfold k0_pay1 k0_pay101 k0_pay102 normed
  generalize k0_pay99 V Z = W
  pointwise
  simp only [hj]

end Cert.KernelIdeal.Head

end
-- ==== Proof.Ssd.Block.lean ====
/- What one grid point of the kernel leaves in its two buffers, head by head, from the blocks it reads. -/
module

public import proofs.«01_k».proof.Proof.Ssd.Head
public import proofs.«01_k».proof.Proof.Ssd.Tail
public import Idealize.ShloMosaic.Lib.Pipeline.ReadBack

@[expose] public section

set_option maxRecDepth 16384

noncomputable section

open Idealize.ShloMosaic Idealize.ShloMosaic.TcCoe Idealize.SL.Sem Idealize.ShloMosaic.StableHlo
open Idealize.ShloMosaic.Pipeline (Dat)

namespace Cert.KernelIdeal.Head

open Cert.KernelIdeal Cert.KernelIdeal.Gen Ssd

theorem inb_X : ∀ h : Fin 16, ∀ a, (![0, 0, 64 * h.val] : Fin 3 → ℕ) a + (![1, 64, 64] : Fin 3 → ℕ) a ≤ S1x64x1536.size a := by decide
theorem inb_B : ∀ h : Fin 16, ∀ a, (![0, 0, 1024 + h.val / 8 * 128] : Fin 3 → ℕ) a + (![1, 64, 128] : Fin 3 → ℕ) a ≤ S1x64x1536.size a := by decide
theorem inb_C : ∀ h : Fin 16, ∀ a, (![0, 0, 1280 + h.val / 8 * 128] : Fin 3 → ℕ) a + (![1, 64, 128] : Fin 3 → ℕ) a ≤ S1x64x1536.size a := by decide
theorem inb_S : ∀ h : Fin 16, ∀ a, (![h.val, 0, 0] : Fin 3 → ℕ) a + (![1, 64, 128] : Fin 3 → ℕ) a ≤ S16x64x128.size a := by decide
theorem inb_V : ∀ a, (![0, 0, 0] : Fin 3 → ℕ) a + (![1, 64, 1024] : Fin 3 → ℕ) a ≤ S1x64x1536.size a := by decide

theorem zero3 : ∀ a : Fin 3, (![0, 0, 0] : Fin 3 → ℕ) a = 0 := by decide

section

variable (x0 : FVec Ideal S1x64x1536 .f32) (h : Fin 16)

/-- A head's values. -/
def Xh : FVec Ideal S1x64x64 .f32 := View.ld (Val := Elt Ideal) (e' := .f32) x0 (Rect.unit (s := S1x64x1536) ![0, 0, 64 * h.val] ![1, 64, 64] (inb_X h))
/-- The vectors written into a head's state. -/
def Bh : FVec Ideal S1x64x128 .f32 := View.ld (Val := Elt Ideal) (e' := .f32) x0 (Rect.unit (s := S1x64x1536) ![0, 0, 1024 + h.val / 8 * 128] ![1, 64, 128] (inb_B h))
/-- The vectors a head's state is read by. -/
def Ch : FVec Ideal S1x64x128 .f32 := View.ld (Val := Elt Ideal) (e' := .f32) x0 (Rect.unit (s := S1x64x1536) ![0, 0, 1280 + h.val / 8 * 128] ![1, 64, 128] (inb_C h))
/-- All heads' values. -/
def Xv : FVec Ideal S1x64x1024 .f32 := View.ld (Val := Elt Ideal) (e' := .f32) x0 (Rect.unit (s := S1x64x1536) ![0, 0, 0] ![1, 64, 1024] inb_V)
/-- A head's state. -/
def Sh (s : FVec Ideal S16x64x128 .f32) : FVec Ideal S1x64x128 .f32 := View.ld (Val := Elt Ideal) (e' := .f32) s (Rect.unit (s := S16x64x128) ![h.val, 0, 0] ![1, 64, 128] (inb_S h))

theorem Xh_at (l p : Fin 64) : Xh x0 h (ix3 0 l p) = x0 (ix3 0 l ⟨h.val * 64 + p.val, by omega⟩) :=
  View.ld_unit_apply_of (Val := Elt Ideal) (e := .f32) x0 _ _ _ _ _ (fun a => by
    fin_cases a
    · rfl
    · show l.val = 0 + l.val; omega
    · show h.val * 64 + p.val = 64 * h.val + p.val; omega)
theorem Bh_at (l : Fin 64) (d : Fin 128) : Bh x0 h (ix3 0 l d) = x0 (ix3 0 l ⟨1024 + (h.val / 8 * 128 + d.val), by omega⟩) :=
  View.ld_unit_apply_of (Val := Elt Ideal) (e := .f32) x0 _ _ _ _ _ (fun a => by
    fin_cases a
    · rfl
    · show l.val = 0 + l.val; omega
    · show 1024 + (h.val / 8 * 128 + d.val) = 1024 + h.val / 8 * 128 + d.val; omega)
theorem Ch_at (l : Fin 64) (d : Fin 128) : Ch x0 h (ix3 0 l d) = x0 (ix3 0 l ⟨1280 + (h.val / 8 * 128 + d.val), by omega⟩) :=
  View.ld_unit_apply_of (Val := Elt Ideal) (e := .f32) x0 _ _ _ _ _ (fun a => by
    fin_cases a
    · rfl
    · show l.val = 0 + l.val; omega
    · show 1280 + (h.val / 8 * 128 + d.val) = 1280 + h.val / 8 * 128 + d.val; omega)
theorem Xv_at (l : Fin 64) (q : Fin 1024) : Xv x0 (ix3 0 l q) = x0 (ix3 0 l ⟨q.val, by omega⟩) :=
  View.ld_unit_apply_of (Val := Elt Ideal) (e := .f32) x0 _ _ _ _ _ (fun a => by
    fin_cases a
    · rfl
    · show l.val = 0 + l.val; omega
    · show q.val = 0 + q.val; omega)
theorem Sh_at (s : FVec Ideal S16x64x128 .f32) (p : Fin 64) (d : Fin 128) : Sh h s (ix3 0 p d) = s (ix3 h p d) :=
  View.ld_unit_apply_of (Val := Elt Ideal) (e := .f32) s _ _ _ _ _ (fun a => by
    fin_cases a
    · show h.val = h.val + 0; omega
    · show p.val = 0 + p.val; omega
    · show d.val = 0 + d.val; omega)

end

section

variable (x0 : FVec Ideal S1x64x1536 .f32) (z : FVec Ideal S1x64x1024 .bf16) (sm : FVec Ideal S1x64x128 .f32)
  (al db : FVec Ideal S1x128 .f32) (dk g : FVec Ideal S1x1024 .f32) (s : FVec Ideal S16x64x128 .f32)

/-- A head's output in the chunk of one grid point. -/
def Yb (h : Fin 16) : FVec Ideal S64x64 .f32 :=
  y h (k0_pay4 sm db al) (k0_pay3 sm db) (Xh x0 h) (Bh x0 h) (Ch x0 h) (Sh h s)

/-- A head's state after one grid point. -/
def Nb (h : Fin 16) : FVec Ideal S1x64x128 .f32 :=
  next h (k0_pay4 sm db al) (k0_pay3 sm db) (Xh x0 h) (Bh x0 h) (Sh h s)

/-- The gated values of one grid point. -/
def Gb : FVec Ideal S64x1024 .f32 := k0_pay99 (F := Ideal) (skip (Yb x0 sm al db s) dk (Xv x0)) z

/-- The output block of one grid point. -/
def Ob (i : S1x64x1024.Idx) : EReal := normed (fun q => Gb x0 z sm al db dk s (ix2 (i 1) q)) (g (ix2 0 (i 2))) (i 2)

/-- The state of one grid point. -/
def Tb (i : S16x64x128.Idx) : EReal := Nb x0 sm al db s (i 0) (ix3 0 (i 1) (i 2))

end

variable (m : (ℓ : Loc nD τ sig) → Buf (Elt Ideal) ℓ)

/-- The first 512 lanes' store, at an index of the output block. -/
theorem low_out (V : FVec Ideal S64x1024 .f32) (Z : FVec Ideal S1x64x1024 .bf16) (g : FVec Ideal S1x1024 .f32)
    (x : S1x64x512.Idx) (i : S1x64x1024.Idx) (h1 : (i 1).val = (x 1).val) (h2 : (i 2).val = (x 2).val) :
    k0_pay100 (F := Ideal) V Z (View.ld (Val := Elt Ideal) (e' := .f32) g (Rect.unit (s := S1x1024) ![0, 0] ![1, 512] inb_S1x1024_S1x512_0_0)) x
      = normed (fun q => k0_pay99 (F := Ideal) V Z (ix2 (i 1) q)) (g (ix2 0 (i 2))) (i 2) := by
  have hj : (x 2).val < 512 := (x 2).isLt
  have hx : x = ix3 0 (i 1) ⟨(x 2).val, hj⟩ := by
    funext a
    fin_cases a
    · exact Subsingleton.elim (α := Fin 1) _ _
    · exact Fin.ext h1.symm
    · rfl
  have hi : i 2 = (⟨(x 2).val, by omega⟩ : Fin 1024) := Fin.ext h2
  rw [hx]
  refine (low_at V Z _ (i 1) ⟨(x 2).val, hj⟩).trans ?_
  rw [hi]
  refine congrArg (fun u => normed _ u _) ?_
  exact View.ld_unit_apply_of (Val := Elt Ideal) (e := .f32) g _ _ _ _ _ (fun a => by
    fin_cases a
    · rfl
    · show (x 2).val = 0 + (x 2).val; omega)

/-- The last 512 lanes' store, at an index of the output block. -/
theorem high_out (V : FVec Ideal S64x1024 .f32) (Z : FVec Ideal S1x64x1024 .bf16) (g : FVec Ideal S1x1024 .f32)
    (x : S1x64x512.Idx) (i : S1x64x1024.Idx) (h1 : (i 1).val = (x 1).val) (h2 : (i 2).val = 512 + (x 2).val) :
    k0_pay1 (F := Ideal) (k0_pay101 V Z) (k0_pay102 (View.ld (Val := Elt Ideal) (e' := .f32) g (Rect.unit (s := S1x1024) ![0, 512] ![1, 512] inb_S1x1024_S1x512_0_512))) x
      = normed (fun q => k0_pay99 (F := Ideal) V Z (ix2 (i 1) q)) (g (ix2 0 (i 2))) (i 2) := by
  have hj : (x 2).val < 512 := (x 2).isLt
  have hx : x = ix3 0 (i 1) ⟨(x 2).val, hj⟩ := by
    funext a
    fin_cases a
    · exact Subsingleton.elim (α := Fin 1) _ _
    · exact Fin.ext h1.symm
    · rfl
  have hi : i 2 = (⟨512 + (x 2).val, by omega⟩ : Fin 1024) := Fin.ext h2
  rw [hx]
  refine (high_at V Z _ (i 1) ⟨(x 2).val, hj⟩).trans ?_
  rw [hi]
  refine congrArg (fun u => normed _ u _) ?_
  exact View.ld_unit_apply_of (Val := Elt Ideal) (e := .f32) g _ _ _ _ _ (fun a => by
    fin_cases a
    · rfl
    · show 512 + (x 2).val = 512 + (x 2).val; rfl)

/-- The sixteen outputs side by side, named one by one. -/
theorem skip_of (Y : Fin 16 → FVec Ideal S64x64 .f32) (dk : FVec Ideal S1x1024 .f32) (x : FVec Ideal S1x64x1024 .f32)
   (y0 : FVec Ideal S64x64 .f32) (y1 : FVec Ideal S64x64 .f32) (y2 : FVec Ideal S64x64 .f32) (y3 : FVec Ideal S64x64 .f32) (y4 : FVec Ideal S64x64 .f32) (y5 : FVec Ideal S64x64 .f32) (y6 : FVec Ideal S64x64 .f32) (y7 : FVec Ideal S64x64 .f32) (y8 : FVec Ideal S64x64 .f32) (y9 : FVec Ideal S64x64 .f32) (y10 : FVec Ideal S64x64 .f32) (y11 : FVec Ideal S64x64 .f32) (y12 : FVec Ideal S64x64 .f32) (y13 : FVec Ideal S64x64 .f32) (y14 : FVec Ideal S64x64 .f32) (y15 : FVec Ideal S64x64 .f32)
   (h0 : y0 = Y 0) (h1 : y1 = Y 1) (h2 : y2 = Y 2) (h3 : y3 = Y 3) (h4 : y4 = Y 4) (h5 : y5 = Y 5) (h6 : y6 = Y 6) (h7 : y7 = Y 7) (h8 : y8 = Y 8) (h9 : y9 = Y 9) (h10 : y10 = Y 10) (h11 : y11 = Y 11) (h12 : y12 = Y 12) (h13 : y13 = Y 13) (h14 : y14 = Y 14) (h15 : y15 = Y 15) : k0_pay98 y0 y1 y2 y3 y4 y5 y6 y7 y8 y9 y10 y11 y12 y13 y14 y15 dk x = skip Y dk x := by
  subst h0 h1 h2 h3 h4 h5 h6 h7 h8 h9 h10 h11 h12 h13 h14 h15
  rfl

set_option maxHeartbeats 1000000 in
/-- The output of a batch row's first grid point. -/
theorem out_first (c : Dev nD) (t : Fin cfg0.N) (h : t.val % 32 = 0) (i : S1x64x1024.Idx) :
    (outsAt0 m c t.val t.isLt).1 i
      = Ob (iblk m c 0 t) (X0_1 m c t) (iblk m c 2 t) (iblk m c 3 t) (iblk m c 4 t) (iblk m c 5 t) (iblk m c 6 t) k0_pay2 i := by
  rw [outsAt0_A m c t h]; frame_out
  simp only [View.readCov_fill _ _ _ _ _ (show ∀ a : Fin S16x64x128.rank, (![0, 0, 0] : Fin 3 → ℕ) a = 0 from zero3)]
  generalize hV : k0_pay98 (F := Ideal) _ _ _ _ _ _ _ _ _ _ _ _ _ _ _ _ _ _ = V
  have e : V = skip (Yb (iblk m c 0 t) (iblk m c 2 t) (iblk m c 3 t) (iblk m c 4 t) k0_pay2) (iblk m c 5 t) (Xv (iblk m c 0 t)) := by
    rw [← hV]
    refine skip_of _ _ _ _ _ _ _ _ _ _ _ _ _ _ _ _ _ _ _ ?_ ?_ ?_ ?_ ?_ ?_ ?_ ?_ ?_ ?_ ?_ ?_ ?_ ?_ ?_ ?_
    all_goals clear hV
    all_goals rfl
  clear hV
  unfold Ob Gb
  rw [← e]
  clear e h
  canon_tiles x h
  · exact high_out V _ _ x _ h1 h2
  · exact low_out V _ _ x _ h1 h2

set_option maxHeartbeats 1000000 in
/-- The output of a later grid point. -/
theorem out_later (c : Dev nD) (t : Fin cfg0.N) (h : ¬t.val % 32 = 0) (i : S1x64x1024.Idx) :
    (outsAt0 m c t.val t.isLt).1 i
      = Ob (iblk m c 0 t) (X0_1 m c t) (iblk m c 2 t) (iblk m c 3 t) (iblk m c 4 t) (iblk m c 5 t) (iblk m c 6 t)
        (outsAt0 m c (t.val - 1) (Nat.lt_of_le_of_lt (Nat.sub_le _ _) t.isLt)).2 i := by
  rw [outsAt0_B m c t h]; frame_out
  simp only [read_unread_whole]
  generalize (outsAt0 m c (t.val - 1) _).2 = s
  generalize hV : k0_pay98 (F := Ideal) _ _ _ _ _ _ _ _ _ _ _ _ _ _ _ _ _ _ = V
  have e : V = skip (Yb (iblk m c 0 t) (iblk m c 2 t) (iblk m c 3 t) (iblk m c 4 t) s) (iblk m c 5 t) (Xv (iblk m c 0 t)) := by
    rw [← hV]
    refine skip_of _ _ _ _ _ _ _ _ _ _ _ _ _ _ _ _ _ _ _ ?_ ?_ ?_ ?_ ?_ ?_ ?_ ?_ ?_ ?_ ?_ ?_ ?_ ?_ ?_ ?_
    all_goals clear hV
    all_goals rfl
  clear hV
  unfold Ob Gb
  rw [← e]
  clear e h
  canon_tiles x h
  · exact high_out V _ _ x _ h1 h2
  · exact low_out V _ _ x _ h1 h2

end Cert.KernelIdeal.Head

end
-- ==== Proof.Ssd.States.lean ====
/- What one grid point leaves in the carried state: sixteen stores, one per head, over whatever the state held. -/
module

public import proofs.«01_k».proof.Proof.Ssd.Block
public import Idealize.ShloMosaic.Lib.Pipeline.ReadBack
public import Idealize.ShloMosaic.Lib.Ring

@[expose] public section

set_option maxRecDepth 16384

noncomputable section

open Idealize.ShloMosaic Idealize.ShloMosaic.TcCoe Idealize.SL.Sem Idealize.ShloMosaic.StableHlo
open Idealize.ShloMosaic.Pipeline (Dat)

namespace Cert.KernelIdeal.Head

open Cert.KernelIdeal Cert.KernelIdeal.Gen Ssd
variable (m : (ℓ : Loc nD τ sig) → Buf (Elt Ideal) ℓ)

/-- One head's store, at an index of the whole state. -/
theorem tile_at (f : Fin 16 → FVec Ideal S1x64x128 .f32) (k : Fin 16) (x : S1x64x128.Idx) (i : S16x64x128.Idx)
    (h0 : (i 0).val = k.val + (x 0).val) (h1 : (i 1).val = (x 1).val) (h2 : (i 2).val = (x 2).val) :
    f k x = f (i 0) (ix3 0 (i 1) (i 2)) := by
  have hx0 : (x 0).val < 1 := (x 0).isLt
  rw [show i 0 = k from Fin.ext (by omega)]
  refine congrArg (f k) ?_
  funext a
  fin_cases a
  · exact Subsingleton.elim (α := Fin 1) _ _
  · exact Fin.ext h1.symm
  · exact Fin.ext h2.symm

/-- One head's store, through its rectangle. -/
theorem tile_emb (f : Fin 16 → FVec Ideal S1x64x128 .f32) (k : Fin 16) (x : S1x64x128.Idx) :
    f k x = f ((Rect.unit (s := S16x64x128) ![k.val, 0, 0] ![1, 64, 128] (inb_S k)).emb x 0)
      (ix3 0 ((Rect.unit (s := S16x64x128) ![k.val, 0, 0] ![1, 64, 128] (inb_S k)).emb x 1)
        ((Rect.unit (s := S16x64x128) ![k.val, 0, 0] ![1, 64, 128] (inb_S k)).emb x 2)) :=
  tile_at f k x _ (by show k.val + 1 * (x 0).val = _; omega) (by show 0 + 1 * (x 1).val = _; omega) (by show 0 + 1 * (x 2).val = _; omega)

set_option maxHeartbeats 1000000 in
/-- The state after a later grid point. -/
theorem state_later (c : Dev nD) (t : Fin cfg0.N) (h : ¬t.val % 32 = 0) (i : S16x64x128.Idx) :
    (outsAt0 m c t.val t.isLt).2 i
      = Tb (iblk m c 0 t) (iblk m c 2 t) (iblk m c 3 t) (iblk m c 4 t) (outsAt0 m c (t.val - 1) (Nat.lt_of_le_of_lt (Nat.sub_le _ _) t.isLt)).2 i := by
  rw [outsAt0_B m c t h]; frame_out
  simp only [read_unread_whole]
  generalize (outsAt0 m c (t.val - 1) _).2 = s
  refine View.canon_append_of_piecesOf (Val := Elt Ideal) (e := .f32)
    (Tb (iblk m c 0 t) (iblk m c 2 t) (iblk m c 3 t) (iblk m c 4 t) s)
    [] [_, _, _, _, _, _, _, _, _, _, _, _, _, _, _, _]
    ⟨?_, ?_, ?_, ?_, ?_, ?_, ?_, ?_, ?_, ?_, ?_, ?_, ?_, ?_, ?_, ?_, trivial⟩ i (View.cover_of_tiledL _ ![1, 64, 128] rfl i)
  · exact fun x => tile_emb (Nb _ _ _ _ _) 15 x
  · exact fun x => tile_emb (Nb _ _ _ _ _) 14 x
  · exact fun x => tile_emb (Nb _ _ _ _ _) 13 x
  · exact fun x => tile_emb (Nb _ _ _ _ _) 12 x
  · exact fun x => tile_emb (Nb _ _ _ _ _) 11 x
  · exact fun x => tile_emb (Nb _ _ _ _ _) 10 x
  · exact fun x => tile_emb (Nb _ _ _ _ _) 9 x
  · exact fun x => tile_emb (Nb _ _ _ _ _) 8 x
  · exact fun x => tile_emb (Nb _ _ _ _ _) 7 x
  · exact fun x => tile_emb (Nb _ _ _ _ _) 6 x
  · exact fun x => tile_emb (Nb _ _ _ _ _) 5 x
  · exact fun x => tile_emb (Nb _ _ _ _ _) 4 x
  · exact fun x => tile_emb (Nb _ _ _ _ _) 3 x
  · exact fun x => tile_emb (Nb _ _ _ _ _) 2 x
  · exact fun x => tile_emb (Nb _ _ _ _ _) 1 x
  · exact fun x => tile_emb (Nb _ _ _ _ _) 0 x

set_option maxHeartbeats 1000000 in
/-- The state after a batch row's first grid point. -/
theorem state_first (c : Dev nD) (t : Fin cfg0.N) (h : t.val % 32 = 0) (i : S16x64x128.Idx) :
    (outsAt0 m c t.val t.isLt).2 i
      = Tb (iblk m c 0 t) (iblk m c 2 t) (iblk m c 3 t) (iblk m c 4 t) k0_pay2 i := by
  rw [outsAt0_A m c t h]; frame_out
  simp only [View.readCov_fill _ _ _ _ _ (show ∀ a : Fin S16x64x128.rank, (![0, 0, 0] : Fin 3 → ℕ) a = 0 from zero3)]
  refine View.canon_append_of_piecesOf (Val := Elt Ideal) (e := .f32)
    (Tb (iblk m c 0 t) (iblk m c 2 t) (iblk m c 3 t) (iblk m c 4 t) k0_pay2)
    [_] [_, _, _, _, _, _, _, _, _, _, _, _, _, _, _, _]
    ⟨?_, ?_, ?_, ?_, ?_, ?_, ?_, ?_, ?_, ?_, ?_, ?_, ?_, ?_, ?_, ?_, trivial⟩ i (View.cover_of_tiledL _ ![1, 64, 128] rfl i)
  · exact fun x => tile_emb (Nb _ _ _ _ _) 15 x
  · exact fun x => tile_emb (Nb _ _ _ _ _) 14 x
  · exact fun x => tile_emb (Nb _ _ _ _ _) 13 x
  · exact fun x => tile_emb (Nb _ _ _ _ _) 12 x
  · exact fun x => tile_emb (Nb _ _ _ _ _) 11 x
  · exact fun x => tile_emb (Nb _ _ _ _ _) 10 x
  · exact fun x => tile_emb (Nb _ _ _ _ _) 9 x
  · exact fun x => tile_emb (Nb _ _ _ _ _) 8 x
  · exact fun x => tile_emb (Nb _ _ _ _ _) 7 x
  · exact fun x => tile_emb (Nb _ _ _ _ _) 6 x
  · exact fun x => tile_emb (Nb _ _ _ _ _) 5 x
  · exact fun x => tile_emb (Nb _ _ _ _ _) 4 x
  · exact fun x => tile_emb (Nb _ _ _ _ _) 3 x
  · exact fun x => tile_emb (Nb _ _ _ _ _) 2 x
  · exact fun x => tile_emb (Nb _ _ _ _ _) 1 x
  · exact fun x => tile_emb (Nb _ _ _ _ _) 0 x

end Cert.KernelIdeal.Head

end
-- ==== Proof.Ssd.Rows.lean ====
/- The rows the host prepares: sixteen values written into a row of zeros, read at their lanes. -/
module

public import proofs.«01_k».proof.Proof.Gen.KernelIdeal.Value
public import Idealize.ShloMosaic.Lib.Pointwise
public import Idealize.ShloMosaic.Lib.Routing.OpsOne
public import Idealize.ShloMosaic.Lib.Pointwise.IndexBridge

@[expose] public section

set_option maxRecDepth 16384

noncomputable section

open Idealize.ShloMosaic Idealize.ShloMosaic.TcCoe Idealize.SL.Sem Idealize.ShloMosaic.StableHlo
open Idealize.ShloMosaic.Pipeline (Dat)

namespace Cert.KernelIdeal.Rows

open Cert.KernelIdeal Cert.KernelIdeal.Gen
open Idealize.ShloMosaic.Routing (shape1 shape2 scatter_set_hit start_pair resultIdx?_ix2)

/-- Value `k` of the sixteen lands in the row at the start the two index words give, `k` lanes on. -/
theorem lands_row {R C U w : Nat} (d : ScatterDims (shape2 R C) (shape1 2) (shape1 U)) (hiw : d.insertedWindowDims = [0])
    (hsd : d.scatterDimsToOperandDims = [0, 1]) (hivd : d.indexVectorDim = 0) (idx : IVec (shape1 2) w) (k : Fin U) (r : Fin R) (c : Fin C) :
    d.resultIdx? (ValueIdx.ix1 k) idx = some (ValueIdx.ix2 r c)
      ↔ (idx (ValueIdx.ix1 (0 : Fin 2))).toInt = r.val ∧ (idx (ValueIdx.ix1 (1 : Fin 2))).toInt + (k.val : Int) = c.val := by
  have hwin1 : d.window (ValueIdx.ix1 k) 1 = k.val := by
    have hk : d.sKept = [1] := by
      show (shape2 R C).kept d.insertedWindowDims = _
      rw [hiw]
      rfl
    unfold ScatterDims.window
    rw [dif_pos (by rw [hk]; simp)]
    exact congrArg (fun t => ((ValueIdx.ix1 k : (shape1 U).Idx) t).val) (Subsingleton.elim (α := Fin 1) _ 0)
  have hwin0 : d.window (ValueIdx.ix1 k) 0 = 0 := by
    unfold ScatterDims.window
    rw [dif_neg fun h => (of_decide_eq_true (List.mem_filter.1 h).2) (by rw [hiw]; simp)]
  rw [resultIdx?_ix2, start_pair d hsd hivd, start_pair d hsd hivd, hwin0, hwin1]
  omega

/-- The row holds value `h` of the sixteen at lane `88 + h`. -/
theorem row_at (x : S1x128.Idx → EReal) (w : IVec S2 32) (v : S16.Idx → EReal) (h0 : w (ix1 0) = 0#32) (h1 : w (ix1 1) = 88#32) (h : Fin 16) :
    Host.scatter scatter_S1x128_S2_S16_0_0_01_0 (fun _ b => b) x w v (ix2 0 ⟨88 + h.val, by omega⟩) = v (ix1 h) := by
  have e0 : (w (ValueIdx.ix1 (0 : Fin 2))).toInt = 0 := by rw [← ix1_eq_valueIdx, h0]; rfl
  have e1 : (w (ValueIdx.ix1 (1 : Fin 2))).toInt = 88 := by rw [← ix1_eq_valueIdx, h1]; rfl
  have key : ∀ k : Fin 16, scatter_S1x128_S2_S16_0_0_01_0.resultIdx? (ValueIdx.ix1 k) w = some (ValueIdx.ix2 (0 : Fin 1) (⟨88 + h.val, by omega⟩ : Fin 128))
      ↔ k = h := by
    intro k
    rw [lands_row (R := 1) (C := 128) (U := 16) scatter_S1x128_S2_S16_0_0_01_0 rfl rfl rfl w k 0 ⟨88 + h.val, by omega⟩, e0, e1]
    constructor
    · intro e; exact Fin.ext (by have := e.2; simp only at this; omega)
    · rintro rfl; exact ⟨rfl, by push_cast; rfl⟩
  rw [ix2_eq_valueIdx, ix1_eq_valueIdx]
  refine scatter_set_hit scatter_S1x128_S2_S16_0_0_01_0 x w v _ _ (fun k' hk' => ?_) (ValueIdx.ix1 h) ((key h).2 rfl)
  obtain ⟨k, rfl⟩ : ∃ k : Fin 16, k' = ValueIdx.ix1 k := ⟨k' 0, ValueIdx.eq_ix1 k'⟩
  exact congrArg (fun k : Fin 16 => v (ValueIdx.ix1 k)) ((key k).1 hk')

end Cert.KernelIdeal.Rows

end
-- ==== Proof.Ssd.Windows.lean ====
/- The blocks a grid point reads, at an index of the arguments. -/
module

public import proofs.«01_k».proof.Proof.Ssd.Rows
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Cert.KernelIdeal.Windows

open Cert.KernelIdeal Cert.KernelIdeal.Gen

variable (m : (ℓ : Loc nD τ sig) → Buf (Elt Ideal) ℓ) (c : Dev nD) (t : Fin cfg0.N)

theorem idx : ∀ t : Fin cfg0.N, win0_0.index t = ![t.val / 32, t.val % 32, 0] ∧ win0_1.index t = ![t.val / 32, t.val % 32, 8]
    ∧ win0_2.index t = ![t.val / 32, t.val % 32, 0] ∧ win0_3.index t = ![0, 0] ∧ win0_4.index t = ![0, 0]
    ∧ win0_5.index t = ![0, 0] ∧ win0_6.index t = ![0, 0] :=
  (by decide +kernel : ∀ t : Fin grid0.N, _)

theorem t_lt : t.val < 256 := lt_of_lt_of_eq t.isLt (show cfg0.N = 256 from N_0)

theorem x_at (l : Fin 64) (j : Fin 1536) : (iblk m c 0 t : FVec Ideal S1x64x1536 .f32) (ix3 0 l j)
    = m ((c.tc : Thread nD τ).loc main_arg0) (ix3 (⟨t.val / 32, by have := t_lt t; omega⟩ : Fin 8) (⟨t.val % 32 * 64 + l.val, by omega⟩ : Fin 2048) j) := by
  blk_point [iblk, V, idx t]

/-- The gate's block lies whole inside its array, from column 8192 on. -/
theorem z_at (l : Fin 64) (q : Fin 1024) : (X0_1 m c t : FVec Ideal S1x64x1024 .bf16) (ix3 0 l q)
    = m ((c.tc : Thread nD τ).loc main_arg1) (ix3 (⟨t.val / 32, by have := t_lt t; omega⟩ : Fin 8) (⟨t.val % 32 * 64 + l.val, by omega⟩ : Fin 2048) (⟨8192 + q.val, by omega⟩ : Fin 11520)) := by
  have e := (idx t).2.1
  unfold X0_1 Pipeline.Window.fill
  rw [dif_pos (moved0_1 t _)]
  unfold iblk
  show V m c main_arg1 (((cfg0.win 1).blk t).view.emb _) = _
  rw [V_main_arg1]
  refine congrArg (m ((c.tc : Thread nD τ).loc main_arg1)) ?_
  funext a
  fin_cases a
  · refine Fin.ext ?_
    show win0_1.index t 0 * 1 + 1 * 0 = t.val / 32
    rw [e]; show t.val / 32 * 1 + 1 * 0 = t.val / 32; omega
  · refine Fin.ext ?_
    show win0_1.index t 1 * 64 + 1 * l.val = t.val % 32 * 64 + l.val
    rw [e]; show t.val % 32 * 64 + 1 * l.val = _; omega
  · refine Fin.ext ?_
    show win0_1.index t 2 * 1024 + 1 * q.val = 8192 + q.val
    rw [e]; show 8 * 1024 + 1 * q.val = _; omega

theorem s_at (l : Fin 64) (j : Fin 128) : (iblk m c 2 t : FVec Ideal S1x64x128 .f32) (ix3 0 l j)
    = m ((c.tc : Thread nD τ).loc main_arg2) (ix3 (⟨t.val / 32, by have := t_lt t; omega⟩ : Fin 8) (⟨t.val % 32 * 64 + l.val, by omega⟩ : Fin 2048) j) := by
  blk_point [iblk, V, idx t]

theorem emb3 (j : Fin 128) : ((View.whole main_v4).slice (win0_3.rect t)).emb (ix2 0 j) = (ix2 0 j : S1x128.Idx) := by
  have e : win0_3.index t = ![0, 0] := (idx t).2.2.2.1
  funext a
  fin_cases a
  · refine Fin.ext ?_
    show win0_3.index t 0 * 1 + 1 * 0 = 0
    rw [e]; rfl
  · refine Fin.ext ?_
    show win0_3.index t 1 * 128 + 1 * j.val = j.val
    rw [e]; show 0 * 128 + 1 * j.val = j.val; omega

theorem emb4 (j : Fin 128) : ((View.whole main_v9).slice (win0_4.rect t)).emb (ix2 0 j) = (ix2 0 j : S1x128.Idx) := by
  have e : win0_4.index t = ![0, 0] := (idx t).2.2.2.2.1
  funext a
  fin_cases a
  · refine Fin.ext ?_
    show win0_4.index t 0 * 1 + 1 * 0 = 0
    rw [e]; rfl
  · refine Fin.ext ?_
    show win0_4.index t 1 * 128 + 1 * j.val = j.val
    rw [e]; show 0 * 128 + 1 * j.val = j.val; omega

theorem emb5 (j : Fin 1024) : ((View.whole main_v12).slice (win0_5.rect t)).emb (ix2 0 j) = (ix2 0 j : S1x1024.Idx) := by
  have e : win0_5.index t = ![0, 0] := (idx t).2.2.2.2.2.1
  funext a
  fin_cases a
  · refine Fin.ext ?_
    show win0_5.index t 0 * 1 + 1 * 0 = 0
    rw [e]; rfl
  · refine Fin.ext ?_
    show win0_5.index t 1 * 1024 + 1 * j.val = j.val
    rw [e]; show 0 * 1024 + 1 * j.val = j.val; omega

theorem emb6 (j : Fin 1024) : ((View.whole main_v13).slice (win0_6.rect t)).emb (ix2 0 j) = (ix2 0 j : S1x1024.Idx) := by
  have e : win0_6.index t = ![0, 0] := (idx t).2.2.2.2.2.2
  funext a
  fin_cases a
  · refine Fin.ext ?_
    show win0_6.index t 0 * 1 + 1 * 0 = 0
    rw [e]; rfl
  · refine Fin.ext ?_
    show win0_6.index t 1 * 1024 + 1 * j.val = j.val
    rw [e]; show 0 * 1024 + 1 * j.val = j.val; omega

theorem a_at (h : Fin 16) : (iblk m c 3 t : FVec Ideal S1x128 .f32) (ix2 0 ⟨88 + h.val, by omega⟩)
    = m ((c.tc : Thread nD τ).loc main_arg3) (ix1 h) := by
  blk_simp [iblk, idx t]
  entry_read
  rw [emb3]
  exact Rows.row_at _ _ _ (by pointwise) (by pointwise) h

theorem b_at (h : Fin 16) : (iblk m c 4 t : FVec Ideal S1x128 .f32) (ix2 0 ⟨88 + h.val, by omega⟩)
    = m ((c.tc : Thread nD τ).loc main_arg4) (ix1 h) := by
  blk_simp [iblk, idx t]
  entry_read
  rw [emb4]
  exact Rows.row_at _ _ _ (by pointwise) (by pointwise) h

theorem d_at (q : Fin 1024) : (iblk m c 5 t : FVec Ideal S1x1024 .f32) (ix2 0 q)
    = m ((c.tc : Thread nD τ).loc main_arg5) (ix1 ⟨q.val / 64, by omega⟩) := by
  blk_simp [iblk, idx t]
  entry_read
  rw [emb5]
  pointwise

theorem g_at (q : Fin 1024) : (iblk m c 6 t : FVec Ideal S1x1024 .f32) (ix2 0 q)
    = m ((c.tc : Thread nD τ).loc main_arg6) (ix1 q) := by
  blk_simp [iblk, idx t]
  entry_read
  rw [emb6]
  pointwise

end Cert.KernelIdeal.Windows

end
-- ==== Proof.Ssd.Points.lean ====
/- The grid of the scan's kernel, point by point: the state a grid point leaves, and the block it writes, are those of the
   chunk the point stands for. -/
module

public import proofs.«01_k».proof.Proof.Ssd.States
public import proofs.«01_k».proof.Proof.Ssd.Windows
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Cert.KernelIdeal.Points

open Cert.KernelIdeal Cert.KernelIdeal.Gen Cert.KernelIdeal.Value Cert.KernelIdeal.Head Cert.KernelIdeal.Windows Ssd

variable (m : (ℓ : Loc nD τ sig) → Buf (Elt Ideal) ℓ) (c : Dev nD) (t : Fin cfg0.N) (h : Fin 16)

/-- The chunk a grid point stands for, as head `h` reads it. -/
def here : Chunk := chunk (m ((c.tc : Thread nD τ).loc main_arg0)) (m ((c.tc : Thread nD τ).loc main_arg2)) (m ((c.tc : Thread nD τ).loc main_arg3)) (m ((c.tc : Thread nD τ).loc main_arg4)) (⟨t.val / 32, by have := t_lt t; omega⟩ : Fin 8) (⟨t.val % 32, by omega⟩ : Fin 32) h

theorem dt_here (l : Fin 64) : k0_pay3 (F := Ideal) (iblk m c 2 t) (iblk m c 4 t) (ix2 l ⟨88 + h.val, by omega⟩) = (here m c t h).dt l := by
  refine (dt_at _ _ _ _).trans ?_
  rw [s_at, b_at]; rfl

theorem cum_here (l : Fin 64) : k0_pay4 (F := Ideal) (iblk m c 2 t) (iblk m c 4 t) (iblk m c 3 t) (ix2 l ⟨88 + h.val, by omega⟩)
    = (here m c t h).cum l := by
  refine (cum_at _ _ _ _ _).trans ?_
  refine Finset.sum_congr rfl fun k _ => ?_
  rw [s_at, b_at, a_at]; rfl

theorem X_here (l p : Fin 64) : Xh (iblk m c 0 t) h (ix3 0 l p) = (here m c t h).X l p := by
  rw [Xh_at, x_at]; rfl

theorem B_here (l : Fin 64) (d : Fin 128) : Bh (iblk m c 0 t) h (ix3 0 l d) = (here m c t h).B l d := by
  rw [Bh_at, x_at]; rfl

theorem C_here (l : Fin 64) (d : Fin 128) : Ch (iblk m c 0 t) h (ix3 0 l d) = (here m c t h).C l d := by
  rw [Ch_at, x_at]; rfl

/-- What a head adds to the output at a grid point, from the state it finds. -/
theorem Y_here (s : FVec Ideal S16x64x128 .f32) (T : Fin 64 → Fin 128 → EReal) (hs : ∀ p d, s (ix3 h p d) = T p d) (l p : Fin 64) :
    Yb (iblk m c 0 t) (iblk m c 2 t) (iblk m c 3 t) (iblk m c 4 t) s h (ix2 l p) = (here m c t h).y T l p :=
  y_chunk (here m c t h) h (cum_here m c t h) (dt_here m c t h) (X_here m c t h) (B_here m c t h) (C_here m c t h) T
    (fun p d => (Sh_at h s p d).trans (hs p d)) l p

/-- The state a head leaves at a grid point, from the state it finds. -/
theorem T_here (s : FVec Ideal S16x64x128 .f32) (T : Fin 64 → Fin 128 → EReal) (hs : ∀ p d, s (ix3 h p d) = T p d)
    (p : Fin 64) (d : Fin 128) : Tb (iblk m c 0 t) (iblk m c 2 t) (iblk m c 3 t) (iblk m c 4 t) s (ix3 h p d) = (here m c t h).next T p d :=
  next_chunk (here m c t h) h (cum_here m c t h) (dt_here m c t h) (X_here m c t h) (B_here m c t h) T
    (fun p d => (Sh_at h s p d).trans (hs p d)) p d

/-- The state a batch row starts from is zero. -/
theorem zero_at (p : Fin 64) (d : Fin 128) : k0_pay2 (F := Ideal) (ix3 h p d) = 0 := by
  pointwise [k0_pay2]

/-- The recurrence's state of head `h` in a batch row. -/
def stateOf (b : Fin 8) (k : ℕ) : Fin 64 → Fin 128 → EReal := state (m ((c.tc : Thread nD τ).loc main_arg0)) (m ((c.tc : Thread nD τ).loc main_arg2)) (m ((c.tc : Thread nD τ).loc main_arg3)) (m ((c.tc : Thread nD τ).loc main_arg4)) b h k

/-- One more chunk. -/
theorem next_here : (here m c t h).next (stateOf m c h (⟨t.val / 32, by have := t_lt t; omega⟩ : Fin 8) (t.val % 32)) = stateOf m c h (⟨t.val / 32, by have := t_lt t; omega⟩ : Fin 8) (t.val % 32 + 1) := by
  unfold stateOf
  rw [state]
  unfold here
  congr 2
  exact Fin.ext (Nat.mod_mod _ _).symm

/-- The state after every grid point is the recurrence's. -/
theorem state_at : ∀ (n : ℕ) (hn : n < cfg0.N) (h : Fin 16) (p : Fin 64) (d : Fin 128), (outsAt0 m c n hn).2 (ix3 h p d)
    = stateOf m c h ⟨n / 32, by have := lt_of_lt_of_eq hn (show cfg0.N = 256 from N_0); omega⟩ (n % 32 + 1) p d := by
  intro n
  induction n with
  | zero =>
    intro hn h p d
    refine (state_first m c ⟨0, hn⟩ rfl (ix3 h p d)).trans ?_
    refine (T_here m c ⟨0, hn⟩ h k0_pay2 (fun _ _ => 0) (zero_at h) p d).trans ?_
    exact congrFun₂ (next_here m c ⟨0, hn⟩ h) p d
  | succ n ih =>
    intro hn h p d
    by_cases e : (n + 1) % 32 = 0
    · refine (state_first m c ⟨n + 1, hn⟩ e (ix3 h p d)).trans ?_
      refine (T_here m c ⟨n + 1, hn⟩ h k0_pay2 (fun _ _ => 0) (zero_at h) p d).trans ?_
      refine Eq.trans ?_ (congrFun₂ (next_here m c ⟨n + 1, hn⟩ h) p d)
      show _ = (here m c ⟨n + 1, hn⟩ h).next (stateOf m c h _ ((n + 1) % 32)) p d
      rw [e]; rfl
    · refine (state_later m c ⟨n + 1, hn⟩ e (ix3 h p d)).trans ?_
      refine (T_here m c ⟨n + 1, hn⟩ h _ _ (fun p d => ih (Nat.lt_of_succ_lt hn) h p d) p d).trans ?_
      refine Eq.trans ?_ (congrFun₂ (next_here m c ⟨n + 1, hn⟩ h) p d)
      have e1 : n % 32 + 1 = (n + 1) % 32 := by omega
      have e2 : n / 32 = (n + 1) / 32 := by omega
      simp only [e1, e2]

/-- The state a grid point finds. -/
def found (t : Fin cfg0.N) : FVec Ideal S16x64x128 .f32 :=
  if t.val % 32 = 0 then k0_pay2 else (outsAt0 m c (t.val - 1) (Nat.lt_of_le_of_lt (Nat.sub_le _ _) t.isLt)).2

theorem found_at (p : Fin 64) (d : Fin 128) : found m c t (ix3 h p d) = stateOf m c h (⟨t.val / 32, by have := t_lt t; omega⟩ : Fin 8) (t.val % 32) p d := by
  unfold found
  by_cases e : t.val % 32 = 0
  · rw [if_pos e, e]; exact zero_at h p d
  · rw [if_neg e]
    refine (state_at m c _ _ h p d).trans ?_
    have e1 : (t.val - 1) % 32 + 1 = t.val % 32 := by omega
    have e2 : (t.val - 1) / 32 = t.val / 32 := by omega
    simp only [e1, e2]

/-- What a grid point writes, from the state it finds. -/
theorem out_found (i : S1x64x1024.Idx) : (outsAt0 m c t.val t.isLt).1 i
    = Ob (iblk m c 0 t) (X0_1 m c t) (iblk m c 2 t) (iblk m c 3 t) (iblk m c 4 t) (iblk m c 5 t) (iblk m c 6 t) (found m c t) i := by
  unfold found
  by_cases e : t.val % 32 = 0
  · rw [if_pos e]; exact out_first m c t e i
  · rw [if_neg e]; exact out_later m c t e i

/-- The gated value of lane `q` at a grid point. -/
theorem gated_at (l : Fin 64) (q : Fin 1024) :
    Gb (iblk m c 0 t) (X0_1 m c t) (iblk m c 2 t) (iblk m c 3 t) (iblk m c 4 t) (iblk m c 5 t) (found m c t) (ix2 l q)
      = gate (scan (m ((c.tc : Thread nD τ).loc main_arg0)) (m ((c.tc : Thread nD τ).loc main_arg2)) (m ((c.tc : Thread nD τ).loc main_arg3)) (m ((c.tc : Thread nD τ).loc main_arg4)) (⟨t.val / 32, by have := t_lt t; omega⟩ : Fin 8) (⟨t.val % 32, by omega⟩ : Fin 32) ⟨q.val / 64, by omega⟩ l ⟨q.val % 64, by omega⟩)
          ((m ((c.tc : Thread nD τ).loc main_arg5)) (ix1 ⟨q.val / 64, by omega⟩))
          ((m ((c.tc : Thread nD τ).loc main_arg0)) (ix3 (⟨t.val / 32, by have := t_lt t; omega⟩ : Fin 8) (⟨t.val % 32 * 64 + l.val, by omega⟩ : Fin 2048) (⟨q.val, by omega⟩ : Fin 1536)))
          ((m ((c.tc : Thread nD τ).loc main_arg1)) (ix3 (⟨t.val / 32, by have := t_lt t; omega⟩ : Fin 8) (⟨t.val % 32 * 64 + l.val, by omega⟩ : Fin 2048) (⟨8192 + q.val, by omega⟩ : Fin 11520))) := by
  unfold Gb
  refine (gate_at _ _ _ _).trans ?_
  rw [skip_at, Xv_at, x_at, z_at, d_at]
  rw [Y_here m c t ⟨q.val / 64, by omega⟩ (found m c t) _ (found_at m c t _)]
  rfl

/-- The block a grid point writes. -/
theorem out_at (l : Fin 64) (q : Fin 1024) : (outsAt0 m c t.val t.isLt).1 (ix3 0 l q)
    = normed (fun q => gate (scan (m ((c.tc : Thread nD τ).loc main_arg0)) (m ((c.tc : Thread nD τ).loc main_arg2)) (m ((c.tc : Thread nD τ).loc main_arg3)) (m ((c.tc : Thread nD τ).loc main_arg4)) (⟨t.val / 32, by have := t_lt t; omega⟩ : Fin 8) (⟨t.val % 32, by omega⟩ : Fin 32) ⟨q.val / 64, by omega⟩ l ⟨q.val % 64, by omega⟩)
          ((m ((c.tc : Thread nD τ).loc main_arg5)) (ix1 ⟨q.val / 64, by omega⟩))
          ((m ((c.tc : Thread nD τ).loc main_arg0)) (ix3 (⟨t.val / 32, by have := t_lt t; omega⟩ : Fin 8) (⟨t.val % 32 * 64 + l.val, by omega⟩ : Fin 2048) (⟨q.val, by omega⟩ : Fin 1536)))
          ((m ((c.tc : Thread nD τ).loc main_arg1)) (ix3 (⟨t.val / 32, by have := t_lt t; omega⟩ : Fin 8) (⟨t.val % 32 * 64 + l.val, by omega⟩ : Fin 2048) (⟨8192 + q.val, by omega⟩ : Fin 11520))))
        ((m ((c.tc : Thread nD τ).loc main_arg6)) (ix1 q)) q := by
  refine (out_found m c t (ix3 0 l q)).trans ?_
  show normed (fun q => Gb (iblk m c 0 t) (X0_1 m c t) (iblk m c 2 t) (iblk m c 3 t) (iblk m c 4 t) (iblk m c 5 t) (found m c t) (ix2 l q))
    ((iblk m c 6 t : FVec Ideal S1x1024 .f32) (ix2 0 q)) q = _
  rw [g_at]
  exact congrArg (fun w => normed w _ q) (funext fun q => gated_at m c t l q)

end Cert.KernelIdeal.Points

end
-- ==== Proof.Ssd.Final.lean ====
/- The scan, from the arguments to the result: one formula over the arrays, which the kernel and the reference both give. -/
module

public import proofs.«01_k».proof.Proof.Ssd.RefResult
public import proofs.«01_k».proof.Proof.Ssd.RefScan
public import proofs.«01_k».proof.Proof.Ssd.Points
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Ssd

section Result

variable (x : FVec Ideal ⟨3, ![8, 2048, 1536]⟩ .f32) (z : FVec Ideal ⟨3, ![8, 2048, 11520]⟩ .bf16) (sm : FVec Ideal ⟨3, ![8, 2048, 128]⟩ .f32)
  (al db dk : FVec Ideal ⟨1, ![16]⟩ .f32) (g : FVec Ideal ⟨1, ![1024]⟩ .f32)

/-- The gated and normalised result of step `t` of batch row `b`, lane `i`. -/
def resultAt (b : Fin 8) (t : Fin 2048) (i : Fin 1024) : EReal :=
  normed (fun q => gate (scan x sm al db b ⟨t.val / 64, by omega⟩ ⟨q.val / 64, by omega⟩ ⟨t.val % 64, by omega⟩ ⟨q.val % 64, by omega⟩)
    (dk (ix1 ⟨q.val / 64, by omega⟩)) (x (ix3 b t ⟨q.val, by omega⟩)) (z (ix3 b t ⟨8192 + q.val, by omega⟩))) (g (ix1 i)) i

/-- The whole result. -/
def result : FVec Ideal ⟨3, ![8, 2048, 1024]⟩ .bf16 := fun i => resultAt x z sm al db dk g (i 0) (i 1) (i 2)

end Result

end Ssd

namespace Cert.KernelIdeal.Points

open Cert.KernelIdeal Cert.KernelIdeal.Gen Cert.KernelIdeal.Value Ssd

variable (m : (ℓ : Loc nD τ sig) → Buf (Elt Ideal) ℓ) (c : Dev nD)

theorem out_result (b : Fin 8) (t : Fin 2048) (q : Fin 1024) (n : ℕ) (hn : n < cfg0.N) (e : n = 32 * b.val + t.val / 64) :
    (outsAt0 m c n hn).1 (ix3 0 ⟨t.val % 64, by omega⟩ q)
      = resultAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b t q := by
  refine (out_at m c ⟨n, hn⟩ ⟨t.val % 64, by omega⟩ q).trans ?_
  have e1 : n / 32 = b.val := by omega
  have e2 : n % 32 = t.val / 64 := by omega
  have e3 : t.val / 64 * 64 + t.val % 64 = t.val := Nat.div_add_mod' _ _
  simp only [e1, e2, e3]
  rfl

/-- The kernel's result. -/
theorem final : (dats m 0 c).arrAt 7 (cfgs 0).N = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (final7 m c).trans (funext fun i => ?_)
  have hN : cfg0.N = 256 := N_0
  have h0 : (i 0).val < 8 := (i 0).isLt
  have h1 : (i 1).val < 2048 := (i 1).isLt
  have h2 : (i 2).val < 1024 := (i 2).isLt
  have hp : pt7Of i < cfg0.N := by rw [hN]; show 32 * ((i 0).val / 1 - 0) + 1 * ((i 1).val / 64 - 0) + 1 * ((i 2).val / 1024 - 0) < 256; omega
  unfold G7
  rw [dif_pos hp, ← outsAt0_sweep m c (pt7Of i) hp]
  have e : loc7Of i = ix3 (0 : Fin 1) (⟨(i 1).val % 64, by omega⟩ : Fin 64) (⟨(i 2).val, h2⟩ : Fin 1024) := by
    funext a
    match a with
    | ⟨0, _⟩ => exact Fin.ext (Nat.mod_one _)
    | ⟨1, _⟩ => rfl
    | ⟨2, _⟩ => exact Fin.ext (Nat.mod_eq_of_lt h2)
  rw [e]
  exact out_result m c ⟨(i 0).val, h0⟩ ⟨(i 1).val, h1⟩ ⟨(i 2).val, h2⟩ (pt7Of i) hp
    (by show 32 * ((i 0).val / 1 - 0) + 1 * ((i 1).val / 64 - 0) + 1 * ((i 2).val / 1024 - 0) = 32 * (i 0).val + (i 1).val / 64; omega)

/-- The kernel's run: the formula in the result, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v14) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1.trans (final7 m c).symm).trans (final m c), (h c).2⟩) (Cert.KernelIdeal.Value.run m ρ)

end Cert.KernelIdeal.Points

namespace Cert.ReferenceIdeal.Step

open Cert.ReferenceIdeal Cert.ReferenceIdeal.Gen Cert.ReferenceIdeal.Loop Ssd

variable (m : (ℓ : Loc nD τ sig) → Buf (Elt Ideal) ℓ) (c : Dev nD)

/-- The reference's result. -/
theorem final : R_main_v98 (states m c 32) (m ((c.tc : Thread nD τ).loc main_arg0)) (m ((c.tc : Thread nD τ).loc main_arg1)) (m ((c.tc : Thread nD τ).loc main_arg5)) (m ((c.tc : Thread nD τ).loc main_arg6))
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, t, q, rfl⟩ : ∃ (b : Fin 8) (t : Fin 2048) (q : Fin 1024), i = ix3 b t q :=
    ⟨i 0, i 1, i 2, funext fun a => match a with | ⟨0, _⟩ => rfl | ⟨1, _⟩ => rfl | ⟨2, _⟩ => rfl⟩
  refine (tail_at _ _ _ _ _ b t q).trans ?_
  show _ = resultAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b t q
  unfold resultAt
  refine congrArg (fun w : Fin 1024 → EReal => normed w ((m ((c.tc : Thread nD τ).loc main_arg6)) (ix1 q)) q) (funext fun r => ?_)
  rw [outputs_at m c 32 le_rfl ⟨t.val / 64, by omega⟩ (by show t.val / 64 < 32; omega)]

/-- The reference's run: the same formula in the result, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v98) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1.trans (Loop.result m c)).trans (final m c), (h c).2⟩) (Cert.ReferenceIdeal.Value.run m ρ)

end Cert.ReferenceIdeal.Step

end
-- ==== Proof.Mixer.Merge.lean ====
/- The gated merge of the four branches, `Σ_i sigmoid (x G_i) * (o_i U_i)`: what the kernel's blocks hold, and that the
   array they tile is the reference's term. -/
module

public import proofs.«01_k».proof.Proof.Gen.MergeKernelIdeal.Value
public import proofs.«01_k».proof.Proof.Gen.MergeReferenceIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Cert.MergeReferenceIdeal

/-- The constant one, over the result's shape. -/
def ones : FVec Ideal S16384x4096 .f32 :=
  broadcastInDim S16384x4096 ![] Gen.bcast_S_S16384x4096 (constant S_ .f32 0x3F800000#32)

/-- One branch of the merge, from its gate columns and its up projection: the gate times the projected branch output. -/
def branch (X : FVec Ideal S16384x4096 .bf16) (O : FVec Ideal S16384x1024 .bf16) (G : FVec Ideal S1x4096x4096 .f32)
    (U : FVec Ideal S1x1x1024x4096 .f32) : FVec Ideal S16384x4096 .f32 :=
  mulf (Host.divf ones (addf ones (Host.exp (Host.negf
      (Host.dotGeneral (F := Ideal) dot_S16384x4096_S4096x4096_S16384x4096_1_0_0_1_n_n none (extf .f32 X Gen.bitsLt_bf16_f32)
        (shapeCast S4096x4096 G Gen.shapeCasts_S1x4096x4096_S4096x4096))))))
    (Host.dotGeneral (F := Ideal) dot_S16384x1024_S1024x4096_S16384x4096_1_0_0_1_n_n none (extf .f32 O Gen.bitsLt_bf16_f32)
      (shapeCast S1024x4096 U Gen.shapeCasts_S1x1x1024x4096_S1024x4096))

/-- The reference's result: the sum of the four branches. -/
def merged (X : FVec Ideal S16384x4096 .bf16) (O0 O1 O2 O3 : FVec Ideal S16384x1024 .bf16)
    (W : FVec Ideal S2x4096x28008 .f32) (U : FVec Ideal S2x4x1024x4096 .f32) : FVec Ideal S16384x4096 .bf16 :=
  truncf .bf16 (addf (addf (addf
      (branch X O0 (extractStridedSlice S1x4096x4096 ![0, 0, 11624] W Gen.slices_S2x4096x28008_S1x4096x4096_0_0_11624)
        (extractStridedSlice S1x1x1024x4096 ![0, 0, 0, 0] U Gen.slices_S2x4x1024x4096_S1x1x1024x4096_0_0_0_0))
      (branch X O1 (extractStridedSlice S1x4096x4096 ![0, 0, 15720] W Gen.slices_S2x4096x28008_S1x4096x4096_0_0_15720)
        (extractStridedSlice S1x1x1024x4096 ![0, 1, 0, 0] U Gen.slices_S2x4x1024x4096_S1x1x1024x4096_0_1_0_0)))
      (branch X O2 (extractStridedSlice S1x4096x4096 ![0, 0, 19816] W Gen.slices_S2x4096x28008_S1x4096x4096_0_0_19816)
        (extractStridedSlice S1x1x1024x4096 ![0, 2, 0, 0] U Gen.slices_S2x4x1024x4096_S1x1x1024x4096_0_2_0_0)))
      (branch X O3 (extractStridedSlice S1x4096x4096 ![0, 0, 23912] W Gen.slices_S2x4096x28008_S1x4096x4096_0_0_23912)
        (extractStridedSlice S1x1x1024x4096 ![0, 3, 0, 0] U Gen.slices_S2x4x1024x4096_S1x1x1024x4096_0_3_0_0)))
    Gen.bitsLt_bf16_f32

end Cert.MergeReferenceIdeal

namespace Cert.MergeKernelIdeal.Value

open Cert.MergeKernelIdeal Cert.MergeKernelIdeal.Gen

variable (m : (ℓ : Loc nD τ sig) → Buf (Elt Ideal) ℓ)

/-- Where each window's block sits at a grid point: the tokens and the branch outputs move with the inner axis, the
    gate columns and the up projections with the outer one. -/
theorem idx : ∀ t : Fin cfg0.N, win0_0.index t = ![t.val % 32, 0] ∧ win0_1.index t = ![t.val % 32, 0]
    ∧ win0_2.index t = ![t.val % 32, 0] ∧ win0_3.index t = ![t.val % 32, 0] ∧ win0_4.index t = ![t.val % 32, 0]
    ∧ win0_5.index t = ![0, t.val / 32] ∧ win0_6.index t = ![0, 16 + t.val / 32]
    ∧ win0_7.index t = ![0, 32 + t.val / 32] ∧ win0_8.index t = ![0, 48 + t.val / 32]
    ∧ win0_9.index t = ![0, 0, 0, t.val / 32] ∧ win0_10.index t = ![0, 1, 0, t.val / 32]
    ∧ win0_11.index t = ![0, 2, 0, t.val / 32] ∧ win0_12.index t = ![0, 3, 0, t.val / 32]
    ∧ win0_13.index t = ![t.val % 32, t.val / 32] :=
  (by decide +kernel : ∀ t : Fin grid0.N, _)

/-- What a grid point stores at a block index is the reference's result at the array index it sits at. -/
theorem point (c : Dev nD) (t : Fin cfg0.N) (y) :
    k0_pay1 (k0_pay5 (iblk m c 0 t) (k0_pay2 (iblk m c 0 t) (iblk m c 5 t) (iblk m c 1 t) (iblk m c 9 t))
        (k0_pay3 (iblk m c 0 t) (iblk m c 6 t)) (iblk m c 2 t) (k0_pay4 (iblk m c 10 t)) (iblk m c 7 t) (iblk m c 3 t)
        (iblk m c 11 t)) (k0_pay6 (iblk m c 0 t) (iblk m c 8 t)) (iblk m c 4 t) (k0_pay7 (iblk m c 12 t)) y
    = Cert.MergeReferenceIdeal.merged (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
        (((cfg0.win 13).blk t).view.emb y) := by
  have ht : t.val < 512 := lt_of_lt_of_eq t.isLt N_0
  pointwise [k0_pay1, k0_pay2, k0_pay3, k0_pay4, k0_pay5, k0_pay6, k0_pay7, Cert.MergeReferenceIdeal.merged,
    Cert.MergeReferenceIdeal.branch, Cert.MergeReferenceIdeal.ones]
  simp only [zero_sub]
  blk_point [iblk, V, idx t]

/-- The array the kernel leaves is the reference's result. -/
theorem final (c : Dev nD) : (dats m 0 c).arrAt 13 (cfgs 0).N
    = Cert.MergeReferenceIdeal.merged (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 13 _ (by decide +kernel) fun t _ y => ?_
  blk_simp
  rw [after0_13]; frame_out
  exact point m c t y

end Cert.MergeKernelIdeal.Value

end
-- ==== Proof.Ffn.Glu.lean ====
/- The gated projection of the dense feed-forward network, `silu (x W1) * (x W3)`: what the kernel's blocks hold, and
   that the array they tile is the reference's term. -/
module

public import proofs.«01_k».proof.Proof.Gen.GluKernelIdeal.Value
public import proofs.«01_k».proof.Proof.Gen.GluReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Cert.GluReferenceIdeal

/-- The reference's product of the tokens with one of the two projection matrices. -/
def proj (X : FVec Ideal S16384x4096 .bf16) (W : FVec Ideal S1x4096x11008 .f32) : FVec Ideal S16384x11008 .f32 :=
  Host.dotGeneral (F := Ideal) dot_S16384x4096_S4096x11008_S16384x11008_1_0_0_1_n_n none (extf .f32 X Gen.bitsLt_bf16_f32)
    (shapeCast S4096x11008 W Gen.shapeCasts_S1x4096x11008_S4096x11008)

/-- The constant one, over the result's shape. -/
def ones : FVec Ideal S16384x11008 .f32 :=
  broadcastInDim S16384x11008 ![] Gen.bcast_S_S16384x11008 (constant S_ .f32 0x3F800000#32)

/-- The reference's result: `silu (x W1) * (x W3)`. -/
def glu (X : FVec Ideal S16384x4096 .bf16) (W1 W3 : FVec Ideal S1x4096x11008 .f32) : FVec Ideal S16384x11008 .bf16 :=
  truncf .bf16 (mulf (mulf (proj X W1) (Host.divf ones (addf ones (Host.exp (Host.negf (proj X W1)))))) (proj X W3))
    Gen.bitsLt_bf16_f32

end Cert.GluReferenceIdeal

namespace Cert.GluKernelIdeal.Value

open Cert.GluKernelIdeal Cert.GluKernelIdeal.Gen

variable (m : (ℓ : Loc nD τ sig) → Buf (Elt Ideal) ℓ)

/-- Where each window's block sits at a grid point: the tokens move with the inner axis, the matrices with the outer. -/
theorem idx : ∀ t : Fin cfg0.N, win0_0.index t = ![t.val % 8, 0] ∧ win0_1.index t = ![0, t.val / 8]
    ∧ win0_2.index t = ![0, t.val / 8] ∧ win0_3.index t = ![t.val % 8, t.val / 8] :=
  (by decide +kernel : ∀ t : Fin grid0.N, _)

/-- What a grid point stores at a block index is the reference's result at the array index it sits at. -/
theorem point (c : Dev nD) (t : Fin cfg0.N) (y) : k0_pay1 (iblk m c 0 t) (iblk m c 1 t) (iblk m c 2 t) y
    = Cert.GluReferenceIdeal.glu (m ((c : Thread nD τ).loc main_arg0)) (m ((c : Thread nD τ).loc main_arg1))
        (m ((c : Thread nD τ).loc main_arg2)) (((cfg0.win 3).blk t).view.emb y) := by
  pointwise [k0_pay1, Cert.GluReferenceIdeal.glu, Cert.GluReferenceIdeal.proj, Cert.GluReferenceIdeal.ones]
  simp only [zero_sub]
  blk_point [iblk, V, idx t]

/-- The array the kernel leaves is the reference's result. -/
theorem final (c : Dev nD) : (dats m 0 c).arrAt 3 (cfgs 0).N
    = Cert.GluReferenceIdeal.glu (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.GluKernelIdeal.Value

end
-- ==== Proof.Ffn.Down.lean ====
/- The last product of the dense feed-forward network with its residual, `x + h W2`: what the kernel's blocks hold, and
   that the array they tile is the reference's term. -/
module

public import proofs.«01_k».proof.Proof.Gen.DownKernelIdeal.Value
public import proofs.«01_k».proof.Proof.Gen.DownReferenceIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Cert.DownReferenceIdeal

/-- The reference's result: the residual plus the product. -/
def down (H : FVec Ideal S16384x11008 .bf16) (W : FVec Ideal S1x11008x4096 .f32) (X : FVec Ideal S16384x4096 .f32) :
    FVec Ideal S16384x4096 .f32 :=
  addf X (Host.dotGeneral (F := Ideal) dot_S16384x11008_S11008x4096_S16384x4096_1_0_0_1_n_n none
    (extf .f32 H Gen.bitsLt_bf16_f32) (shapeCast S11008x4096 W Gen.shapeCasts_S1x11008x4096_S11008x4096))

end Cert.DownReferenceIdeal

namespace Cert.DownKernelIdeal.Value

open Cert.DownKernelIdeal Cert.DownKernelIdeal.Gen

variable (m : (ℓ : Loc nD τ sig) → Buf (Elt Ideal) ℓ)

/-- Where each window's block sits at a grid point. -/
theorem idx : ∀ t : Fin cfg0.N, win0_0.index t = ![t.val / 8, 0] ∧ win0_1.index t = ![0, t.val % 8]
    ∧ win0_2.index t = ![t.val / 8, t.val % 8] ∧ win0_3.index t = ![t.val / 8, t.val % 8] :=
  (by decide +kernel : ∀ t : Fin grid0.N, _)

/-- What a grid point stores at a block index is the reference's result at the array index it sits at. -/
theorem point (c : Dev nD) (t : Fin cfg0.N) (y) : k0_pay1 (iblk m c 0 t) (iblk m c 1 t) (iblk m c 2 t) y
    = Cert.DownReferenceIdeal.down (m ((c : Thread nD τ).loc main_arg0)) (m ((c : Thread nD τ).loc main_arg1))
        (m ((c : Thread nD τ).loc main_arg2)) (((cfg0.win 3).blk t).view.emb y) := by
  pointwise [k0_pay1, Cert.DownReferenceIdeal.down]
  blk_point [iblk, V, idx t]

/-- The array the kernel leaves is the reference's result. -/
theorem final (c : Dev nD) : (dats m 0 c).arrAt 3 (cfgs 0).N
    = Cert.DownReferenceIdeal.down (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.DownKernelIdeal.Value

end
-- ==== Proof.Mixer.Packed.lean ====
/- The input projection's packed weights, as the host lines before the call leave them. -/
module

public import proofs.«01_k».proof.Proof.Gen.InProjKernelIdeal.Value
public import Idealize.ShloMosaic.Lib.Pointwise
public import Idealize.ShloMosaic.Lib.Claim
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo
open Idealize.ShloMosaic.Pipeline (Dat)

namespace Cert.InProjKernelIdeal.Value

open Cert.InProjKernelIdeal Cert.InProjKernelIdeal.Gen

/-- The first layer's `w_in`. -/
def layer (W : FVec Ideal S2x4096x28008 .f32) : FVec Ideal S4096x28008 .f32 :=
  shapeCast S4096x28008 (extractStridedSlice S1x4096x28008 ![0, 0, 0] W slices_S2x4096x28008_S1x4096x28008_0_0_0) shapeCasts_S1x4096x28008_S4096x28008

/-- The columns the branches read, one piece after another. -/
def pack (W : FVec Ideal S4096x28008 .f32) : FVec Ideal S4096x11520 .bf16 :=
  truncf .bf16 (concatenate S4096x11520 1 [
    ⟨S4096x3072, extractStridedSlice S4096x3072 ![0, 0] W slices_S4096x28008_S4096x3072_0_0⟩,
    ⟨S4096x1024, extractStridedSlice S4096x1024 ![0, 3072] W slices_S4096x28008_S4096x1024_0_3072⟩,
    ⟨S4096x1024, extractStridedSlice S4096x1024 ![0, 4112] W slices_S4096x28008_S4096x1024_0_4112⟩,
    ⟨S4096x3072, extractStridedSlice S4096x3072 ![0, 5976] W slices_S4096x28008_S4096x3072_0_5976⟩,
    ⟨S4096x1024, extractStridedSlice S4096x1024 ![0, 9048] W slices_S4096x28008_S4096x1024_0_9048⟩,
    ⟨S4096x1536, extractStridedSlice S4096x1536 ![0, 10072] W slices_S4096x28008_S4096x1536_0_10072⟩,
    ⟨S4096x512, extractStridedSlice S4096x512 ![0, 5392] W slices_S4096x28008_S4096x512_0_5392⟩,
    ⟨S4096x256, extractStridedSlice S4096x256 ![0, 5136] W slices_S4096x28008_S4096x256_0_5136⟩]
    concatenates_S4096x3072_S4096x1024_S4096x1024_S4096x3072_S4096x1024_S4096x1536_S4096x512_S4096x256_S4096x11520_d1) bitsLt_bf16_f32

variable (m : (ℓ : Loc nD τ sig) → Buf (Elt Ideal) ℓ)

set_option maxHeartbeats 1000000 in
/-- The packed weights, from the argument. -/
theorem weights (c : Dev nD) : V m c main_v11 = pack (layer (m ((c : Thread nD τ).loc main_arg1))) := by
  unfold V
  after_reads_simp
  rfl

end Cert.InProjKernelIdeal.Value

end
-- ==== Proof.Mixer.InProj.lean ====
/- The input projection: the product of the tokens with the columns of `w_in` that the branches read, packed in the
   order the later calls use. What the kernel's blocks hold, and that the array they tile is the reference's term: the
   kernel packs the columns before the product, the reference packs the product's columns. -/
module

public import proofs.«01_k».proof.Proof.Mixer.Packed
public import proofs.«01_k».proof.Proof.Gen.InProjReferenceIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Cert.InProjReferenceIdeal

/-- The reference's product: every token against the columns of the first layer's `w_in` that the branches read. -/
def proj (X : FVec Ideal S16384x4096 .bf16) (W : FVec Ideal S2x4096x28008 .f32) : FVec Ideal S16384x11624 .f32 :=
  Host.dotGeneral (F := Ideal) dot_S16384x4096_S4096x11624_S16384x11624_1_0_0_1_n_n none (extf .f32 X Gen.bitsLt_bf16_f32)
    (extractStridedSlice S4096x11624 ![0, 0] (shapeCast S4096x28008 (extractStridedSlice S1x4096x28008 ![0, 0, 0] W
      Gen.slices_S2x4096x28008_S1x4096x28008_0_0_0) Gen.shapeCasts_S1x4096x28008_S4096x28008) Gen.slices_S4096x28008_S4096x11624_0_0)

/-- The reference's packing of the product's columns, one piece after another. -/
def packed (P : FVec Ideal S16384x11624 .f32) : FVec Ideal S16384x11520 .bf16 :=
  truncf .bf16 (concatenate S16384x11520 1 [
    ⟨S16384x1024, extractStridedSlice S16384x1024 ![0, 0] P Gen.slices_S16384x11624_S16384x1024_0_0⟩,
    ⟨S16384x1024, extractStridedSlice S16384x1024 ![0, 1024] P Gen.slices_S16384x11624_S16384x1024_0_1024⟩,
    ⟨S16384x1024, extractStridedSlice S16384x1024 ![0, 2048] P Gen.slices_S16384x11624_S16384x1024_0_2048⟩,
    ⟨S16384x1024, extractStridedSlice S16384x1024 ![0, 3072] P Gen.slices_S16384x11624_S16384x1024_0_3072⟩,
    ⟨S16384x1024, extractStridedSlice S16384x1024 ![0, 4112] P Gen.slices_S16384x11624_S16384x1024_0_4112⟩,
    ⟨S16384x1024, extractStridedSlice S16384x1024 ![0, 5976] P Gen.slices_S16384x11624_S16384x1024_0_5976⟩,
    ⟨S16384x1024, extractStridedSlice S16384x1024 ![0, 7000] P Gen.slices_S16384x11624_S16384x1024_0_7000⟩,
    ⟨S16384x1024, extractStridedSlice S16384x1024 ![0, 8024] P Gen.slices_S16384x11624_S16384x1024_0_8024⟩,
    ⟨S16384x1024, extractStridedSlice S16384x1024 ![0, 9048] P Gen.slices_S16384x11624_S16384x1024_0_9048⟩,
    ⟨S16384x1536, extractStridedSlice S16384x1536 ![0, 10072] P Gen.slices_S16384x11624_S16384x1536_0_10072⟩,
    ⟨S16384x512, extractStridedSlice S16384x512 ![0, 5392] P Gen.slices_S16384x11624_S16384x512_0_5392⟩,
    ⟨S16384x256, extractStridedSlice S16384x256 ![0, 5136] P Gen.slices_S16384x11624_S16384x256_0_5136⟩]
    Gen.concatenates_S16384x1024_S16384x1024_S16384x1024_S16384x1024_S16384x1024_S16384x1024_S16384x1024_S16384x1024_S16384x1024_S16384x1536_S16384x512_S16384x256_S16384x11520_d1) Gen.bitsLt_bf16_f32

/-- Which column of `w_in` a packed column comes from. -/
def col (j : ℕ) : ℕ :=
  if j < 4096 then j else if j < 5120 then j + 16 else if j < 10752 then j + 856 else if j < 11264 then j - 5360 else j - 6128

theorem col_lt {j : ℕ} (h : j < 11520) : col j < 11624 := by
  unfold col; split_ifs <;> omega

/-- A case distinction whose both sides are one value is that value. -/
theorem dite_to {α : Type} {p : Prop} [Decidable p] {a : p → α} {b : ¬p → α} {v : α} (ha : ∀ h, a h = v) (hb : ∀ h, b h = v) :
    dite p a b = v := by
  by_cases h : p
  · rw [dif_pos h]; exact ha h
  · rw [dif_neg h]; exact hb h

/-- The packing at an index: the column the packing names. -/
theorem packed_at (P : FVec Ideal S16384x11624 .f32) (r : Fin 16384) (j : Fin 11520) :
    packed P (ix2 r j) = P (ix2 r ⟨col j.val, col_lt j.isLt⟩) := by
  have hj := j.isLt
  have key : ∀ (q : ℕ) (hq : q < 11624), q = col j.val → P (ix2 r ⟨q, hq⟩) = P (ix2 r ⟨col j.val, col_lt j.isLt⟩) := by
    intro q hq e; subst e; rfl
  pointwise [packed]
  iterate 11 refine dite_to (fun h => key _ _ (by unfold col; split_ifs <;> omega)) fun h => ?_
  exact key _ _ (by unfold col; split_ifs <;> omega)

/-- The product at an index. -/
theorem proj_at (X : FVec Ideal S16384x4096 .bf16) (W : FVec Ideal S2x4096x28008 .f32) (r : Fin 16384) (j : Fin 11624) :
    proj X W (ix2 r j) = ∑ k : Fin 4096, X (ix2 r k) * W (ix3 0 k ⟨j.val, by omega⟩) := by
  pointwise [proj]

end Cert.InProjReferenceIdeal

namespace Cert.InProjKernelIdeal.Value

open Cert.InProjKernelIdeal Cert.InProjKernelIdeal.Gen

variable (m : (ℓ : Loc nD τ sig) → Buf (Elt Ideal) ℓ)

/-- Where each window's block sits at a grid point. -/
theorem idx : ∀ t : Fin cfg0.N, win0_0.index t = ![t.val / 15, 0] ∧ win0_1.index t = ![0, t.val % 15]
    ∧ win0_2.index t = ![t.val / 15, t.val % 15] :=
  (by decide +kernel : ∀ t : Fin grid0.N, _)

/-- The kernel's packing at an index: the column the packing names. -/
theorem pack_at (W : FVec Ideal S4096x28008 .f32) (k : Fin 4096) (j : Fin 11520) :
    pack W (ix2 k j) = W (ix2 k ⟨Cert.InProjReferenceIdeal.col j.val, by have := Cert.InProjReferenceIdeal.col_lt j.isLt; omega⟩) := by
  have hj := j.isLt
  have key : ∀ (q : ℕ) (hq : q < 28008), q = Cert.InProjReferenceIdeal.col j.val → W (ix2 k ⟨q, hq⟩)
      = W (ix2 k ⟨Cert.InProjReferenceIdeal.col j.val, by have := Cert.InProjReferenceIdeal.col_lt j.isLt; omega⟩) := by
    intro q hq e; subst e; rfl
  pointwise [pack]
  iterate 7 refine Cert.InProjReferenceIdeal.dite_to (fun h => key _ _ (by unfold Cert.InProjReferenceIdeal.col; split_ifs <;> omega)) fun h => ?_
  exact key _ _ (by unfold Cert.InProjReferenceIdeal.col; split_ifs <;> omega)

theorem layer_at (W : FVec Ideal S2x4096x28008 .f32) (k : Fin 4096) (j : Fin 28008) : layer W (ix2 k j) = W (ix3 0 k j) := by
  pointwise [layer]

theorem t_lt (t : Fin cfg0.N) : t.val < 240 := lt_of_lt_of_eq t.isLt (show cfg0.N = 240 from N_0)

/-- The tokens a grid point reads. -/
theorem x_at (c : Dev nD) (t : Fin cfg0.N) (l : Fin 1024) (k : Fin 4096) : (iblk m c 0 t : FVec Ideal S1024x4096 .bf16) (ix2 l k)
    = m ((c : Thread nD τ).loc main_arg0) (ix2 (⟨t.val / 15 * 1024 + l.val, by have := t_lt t; omega⟩ : Fin 16384) k) := by
  blk_point [iblk, V, idx t]

/-- The packed columns a grid point reads. -/
theorem w_at (c : Dev nD) (t : Fin cfg0.N) (k : Fin 4096) (q : Fin 768) : (iblk m c 1 t : FVec Ideal S4096x768 .bf16) (ix2 k q)
    = pack (layer (m ((c : Thread nD τ).loc main_arg1))) (ix2 k (⟨t.val % 15 * 768 + q.val, by omega⟩ : Fin 11520)) := by
  have e : win0_1.index t = ![0, t.val % 15] := (idx t).2.1
  unfold iblk
  show V m c main_v11 (((cfg0.win 1).blk t).view.emb _) = _
  rw [weights]
  refine congrArg (pack (layer (m ((c : Thread nD τ).loc main_arg1)))) ?_
  funext a
  fin_cases a
  · refine Fin.ext ?_
    show win0_1.index t 0 * 4096 + 1 * k.val = k.val
    rw [e]; show 0 * 4096 + 1 * k.val = _; omega
  · refine Fin.ext ?_
    show win0_1.index t 1 * 768 + 1 * q.val = t.val % 15 * 768 + q.val
    rw [e]; show t.val % 15 * 768 + 1 * q.val = _; omega

/-- A block's product at an index. -/
theorem prod_at (x : FVec Ideal S1024x4096 .bf16) (w : FVec Ideal S4096x768 .bf16) (l : Fin 1024) (q : Fin 768) :
    k0_pay1 (F := Ideal) x w (ix2 l q) = ∑ k : Fin 4096, x (ix2 l k) * w (ix2 k q) := by
  pointwise [k0_pay1]

/-- What a grid point stores at a block index is the reference's result at the array index it sits at. -/
theorem point (c : Dev nD) (t : Fin cfg0.N) (y) : k0_pay1 (iblk m c 0 t) (iblk m c 1 t) y
    = Cert.InProjReferenceIdeal.packed (Cert.InProjReferenceIdeal.proj (m ((c : Thread nD τ).loc main_arg0))
        (m ((c : Thread nD τ).loc main_arg1))) (((cfg0.win 2).blk t).view.emb y) := by
  have e : win0_2.index t = ![t.val / 15, t.val % 15] := (idx t).2.2
  obtain ⟨l, q, rfl⟩ : ∃ (l : Fin 1024) (q : Fin 768), y = ix2 l q :=
    ⟨y 0, y 1, funext fun a => match a with | ⟨0, _⟩ => rfl | ⟨1, _⟩ => rfl⟩
  have he : ((cfg0.win 2).blk t).view.emb (ix2 l q)
      = ix2 (⟨t.val / 15 * 1024 + l.val, by have := t_lt t; omega⟩ : Fin 16384) (⟨t.val % 15 * 768 + q.val, by omega⟩ : Fin 11520) := by
    funext a
    fin_cases a
    · refine Fin.ext ?_
      show win0_2.index t 0 * 1024 + 1 * l.val = t.val / 15 * 1024 + l.val
      rw [e]; show t.val / 15 * 1024 + 1 * l.val = _; omega
    · refine Fin.ext ?_
      show win0_2.index t 1 * 768 + 1 * q.val = t.val % 15 * 768 + q.val
      rw [e]; show t.val % 15 * 768 + 1 * q.val = _; omega
  rw [he]
  refine (prod_at _ _ l q).trans ?_
  refine Eq.trans ?_ ((Cert.InProjReferenceIdeal.packed_at _ _ _).trans (Cert.InProjReferenceIdeal.proj_at _ _ _ _)).symm
  refine Finset.sum_congr rfl fun k _ => congrArg₂ (· * ·) (x_at m c t l k) ?_
  exact (w_at m c t k q).trans ((pack_at _ _ _).trans (layer_at _ _ _))

/-- The array the kernel leaves is the reference's result. -/
theorem final (c : Dev nD) : (dats m 0 c).arrAt 2 (cfgs 0).N
    = Cert.InProjReferenceIdeal.packed (Cert.InProjReferenceIdeal.proj (m ((c : Thread nD τ).loc main_arg0))
        (m ((c : Thread nD τ).loc main_arg1))) := by
  refine (dats m 0 c).arrAt_eq_of_covers 2 _ (by decide +kernel) fun t _ y => ?_
  blk_simp
  rw [after0_2]; frame_out
  exact point m c t y

end Cert.InProjKernelIdeal.Value

namespace Cert.InProjReferenceIdeal.Value

open Cert.InProjReferenceIdeal Cert.InProjReferenceIdeal.Gen

/-- The reference's result is the packed product. -/
theorem result (m : (ℓ : Loc nD τ sig) → Buf (Elt Ideal) ℓ) (c : Dev nD) : res_main_v23 m c
    = packed (proj (m ((c.tc : Thread nD τ).loc main_arg0)) (m ((c.tc : Thread nD τ).loc main_arg1))) := by
  unfold res_main_v23
  rfl

/-- The reference's run: the packed product in the result, the arguments unchanged. -/
theorem run_packed (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = packed (proj (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (result m c), (h c).2⟩) (run m ρ)

end Cert.InProjReferenceIdeal.Value

end
-- ==== Proof.Moe.Reference.lean ====
/- What the reference of the grouped expert up-projection computes: every row's gated product with the matrices of the expert of its
   row tile, written as eight selections, one per expert; and that its run leaves that array. -/
module

public import proofs.«01_k».proof.Proof.Gen.MoeGluReferenceIdeal.Run
public import Idealize.ShloMosaic.Lib.Pointwise

@[expose] public section

set_option maxRecDepth 16384

noncomputable section

open Idealize.ShloMosaic Idealize.ShloMosaic.TcCoe Idealize.SL.Sem Idealize.ShloMosaic.StableHlo

namespace Cert.MoeGluReferenceIdeal

/-- The tokens: of each word the low half as a float, then the high half. -/
def tokens (X : IVec S36864x2048 32) : FVec Ideal S36864x4096 .f32 :=
  concatenate S36864x4096 1 [⟨S36864x2048, bitcastToFloat (F := Ideal) .f32 (Host.shli X
      (broadcastInDim S36864x2048 ![] Gen.bcast_S_S36864x2048 (constantI S_ 32 16#32)))⟩,
    ⟨S36864x2048, bitcastToFloat (F := Ideal) .f32 (andi X
      (broadcastInDim S36864x2048 ![] Gen.bcast_S_S36864x2048 (constantI S_ 32 4294901760#32)))⟩]
    Gen.concatenates_S36864x2048_S36864x2048_S36864x4096_d1

/-- The expert of every row: its tile's entry of the table, -1 in a tile that is not in use. -/
def expert (TE : IVec S72 32) (NV : IVec S1 32) : IVec S36864x1 32 :=
  broadcastInDim S36864x1 ![0] Gen.bcast_S36864_S36864x1_0 (shapeCast S36864 (broadcastInDim S72x512 ![0] Gen.bcast_S72_S72x512_0
    (select (cmpi .slt (iotaInDim S72 32 0) (broadcastInDim S72 ![] Gen.bcast_S_S72 (shapeCast S_ NV Gen.shapeCasts_S1_S_))) TE
      (broadcastInDim S72 ![] Gen.bcast_S_S72 (id (constantI S_ 32 4294967295#32))))) Gen.shapeCasts_S72x512_S36864)

/-- The tokens' product with expert `e`'s matrix. -/
def proj (X : IVec S36864x2048 32) (W : FVec Ideal S1x8x4096x4096 .f32) (e : ℕ)
    (he : S8x4096x4096.Slices ![e, 0, 0] S1x4096x4096) : FVec Ideal S36864x4096 .f32 :=
  Host.dotGeneral (F := Ideal) dot_S36864x4096_S4096x4096_S36864x4096_1_0_0_1_n_n none (tokens X)
    (shapeCast S4096x4096 (extractStridedSlice S1x4096x4096 ![e, 0, 0]
      (shapeCast S8x4096x4096 W Gen.shapeCasts_S1x8x4096x4096_S8x4096x4096) he) Gen.shapeCasts_S1x4096x4096_S4096x4096)

/-- The constant one, over the result's shape. -/
def ones : FVec Ideal S36864x4096 .f32 :=
  broadcastInDim S36864x4096 ![] Gen.bcast_S_S36864x4096 (constant S_ .f32 0x3F800000#32)

/-- Expert `e`'s gated product at the rows that are its own, and `rest` at the others. -/
def choose (R : IVec S36864x1 32) (X : IVec S36864x2048 32) (W1 W3 : FVec Ideal S1x8x4096x4096 .f32) (e : ℕ)
    (he : S8x4096x4096.Slices ![e, 0, 0] S1x4096x4096) (rest : FVec Ideal S36864x4096 .f32) : FVec Ideal S36864x4096 .f32 :=
  select (broadcastInDim S36864x4096 ![0, 1] Gen.bcast_S36864x1_S36864x4096_0_1
      (cmpi .eq R (broadcastInDim S36864x1 ![] Gen.bcast_S_S36864x1 (constantI S_ 32 (BitVec.ofNat 32 e)))))
    (mulf (mulf (proj X W1 e he) (Host.divf ones (addf ones (Host.exp (Host.negf (proj X W1 e he)))))) (proj X W3 e he)) rest

/-- The reference's result. -/
def glu (TE : IVec S72 32) (NV : IVec S1 32) (X : IVec S36864x2048 32) (W1 W3 : FVec Ideal S1x8x4096x4096 .f32) :
    FVec Ideal S36864x4096 .bf16 :=
  truncf .bf16 (
    choose (expert TE NV) X W1 W3 7 Gen.slices_S8x4096x4096_S1x4096x4096_7_0_0 <|
    choose (expert TE NV) X W1 W3 6 Gen.slices_S8x4096x4096_S1x4096x4096_6_0_0 <|
    choose (expert TE NV) X W1 W3 5 Gen.slices_S8x4096x4096_S1x4096x4096_5_0_0 <|
    choose (expert TE NV) X W1 W3 4 Gen.slices_S8x4096x4096_S1x4096x4096_4_0_0 <|
    choose (expert TE NV) X W1 W3 3 Gen.slices_S8x4096x4096_S1x4096x4096_3_0_0 <|
    choose (expert TE NV) X W1 W3 2 Gen.slices_S8x4096x4096_S1x4096x4096_2_0_0 <|
    choose (expert TE NV) X W1 W3 1 Gen.slices_S8x4096x4096_S1x4096x4096_1_0_0 <|
    choose (expert TE NV) X W1 W3 0 Gen.slices_S8x4096x4096_S1x4096x4096_0_0_0 <|
    broadcastInDim S36864x4096 ![] Gen.bcast_S_S36864x4096 (constant S_ .f32 0x00000000#32)) Gen.bitsLt_bf16_f32

namespace Value

open Cert.MoeGluReferenceIdeal.Gen

/-- The reference's run: the grouped product in the result, the arguments unchanged. -/
theorem run_glu (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v106) = glu (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
    unfold res_main_v83 res_main_v99 res_main_v88 res_main_v77 res_main_v66 res_main_v55 res_main_v44 res_main_v33 res_main_v22
      res_main_v16 res_main_v8 res_main_v1 res_main_v0
    rfl), (h c).2⟩) (run m ρ)

end Value

end Cert.MoeGluReferenceIdeal

end
-- ==== Proof.Moe.FrameIdeal.lean ====
/- THE FRAME of the grouped expert up-projection (`MoeGluKernelIdeal`): the pallas_call over 8 column tiles and 72 row tiles, whose
   prefetched tables say which expert a row tile belongs to and how many row tiles are in use. Every row tile is written: with
   the gated product where it is in use, with zeros where it is not (`cond0_0` against `cond0_1`). The statements hold for all
   tables whose blocks lie inside the arrays (`Ok`); `Moe/Tables.lean` proves that of the tables in range. -/
module

public import proofs.«01_k».proof.Proof.Gen.MoeGluKernelIdeal.Launch
public import proofs.«01_k».proof.Proof.Gen.MoeGluKernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- membership in a rectangle of production extents: the elaborator's structural look recurses once per coordinate
set_option maxRecDepth 16384

noncomputable section

namespace Cert.MoeGluKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Window 3 (result 0 (%0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_glu (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Moe/Tables.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S72 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_MoeGluKernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c)))⟩) h

/-! ## The body's branch conditions -/

/-- The condition of the body's `scf.if` 0: over WORDS the body reads from its tables or input SMEM windows
    (`v0`), so no function of the point — a case variable: a hypothesis of each run, a `by_cases`
    of the obligation and an `if` of `outsAt`, stated over the argument blocks' words there. -/
abbrev cond0_0 (i : grid0.Coords) (v0 : BitVec 32) : Prop := (Scalar.cmpi .ne (Scalar.extui (Scalar.cmpi .slt (BitVec.ofNat 32 (i 1).val) v0)) 0#32) = 1#1

/-- The condition of the second branch: the row tile is not in use. -/
abbrev cond0_1 (i : grid0.Coords) (v0 : BitVec 32) : Prop := k0_cond2 i v0 = 1#1

/-- Exactly one of the two branches is taken. -/
theorem cond0_1_iff (i : grid0.Coords) (v0 : BitVec 32) : cond0_1 i v0 ↔ ¬ cond0_0 i v0 := by
  unfold cond0_1 cond0_0 k0_cond2
  dsimp only
  generalize Scalar.cmpi .slt (BitVec.ofNat 32 (i 1).val) v0 = b
  revert b; decide

/-- So no point leaves the result's buffer unwritten. -/
theorem live (pf : pre0.Contents (Elt F)) (i : grid0.Coords) : idle0 pf 3 i = false := by
  have h := cond0_1_iff i (pf.atD 1 ![0])
  have h0 : cond0_0 i (pf.atD 1 ![0]) ↔ k0_cond1 i (pf.atD 1 ![0]) = 1#1 := Iff.rfl
  show (!(k0_cond1 i (pf.atD 1 ![0]) == 1#1) && !(k0_cond2 i (pf.atD 1 ![0]) == 1#1)) = false
  by_cases h1 : k0_cond1 i (pf.atD 1 ![0]) = 1#1
  · simp [h1]
  · have : k0_cond2 i (pf.atD 1 ![0]) = 1#1 := h.2 fun hh => h1 (h0.1 hh)
    simp [this]

/-! ## The kernel body on any staging memrefs: a subtype the run finds -/

/-- One staging buffer of output window 3, through which its contents are stated (`View.read_writes_of_cover`: the
    choice does not matter). -/
abbrev VO0_3 : View sig .tc .vmem S512x512 .bf16 := (Memref.whole cc0_stg3_0 : Memref sig .tc .vmem S512x512 .bf16).view
/-- Each window's current staging memref at point `t`, spelled as the pipeline passes it (`bodyAt0`), and its wholeness. -/
abbrev ms0_0 (hO : Ok m) (t : Fin (cfgM m hO).N) : Memref sig .tc .vmem S512x2048 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x4096x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x4096x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x512 .bf16 := spec0_3.stage ((cfgM m hO).slots t 3)
abbrev hs0_3 (hO : Ok m) (t : Fin (cfgM m hO).N) : (ms0_3 m hO t).IsWhole := hstage0_3 (((cfgM m hO).slots t 3).cast nbuf0_3)

-- (the run's proof term is large: the definition's epilogue — `abstractNestedProofs` — walks it past the default budget)
set_option maxHeartbeats 1000000 in
/-- The body run at a row tile that is in use: what it leaves in the result's buffer is the witness that the run finds. -/
noncomputable def kernelRun0_A (c : Dev nD) (i : grid0.Coords) (arg4 : Memref sig .tc .vmem S512x2048 .i32) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (x0 : Vec F S512x2048 .i32) (x1 : Vec F S1x1x4096x512 .f32) (x2 : Vec F S1x1x4096x512 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) :
    { L3 : List (View.Piece (Elt F) S512x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ tbPt0 c tbM0_0 xt0 ∗ tbPt0 c tbM0_1 xt1) -∗ K ⟨⟩))
          ⊢ wp frame (wpE (defs₀ (F := F)) Variants.none c none) E (cc0_moe_glu i tbM0_0 htbM0_0 tbM0_1 htbM0_1 arg4 harg4 arg5 harg5 arg6 harg6 arg7 harg7) K } := by
  refine ⟨?_, fun E K => ?run⟩
  case run =>
    simp only [cc0_moe_glu_eq_skeleton]; unfold cc0_moe_glu_skel
    simp only [k0_part1_eq_skeleton]
    unfold owns
    iintro ⟨⟨%f0, %hf0, H0⟩, ⟨%f1, %hf1, H1⟩, ⟨%f2, %hf2, H2⟩, ⟨%d3, %f3, -, H3⟩, HT0, HT1, Hk⟩
    obtain rfl := harg4.eq_unread hf0; obtain rfl := harg5.eq_unread hf1; obtain rfl := harg6.eq_unread hf2
    have hc1 : ¬cond0_1 i (tbM0_1.view.readAt (Elt F) (Rect.unit (s := S1) ![0] S1.size inb_S1_S1_0).toLoadRect xt1 (Shape.Idx.first (numel1_S1.symm ▸ Nat.one_pos))) := by
      rw [cond0_1_iff]; first | exact hc0 | exact not_not.2 hc0
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HT0]; · iexact HT0
    iexact HT1

-- (the run's proof term is large: the definition's epilogue — `abstractNestedProofs` — walks it past the default budget)
set_option maxHeartbeats 1000000 in
/-- The body run at a row tile that is not in use: what it leaves in the result's buffer is the witness that the run finds. -/
noncomputable def kernelRun0_B (c : Dev nD) (i : grid0.Coords) (arg4 : Memref sig .tc .vmem S512x2048 .i32) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (x0 : Vec F S512x2048 .i32) (x1 : Vec F S1x1x4096x512 .f32) (x2 : Vec F S1x1x4096x512 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) :
    { L3 : List (View.Piece (Elt F) S512x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ tbPt0 c tbM0_0 xt0 ∗ tbPt0 c tbM0_1 xt1) -∗ K ⟨⟩))
          ⊢ wp frame (wpE (defs₀ (F := F)) Variants.none c none) E (cc0_moe_glu i tbM0_0 htbM0_0 tbM0_1 htbM0_1 arg4 harg4 arg5 harg5 arg6 harg6 arg7 harg7) K } := by
  refine ⟨?_, fun E K => ?run⟩
  case run =>
    simp only [cc0_moe_glu_eq_skeleton]; unfold cc0_moe_glu_skel
    unfold owns
    iintro ⟨⟨%f0, %hf0, H0⟩, ⟨%f1, %hf1, H1⟩, ⟨%f2, %hf2, H2⟩, ⟨%d3, %f3, -, H3⟩, HT0, HT1, Hk⟩
    obtain rfl := harg4.eq_unread hf0; obtain rfl := harg5.eq_unread hf1; obtain rfl := harg6.eq_unread hf2
    have hc1 : cond0_1 i (tbM0_1.view.readAt (Elt F) (Rect.unit (s := S1) ![0] S1.size inb_S1_S1_0).toLoadRect xt1 (Shape.Idx.first (numel1_S1.symm ▸ Nat.one_pos))) := by
      rw [cond0_1_iff]; first | exact hc0 | exact not_not.2 hc0
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HT0]; · iexact HT0
    iexact HT1

/-- Case A's pieces for output 3 tile its block (2 stores of `S512x512`, checked by the kernel's evaluation: Lib/Ring.lean `Piece.tiledL`, linear in the pieces, through a loop's `@[irreducible]` trip theorem too), so they cover it. -/
theorem cover0_A_3 (c : Dev nD) (i : grid0.Coords) (arg4 : Memref sig .tc .vmem S512x2048 .i32) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (x0 : Vec F S512x2048 .i32) (x1 : Vec F S1x1x4096x512 .f32) (x2 : Vec F S1x1x4096x512 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (y : S512x512.Idx) :
    ∃ pc ∈ (kernelRun0_A c i arg4 harg4 arg5 harg5 arg6 harg6 arg7 harg7 x0 x1 x2 xt0 xt1 hc0).1, y ∈ pc.1.set :=
  View.cover_of_tiledL (kernelRun0_A c i arg4 harg4 arg5 harg5 arg6 harg6 arg7 harg7 x0 x1 x2 xt0 xt1 hc0).1 S512x512.size (by sl_kernel_rfl) y

/-- What case A leaves in output 3's staging buffer: its pieces read back over junk. -/
def out0_A_3 (c : Dev nD) (i : grid0.Coords) (arg4 : Memref sig .tc .vmem S512x2048 .i32) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (x0 : Vec F S512x2048 .i32) (x1 : Vec F S1x1x4096x512 .f32) (x2 : Vec F S1x1x4096x512 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) : Vec F S512x512 .bf16 :=
  VO0_3.read (Elt F) (VO0_3.writes (Elt F) VO0_3.junk (kernelRun0_A c i arg4 harg4 arg5 harg5 arg6 harg6 arg7 harg7 x0 x1 x2 xt0 xt1 hc0).1)

/-- Case B's pieces for output 3 tile its block (1 store of `S512x512`, checked by the kernel's evaluation: Lib/Ring.lean `Piece.tiledL`, linear in the pieces, through a loop's `@[irreducible]` trip theorem too), so they cover it. -/
theorem cover0_B_3 (c : Dev nD) (i : grid0.Coords) (arg4 : Memref sig .tc .vmem S512x2048 .i32) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (x0 : Vec F S512x2048 .i32) (x1 : Vec F S1x1x4096x512 .f32) (x2 : Vec F S1x1x4096x512 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) (y : S512x512.Idx) :
    ∃ pc ∈ (kernelRun0_B c i arg4 harg4 arg5 harg5 arg6 harg6 arg7 harg7 x0 x1 x2 xt0 xt1 hc0).1, y ∈ pc.1.set :=
  View.cover_of_tiledL (kernelRun0_B c i arg4 harg4 arg5 harg5 arg6 harg6 arg7 harg7 x0 x1 x2 xt0 xt1 hc0).1 S512x512.size (by sl_kernel_rfl) y

/-- What case B leaves in output 3's staging buffer: its pieces read back over junk. -/
def out0_B_3 (c : Dev nD) (i : grid0.Coords) (arg4 : Memref sig .tc .vmem S512x2048 .i32) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (x0 : Vec F S512x2048 .i32) (x1 : Vec F S1x1x4096x512 .f32) (x2 : Vec F S1x1x4096x512 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) : Vec F S512x512 .bf16 :=
  VO0_3.read (Elt F) (VO0_3.writes (Elt F) VO0_3.junk (kernelRun0_B c i arg4 harg4 arg5 harg5 arg6 harg6 arg7 harg7 x0 x1 x2 xt0 xt1 hc0).1)

/-! ## What the outputs hold after each point -/

/-- What the outputs' staging buffers hold after the body at point `t`: the run's contents at
    the point's memrefs and input blocks, the case its WORD conditions select there. -/
def outsAt0 (hO : Ok m) (c : Dev nD) (t : Fin (cfgM m hO).N) : Vec F S512x512 .bf16 :=
  if h0 : cond0_0 (grid0.coords t) (tbM0_1.view.readAt (Elt F) (Rect.unit (s := S1) ![0] S1.size inb_S1_S1_0).toLoadRect (tbl m 1) (Shape.Idx.first (numel1_S1.symm ▸ Nat.one_pos))) then
    out0_A_3 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) h0
  else
    out0_B_3 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) h0

/-- `outsAt0` at a point of case A: that case's contents. -/
theorem outsAt0_A (hO : Ok m) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_A_3 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) h0 := by
  unfold outsAt0; exact (dif_pos h0).trans rfl

/-- `outsAt0` at a point of case B: that case's contents. -/
theorem outsAt0_B (hO : Ok m) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_B_3 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) h0 := by
  unfold outsAt0; exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  by_cases h0 : cond0_0 (grid0.coords t) (tbM0_1.view.readAt (Elt F) (Rect.unit (s := S1) ![0] S1.size inb_S1_S1_0).toLoadRect (tbl m 1) (Shape.Idx.first (numel1_S1.symm ▸ Nat.one_pos)))
  · rw [outsAt0_A m hO c t h0]
    unfold out0_A_3
    iintro ⟨⟨HΦ, ⟨HT0, HT1⟩⟩, Ho, ⟨%d0, H0⟩, ⟨%d1, H1⟩, ⟨%d2, H2⟩, ⟨%d3, H3⟩⟩
    iapply ((kernelRun0_A c (grid0.coords t) _ _ _ _ _ _ _ _ (iblk m hO c 0 t) (iblk m hO c 1 t) (iblk m hO c 2 t) (tbl m 0) (tbl m 1) h0).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _ _ _)
  · rw [outsAt0_B m hO c t h0]
    unfold out0_B_3
    iintro ⟨⟨HΦ, ⟨HT0, HT1⟩⟩, Ho, ⟨%d0, H0⟩, ⟨%d1, H1⟩, ⟨%d2, H2⟩, ⟨%d3, H3⟩⟩
    iapply ((kernelRun0_B c (grid0.coords t) _ _ _ _ _ _ _ _ (iblk m hO c 0 t) (iblk m hO c 1 t) (iblk m hO c 2 t) (tbl m 0) (tbl m 1) h0).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have hl : idle0 (tbl m) 3 ((pcfg0.gridAt (tbl m)).coords t) = false := live (tbl m) (grid0.coords t)
  dsimp only
  rw [hl]
  exact .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- THE FRAME: `Cert.quiescent_MoeGluKernelIdeal`'s statement (Defs.lean) at any `F` — Proof.lean cites it at `Bits`:
    here for every contents of the PREFETCHED TABLES, UNDER `Gen.Ok m` (the pipeline's side condition of
    them), which Proof.lean proves from the precondition: `⟨…, fun m ρ h => Cert.MoeGluKernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.MoeGluKernelIdeal.Gen

end
-- ==== Proof.Moe.Gate.lean ====
/- The gated product of one row with one expert's matrices, as plain sums: what the reference's term holds at an index, and what the
   kernel's two branches store at an index of their block. -/
module

public import proofs.«01_k».proof.Proof.Moe.Reference
public import proofs.«01_k».proof.Proof.Moe.FrameIdeal
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe

namespace Cert.MoeGlu

/-- The float in a word's low half. -/
def lo (w : BitVec 32) : EReal := Ideal.ofBits .f32 (IntOp.shli .host w 16#32)

/-- The float in a word's high half. -/
def hi (w : BitVec 32) : EReal := Ideal.ofBits .f32 (IntOp.andi w 4294901760#32)

/-- A row of words against a column: the low halves meet its first half, the high halves its second. -/
def dot (x : Fin 2048 → BitVec 32) (w : Fin 4096 → EReal) : EReal :=
  ∑ k : Fin 2048, lo (x k) * w ⟨k.val, by omega⟩ + ∑ k : Fin 2048, hi (x k) * w ⟨2048 + k.val, by omega⟩

/-- `silu a * b`. -/
def gate (a b : EReal) : EReal := a * Ideal.div 1 (1 + Ideal.exp (-a)) * b

/-- A shift by sixteen is the same on a vector and on the host. -/
theorem shli_host (w : BitVec 32) : IntOp.shli .vector w 16#32 = IntOp.shli .host w 16#32 := rfl

/-- Eight selections in turn pick the entry of the word they are tested against. -/
theorem ladder (g : Fin 8 → EReal) (z : EReal) (n : Fin 8) :
    (if BitVec.ofNat 32 n.val = 7#32 then g 7 else if BitVec.ofNat 32 n.val = 6#32 then g 6 else
      if BitVec.ofNat 32 n.val = 5#32 then g 5 else if BitVec.ofNat 32 n.val = 4#32 then g 4 else
      if BitVec.ofNat 32 n.val = 3#32 then g 3 else if BitVec.ofNat 32 n.val = 2#32 then g 2 else
      if BitVec.ofNat 32 n.val = 1#32 then g 1 else if BitVec.ofNat 32 n.val = 0#32 then g 0 else z) = g n := by
  fin_cases n <;> rfl

end Cert.MoeGlu

namespace Cert.MoeGluReferenceIdeal

open Cert.MoeGlu

theorem proj_at (X : IVec S36864x2048 32) (W : FVec Ideal S1x8x4096x4096 .f32) (e : Fin 8)
    (he : S8x4096x4096.Slices ![e.val, 0, 0] S1x4096x4096) (j : S36864x4096.Idx) :
    proj X W e.val he j = dot (fun k => X (ix2 (j 0) k)) (fun k => W (ix4 0 e k (j 1))) := by
  pointwise [proj, tokens]
  rfl

/-- Expert `e`'s gated product at an index. -/
abbrev own (X : IVec S36864x2048 32) (W1 W3 : FVec Ideal S1x8x4096x4096 .f32) (j : S36864x4096.Idx) (e : Fin 8) : EReal :=
  gate (dot (fun k => X (ix2 (j 0) k)) (fun k => W1 (ix4 0 e k (j 1)))) (dot (fun k => X (ix2 (j 0) k)) (fun k => W3 (ix4 0 e k (j 1))))

theorem choose_at (R : IVec S36864x1 32) (X : IVec S36864x2048 32) (W1 W3 : FVec Ideal S1x8x4096x4096 .f32) (e : Fin 8)
    (he : S8x4096x4096.Slices ![e.val, 0, 0] S1x4096x4096) (rest : FVec Ideal S36864x4096 .f32) (j : S36864x4096.Idx) :
    choose R X W1 W3 e.val he rest j = if R (ix2 (j 0) 0) = BitVec.ofNat 32 e.val then own X W1 W3 j e else rest j := by
  pointwise [choose, ones]
  rw [proj_at, proj_at]
  by_cases h : R (ix2 (j 0) 0) = BitVec.ofNat 32 e.val
  · rw [if_pos h, WordCmp.cmpi_eq_eq, decide_eq_true h]; rfl
  · rw [if_neg h, WordCmp.cmpi_eq_eq, decide_eq_false h]; rfl

theorem expert_at (TE : IVec S72 32) (NV : IVec S1 32) (r : Fin 36864) :
    expert TE NV (ix2 r 0) = if ((r.val / 512 : ℕ) : ℤ) < (NV (ix1 0)).toInt then TE (ix1 ⟨r.val / 512, by omega⟩) else 4294967295#32 := by
  have hr := r.isLt
  pointwise [expert]
  rw [WordCmp.cmpi_slt_eq, WordCmp.toInt_ofNat_of_lt (by omega)]
  by_cases h : ((r.val / 512 : ℕ) : ℤ) < (NV (ix1 0)).toInt
  · rw [if_pos h, decide_eq_true h]; rfl
  · rw [if_neg h, decide_eq_false h]; rfl

/-- The reference's result at an index: the gated product of the row's expert in a tile in use, zero elsewhere. -/
theorem glu_at (TE : IVec S72 32) (NV : IVec S1 32) (X : IVec S36864x2048 32) (W1 W3 : FVec Ideal S1x8x4096x4096 .f32)
    (j : S36864x4096.Idx) (i : Fin 72) (hi : (j 0).val / 512 = i.val) (hT : (TE (ix1 i)).toNat < 8) :
    glu TE NV X W1 W3 j = if (i.val : ℤ) < (NV (ix1 0)).toInt then own X W1 W3 j ⟨(TE (ix1 i)).toNat, hT⟩ else 0 := by
  have hE := expert_at TE NV (j 0)
  have hi' : (⟨(j 0).val / 512, by omega⟩ : Fin 72) = i := Fin.ext hi
  rw [hi', hi] at hE
  show choose _ X W1 W3 (7 : Fin 8).val _ (choose _ X W1 W3 (6 : Fin 8).val _ (choose _ X W1 W3 (5 : Fin 8).val _
    (choose _ X W1 W3 (4 : Fin 8).val _ (choose _ X W1 W3 (3 : Fin 8).val _ (choose _ X W1 W3 (2 : Fin 8).val _
    (choose _ X W1 W3 (1 : Fin 8).val _ (choose _ X W1 W3 (0 : Fin 8).val _ _))))))) j = _
  simp only [choose_at]
  rw [hE]
  by_cases h : (i.val : ℤ) < (NV (ix1 0)).toInt
  · rw [if_pos h, if_pos h]
    have hw : TE (ix1 i) = BitVec.ofNat 32 (TE (ix1 i)).toNat := BitVec.eq_of_toNat_eq (by simp)
    generalize hn : (⟨(TE (ix1 i)).toNat, hT⟩ : Fin 8) = n
    have hw' : TE (ix1 i) = BitVec.ofNat 32 n.val := by rw [← hn]; exact hw
    rw [hw']
    exact ladder (own X W1 W3 j) _ n
  · rw [if_neg h, if_neg h]
    show broadcastInDim S36864x4096 ![] Gen.bcast_S_S36864x4096 (constant (F := Ideal) S_ .f32 0x00000000#32) j = 0
    pointwise

end Cert.MoeGluReferenceIdeal

namespace Cert.MoeGluKernelIdeal.Value

open Cert.MoeGluKernelIdeal Cert.MoeGluKernelIdeal.Gen Cert.MoeGlu

/-- What the branch of a tile in use stores at an index of its block. -/
theorem pay_at (x0 : Vec Ideal S512x2048 .i32) (x1 x2 : Vec Ideal S1x1x4096x512 .f32) (y : S512x512.Idx) :
    k0_pay1 (F := Ideal) (k0_pay4 x0)
      (k0_pay5 x0 (View.ld x1 (Rect.unit (s := S1x1x4096x512) ![0, 0, 0, 0] ![1, 1, 2048, 512] inb_S1x1x4096x512_S1x1x2048x512_0_0_0_0))
        (View.ld x1 (Rect.unit (s := S1x1x4096x512) ![0, 0, 2048, 0] ![1, 1, 2048, 512] inb_S1x1x4096x512_S1x1x2048x512_0_0_2048_0)))
      (k0_pay6 x0 (View.ld x2 (Rect.unit (s := S1x1x4096x512) ![0, 0, 0, 0] ![1, 1, 2048, 512] inb_S1x1x4096x512_S1x1x2048x512_0_0_0_0)))
      (k0_pay7 (View.ld x2 (Rect.unit (s := S1x1x4096x512) ![0, 0, 2048, 0] ![1, 1, 2048, 512] inb_S1x1x4096x512_S1x1x2048x512_0_0_2048_0)))
      (constant S512x512 .f32 0#32) y
    = gate (dot (fun k => x0 (ix2 (y 0) k)) (fun k => x1 (ix4 0 0 k (y 1)))) (dot (fun k => x0 (ix2 (y 0) k)) (fun k => x2 (ix4 0 0 k (y 1)))) := by
  pointwise [k0_pay1, k0_pay5, k0_pay6, k0_pay7, k0_pay3, k0_pay4]
  simp only [zero_sub, shli_host]
  rfl

/-- The other branch stores zeros. -/
theorem zeros_at (y : S512x512.Idx) : k0_pay2 (F := Ideal) y = 0 := by
  pointwise [k0_pay2]

end Cert.MoeGluKernelIdeal.Value

end
-- ==== Proof.Moe.Range.lean ====
/- What the precondition `tables_in_range` says of the two tables of the grouped expert products, word by word: every entry of the
   first names an expert, and the second, the number of row tiles in use, is at least one. -/
module

public import proofs.«01_k».proof.Pre_tables_in_range
public import Idealize.ShloMosaic.Lib.WordCmp
public import Idealize.ShloMosaic.Lib.ReduceAll
public import Idealize.ShloMosaic.Lib.Pointwise

@[expose] public section

noncomputable section

namespace Cert.Pre_tables_in_range

open Idealize.ShloMosaic

variable {F : FTy → Type} [FloatOps F] [Facts]

theorem range (TE : IVec S72 32) (NV : IVec S1 32) (X : IVec S36864x2048 32) (W1 W3 : FVec F S1x8x4096x4096 .f32)
    (e : fn (F := F) TE NV X W1 W3 = fun _ => 1#1) :
    (∀ i, (TE i).toNat < 8) ∧ ∀ i, 1 ≤ (NV i).toInt := by
  have e0 := congrFun e (Shape.Idx.first Facts.h_S_)
  unfold fn at e0
  dsimp only [andi] at e0
  obtain ⟨h1, h2⟩ := IntOp.andi_eq_one.1 e0
  haveI : Subsingleton S_.Idx := ⟨fun a b => funext fun x => x.elim0⟩
  refine ⟨fun i => ?_, fun i => ?_⟩
  · have h : IntOp.andi (IntOp.cmpi .sge (TE i) 0#32) (IntOp.cmpi .slt (TE i) (BitVec.ofNat 32 8)) = 1#1 :=
      Host.reduce_andi_all _ _ _ _ _ h1 i
    rw [WordCmp.andi_sge_zero_slt_ofNat (by decide)] at h
    exact of_decide_eq_true ((WordCmp.ofBool_eq_one_iff _).1 h)
  · have h : IntOp.cmpi .sge (NV i) 1#32 = 1#1 := Host.reduce_andi_all _ _ _ _ _ h2 i
    rw [WordCmp.cmpi_sge_eq] at h
    exact of_decide_eq_true ((WordCmp.ofBool_eq_one_iff _).1 h)

/-- The lesser of a row tile's number and the last tile in use, read as a number. -/
theorem tile (i : ℕ) (hi : i < 72) (n : BitVec 32) (hn : 1 ≤ n.toInt) :
    (Scalar.minsi (BitVec.ofNat 32 i) (Scalar.subi n 1#32)).toNat = min i (n.toNat - 1) := by
  have h31 : n.toNat < 2 ^ 31 := (WordCmp.toInt_nonneg_iff_lt_half n).1 (by omega)
  have hN : n.toInt = (n.toNat : ℤ) := WordCmp.toInt_eq_toNat_of_lt_half h31
  obtain ⟨k, hk⟩ : ∃ k, k = n.toNat - 1 := ⟨_, rfl⟩
  have hs : Scalar.subi n 1#32 = BitVec.ofNat 32 k := by
    apply BitVec.eq_of_toNat_eq
    show (n - 1#32).toNat = _
    rw [BitVec.toNat_sub, BitVec.toNat_ofNat, BitVec.toNat_ofNat]
    omega
  have e1 : (BitVec.ofNat 32 i).toInt = (i : ℤ) := WordCmp.toInt_ofNat_of_lt (by omega)
  have e2 : (BitVec.ofNat 32 k).toInt = (k : ℤ) := WordCmp.toInt_ofNat_of_lt (by omega)
  rw [hs, ← hk]
  unfold Scalar.minsi IntOp.minsi
  rw [BitVec.slt_eq_decide, e1, e2]
  simp only [decide_eq_true_eq, Int.ofNat_lt]
  split
  · rw [BitVec.toNat_ofNat]; omega
  · rw [BitVec.toNat_ofNat]; omega

end Cert.Pre_tables_in_range

end
-- ==== Proof.Moe.Tables.lean ====
/- The tables in range give the side condition of the grouped expert up-projection, that every block lies inside its array: of the
   program as printed and of the idealized one, in the same words. -/
module

public import proofs.«01_k».proof.Defs
public import proofs.«01_k».proof.Proof.Moe.Range
public import proofs.«01_k».proof.Proof.Moe.Frame
public import proofs.«01_k».proof.Proof.Moe.FrameIdeal
public import proofs.«01_k».proof.Proof.Gen.Pre_tables_in_range

@[expose] public section

set_option maxRecDepth 16384

noncomputable section

open Idealize.ShloMosaic Idealize.ShloMosaic.TcCoe

namespace Cert.MoeGluKernel.Gen

open Cert.MoeGluKernel

/-- Every block lies inside its array once every table word is in range. -/
theorem ok_of_range {F : FTy → Type} [FloatOps F] (pf : pre0.Contents (Elt F)) (hT : ∀ i : S72.Idx, (pf 0 i : BitVec 32).toNat < 8)
    (hN : ∀ i : S1.Idx, 1 ≤ (pf 1 i : BitVec 32).toInt) : ok0 (F := F) pf := by
  unfold ok0
  refine ⟨fun i => ⟨?_, .inl rfl⟩, fun i => ⟨?_, .inl rfl⟩, fun i => ⟨?_, .inl rfl⟩⟩
  · have h1 : (i 1).val < 72 := (i 1).isLt
    have h := Cert.Pre_tables_in_range.tile (i 1).val h1 (pf.at 1 (Rect.unit (s := S1) ![0] S1.size Facts₀.inb_S1_S1_0) Facts₀.numel1_S1) (hN _)
    intro a
    fin_cases a
    · show (BitVec.toNat (Scalar.minsi (BitVec.ofNat 32 (i 1).val) (Scalar.subi (pf.at 1 (Rect.unit (s := S1) ![0] S1.size Facts₀.inb_S1_S1_0) Facts₀.numel1_S1) 1#32)) + 1) * 512 ≤ 36864
      rw [h]; omega
    · show (0 + 1) * 2048 ≤ 2048
      decide
  all_goals
    have h0 : (i 0).val < 8 := (i 0).isLt
    intro a
    fin_cases a
    · show (0 + 1) * 1 ≤ 1
      decide
    · show (BitVec.toNat (pf 0 _) + 1) * 1 ≤ 8
      rw [Nat.mul_one]
      exact hT _
    · show (0 + 1) * 4096 ≤ 4096
      decide
    · show ((BitVec.ofNat 32 (i 0).val).toNat + 1) * 512 ≤ 4096
      rw [BitVec.toNat_ofNat]; omega

/-- So the precondition gives it of the tables as launched. -/
theorem ok_of_pre (m : (ℓ : Loc nD τ sig) → Buf (Elt Bits) ℓ) (h : Cert.Pre_MoeGluKernel m) : Ok (F := Bits) m :=
  ok_of_range (tbl m) (Cert.Pre_tables_in_range.range _ _ _ _ _ (h 0)).1 (Cert.Pre_tables_in_range.range _ _ _ _ _ (h 0)).2

end Cert.MoeGluKernel.Gen

namespace Cert.MoeGluKernelIdeal.Gen

open Cert.MoeGluKernelIdeal

/-- Every block lies inside its array once every table word is in range. -/
theorem ok_of_range {F : FTy → Type} [FloatOps F] (pf : pre0.Contents (Elt F)) (hT : ∀ i : S72.Idx, (pf 0 i : BitVec 32).toNat < 8)
    (hN : ∀ i : S1.Idx, 1 ≤ (pf 1 i : BitVec 32).toInt) : ok0 (F := F) pf := by
  unfold ok0
  refine ⟨fun i => ⟨?_, .inl rfl⟩, fun i => ⟨?_, .inl rfl⟩, fun i => ⟨?_, .inl rfl⟩⟩
  · have h1 : (i 1).val < 72 := (i 1).isLt
    have h := Cert.Pre_tables_in_range.tile (i 1).val h1 (pf.at 1 (Rect.unit (s := S1) ![0] S1.size Facts₀.inb_S1_S1_0) Facts₀.numel1_S1) (hN _)
    intro a
    fin_cases a
    · show (BitVec.toNat (Scalar.minsi (BitVec.ofNat 32 (i 1).val) (Scalar.subi (pf.at 1 (Rect.unit (s := S1) ![0] S1.size Facts₀.inb_S1_S1_0) Facts₀.numel1_S1) 1#32)) + 1) * 512 ≤ 36864
      rw [h]; omega
    · show (0 + 1) * 2048 ≤ 2048
      decide
  all_goals
    have h0 : (i 0).val < 8 := (i 0).isLt
    intro a
    fin_cases a
    · show (0 + 1) * 1 ≤ 1
      decide
    · show (BitVec.toNat (pf 0 _) + 1) * 1 ≤ 8
      rw [Nat.mul_one]
      exact hT _
    · show (0 + 1) * 4096 ≤ 4096
      decide
    · show ((BitVec.ofNat 32 (i 0).val).toNat + 1) * 512 ≤ 4096
      rw [BitVec.toNat_ofNat]; omega

/-- So the precondition gives it of the tables as launched. -/
theorem ok_of_pre (m : (ℓ : Loc nD τ sig) → Buf (Elt Ideal) ℓ) (h : Cert.Pre_MoeGluKernelIdeal m) : Ok (F := Ideal) m :=
  ok_of_range (tbl m) (Cert.Pre_tables_in_range.range _ _ _ _ _ (h 0)).1 (Cert.Pre_tables_in_range.range _ _ _ _ _ (h 0)).2

end Cert.MoeGluKernelIdeal.Gen

end
-- ==== Proof.Moe.Blocks.lean ====
/- Where the blocks of the grouped expert up-projection sit: at grid point `t` the column tile is `t / 72` and the row tile `t % 72`, the
   weights' blocks are the row tile's expert's, and the tokens' block is the row tile's own wherever that tile is in use. -/
module

public import proofs.«01_k».proof.Proof.Moe.Gate
public import proofs.«01_k».proof.Proof.Moe.Tables

@[expose] public section

set_option maxRecDepth 16384

noncomputable section

open Idealize.ShloMosaic Idealize.ShloMosaic.TcCoe Idealize.SL.Sem
open Idealize.ShloMosaic.Pipeline (Dat)

namespace Cert.MoeGluKernelIdeal.Value

open Cert.MoeGluKernelIdeal Cert.MoeGluKernelIdeal.Gen Cert.MoeGlu

variable (m : (ℓ : Loc nD τ sig) → Buf (Elt Ideal) ℓ) (hO : Ok m)

/-- The experts' table, the number of row tiles in use, the packed tokens and the two weights, as launched. -/
abbrev TE : IVec S72 32 := tbl m 0
abbrev NV : IVec S1 32 := tbl m 1
abbrev X (c : Dev nD) : IVec S36864x2048 32 := m ((c : Thread nD τ).loc main_arg2)
abbrev W1 (c : Dev nD) : FVec Ideal S1x8x4096x4096 .f32 := m ((c : Thread nD τ).loc main_arg3)
abbrev W3 (c : Dev nD) : FVec Ideal S1x8x4096x4096 .f32 := m ((c : Thread nD τ).loc main_arg4)

instance : Subsingleton S1.Idx := ⟨fun a b => funext fun x => by
  have hx : x = (0 : Fin 1) := Subsingleton.elim _ _
  subst hx
  exact Subsingleton.elim (α := Fin 1) (a 0) (b 0)⟩

/-- The grid's coordinates. -/
theorem coords_at : ∀ t : Fin grid0.N, (grid0.coords t 0).val = t.val / 72 ∧ (grid0.coords t 1).val = t.val % 72 := by
  decide +kernel

/-- A number below `2 ^ 32`, through a word and back. -/
theorem toNat_at (n : ℕ) (h : n < 576) : (BitVec.ofNat 32 n).toNat = n := by
  rw [BitVec.toNat_ofNat]; omega

/-- The row tile of a point. -/
def row (t : Fin grid0.N) : Fin 72 := ⟨t.val % 72, by omega⟩

/-- The branch of a tile in use is taken where the row tile is below the number in use. -/
theorem cond_iff (i : grid0.Coords) (v : BitVec 32) : cond0_0 i v ↔ ((i 1).val : ℤ) < v.toInt := by
  have hi : (i 1).val < 72 := (i 1).isLt
  have hc : cond0_0 i v ↔ Scalar.cmpi .slt (BitVec.ofNat 32 (i 1).val) v = 1#1 := by
    unfold cond0_0
    generalize Scalar.cmpi .slt (BitVec.ofNat 32 (i 1).val) v = b
    revert b; decide
  rw [hc]
  show IntOp.cmpi .slt (BitVec.ofNat 32 (i 1).val) v = 1#1 ↔ _
  rw [WordCmp.cmpi_slt_eq, WordCmp.toInt_ofNat_of_lt (by omega), WordCmp.ofBool_eq_one_iff, decide_eq_true_iff]

/-- The word the body tests is the number in use. -/
theorem word_at : tbM0_1.view.readAt (Elt Ideal) (Rect.unit (s := S1) ![0] S1.size inb_S1_S1_0).toLoadRect (tbl m 1)
    (Shape.Idx.first (numel1_S1.symm ▸ Nat.one_pos)) = NV m (ix1 0) :=
  congrArg (NV m) (Subsingleton.elim _ _)

/-- The expert the weights' index maps read. -/
theorem expert_word (i : grid0.Coords) : (tbl m).at 0 (Rect.unit (s := S72) ![(Scalar.indexCast (BitVec.ofNat 32 (i 1).val)).toNat] S1.size (k0_off1_inb i)) numel1_S1
    = TE m (ix1 (i 1)) := by
  refine congrArg (TE m) (funext fun a => Fin.ext ?_)
  obtain rfl : a = (0 : Fin 1) := Subsingleton.elim (α := Fin 1) a 0
  refine (ValueKit.rect_emb_unit_val _ _ _ _ _).trans ?_
  have hi : (i 1).val < 72 := (i 1).isLt
  show (BitVec.ofNat 32 (i 1).val).toNat + 0 = (i 1).val
  rw [BitVec.toNat_ofNat]; omega

/-- The windows' block indices. -/
theorem index_0 (hN : 1 ≤ (NV m (ix1 0)).toInt) (t : Fin (cfgM m hO).N) (hu : ((row t).val : ℤ) < (NV m (ix1 0)).toInt) :
    ((cfgM m hO).win 0).index t = ![t.val % 72, 0] := by
  have h1 := (coords_at t).2
  have e : (tbl m).at 1 (Rect.unit (s := S1) ![0] S1.size inb_S1_S1_0) numel1_S1 = NV m (ix1 0) := congrArg (NV m) (Subsingleton.elim _ _)
  show ![(Scalar.minsi (BitVec.ofNat 32 (grid0.coords t 1).val) (Scalar.subi ((tbl m).at 1 (Rect.unit (s := S1) ![0] S1.size inb_S1_S1_0) numel1_S1) 1#32)).toNat, 0] = _
  rw [e, h1, Cert.Pre_tables_in_range.tile _ (by omega) _ hN]
  have hr : (row t).val = t.val % 72 := rfl
  have h31 : (NV m (ix1 0)).toNat < 2 ^ 31 := (WordCmp.toInt_nonneg_iff_lt_half _).1 (by omega)
  have hZ : (NV m (ix1 0)).toInt = ((NV m (ix1 0)).toNat : ℤ) := WordCmp.toInt_eq_toNat_of_lt_half h31
  rw [Nat.min_eq_left (by omega)]

theorem index_w (t : Fin (cfgM m hO).N) : ![(0#32).toNat, ((tbl m).at 0 (Rect.unit (s := S72) ![(Scalar.indexCast (BitVec.ofNat 32 (grid0.coords t 1).val)).toNat] S1.size (k0_off1_inb (grid0.coords t))) numel1_S1 : BitVec 32).toNat,
    (0#32).toNat, (BitVec.ofNat 32 (grid0.coords t 0).val).toNat] = ![0, (TE m (ix1 (row t))).toNat, 0, t.val / 72] := by
  have ht : t.val < 576 := t.isLt
  have e : grid0.coords t 1 = row t := Fin.ext (coords_at t).2
  rw [expert_word, e, (coords_at t).1, toNat_at (t.val / 72) (by omega)]
  rfl

theorem index_1 (t : Fin (cfgM m hO).N) : ((cfgM m hO).win 1).index t = ![0, (TE m (ix1 (row t))).toNat, 0, t.val / 72] := index_w m hO t

theorem index_2 (t : Fin (cfgM m hO).N) : ((cfgM m hO).win 2).index t = ![0, (TE m (ix1 (row t))).toNat, 0, t.val / 72] := index_w m hO t

theorem index_3 (t : Fin (cfgM m hO).N) : ((cfgM m hO).win 3).index t = ![t.val % 72, t.val / 72] := by
  have ht : t.val < 576 := t.isLt
  show ![(BitVec.ofNat 32 (grid0.coords t 1).val).toNat, (BitVec.ofNat 32 (grid0.coords t 0).val).toNat] = _
  rw [(coords_at t).1, (coords_at t).2, toNat_at (t.val % 72) (by omega), toNat_at (t.val / 72) (by omega)]

/-- Where an index of a result block sits in the array. -/
theorem emb_3 (t : Fin (cfgM m hO).N) (y : S512x512.Idx) : (((cfgM m hO).win 3).blk t).view.emb y
    = (ix2 ⟨t.val % 72 * 512 + (y 0).val, by have h : (y 0).val < 512 := (y 0).isLt; omega⟩
        ⟨t.val / 72 * 512 + (y 1).val, by have : t.val < 576 := t.isLt; have h : (y 1).val < 512 := (y 1).isLt; omega⟩ : S36864x4096.Idx) := by
  refine funext fun a => Fin.ext ?_
  fin_cases a <;> blk_simp [index_3 m hO t] <;> rfl

/-- The result's blocks cover the array. -/
theorem covers : ((cfgM m hO).win 3).Covers := by
  refine ⟨fun a => by fin_cases a <;> exact Nat.zero_lt_succ 511, fun β => ?_⟩
  have h0 : (β (0 : Fin 2)).val < 72 := lt_of_lt_of_eq (β (0 : Fin 2)).isLt (show (36864 + 512 - 1) / 512 = 72 from rfl)
  have h1 : (β (1 : Fin 2)).val < 8 := lt_of_lt_of_eq (β (1 : Fin 2)).isLt (show (4096 + 512 - 1) / 512 = 8 from rfl)
  obtain ⟨t, ht⟩ : ∃ t : Fin (cfgM m hO).N, t.val = (β (1 : Fin 2)).val * 72 + (β (0 : Fin 2)).val :=
    ⟨⟨(β (1 : Fin 2)).val * 72 + (β (0 : Fin 2)).val, show _ < 576 by omega⟩, rfl⟩
  refine ⟨t, flush0_3 (adm m hO) t, fun a => ⟨?_, .inl rfl⟩⟩
  rw [index_3]
  fin_cases a
  · show t.val % 72 = (β (0 : Fin 2)).val
    omega
  · show t.val / 72 = (β (1 : Fin 2)).val
    omega

/-- The tokens' block, where the row tile is in use. -/
theorem iblk_0 (c : Dev nD) (hN : 1 ≤ (NV m (ix1 0)).toInt) (t : Fin (cfgM m hO).N) (hu : ((row t).val : ℤ) < (NV m (ix1 0)).toInt)
    (r : Fin 512) (k : Fin 2048) : iblk m hO c 0 t (ix2 r k) = X m c (ix2 ⟨t.val % 72 * 512 + r.val, by omega⟩ k) := by
  refine congrArg (X m c) (funext fun a => Fin.ext ?_)
  fin_cases a <;> blk_simp [index_0 m hO hN t hu] <;> rfl

theorem iblk_1 (c : Dev nD) (t : Fin (cfgM m hO).N) (hT : (TE m (ix1 (row t))).toNat < 8)
    (k : Fin 4096) (q : Fin 512) : iblk m hO c 1 t (ix4 0 0 k q)
      = W1 m c (ix4 0 ⟨(TE m (ix1 (row t))).toNat, hT⟩ k ⟨t.val / 72 * 512 + q.val, by have : t.val < 576 := t.isLt; omega⟩) := by
  refine congrArg (W1 m c) (funext fun a => Fin.ext ?_)
  fin_cases a <;> blk_simp [index_1 m hO t] <;> rfl

theorem iblk_2 (c : Dev nD) (t : Fin (cfgM m hO).N) (hT : (TE m (ix1 (row t))).toNat < 8)
    (k : Fin 4096) (q : Fin 512) : iblk m hO c 2 t (ix4 0 0 k q)
      = W3 m c (ix4 0 ⟨(TE m (ix1 (row t))).toNat, hT⟩ k ⟨t.val / 72 * 512 + q.val, by have : t.val < 576 := t.isLt; omega⟩) := by
  refine congrArg (W3 m c) (funext fun a => Fin.ext ?_)
  fin_cases a <;> blk_simp [index_2 m hO t] <;> rfl

end Cert.MoeGluKernelIdeal.Value

end
-- ==== Proof.Moe.Glu.lean ====
/- The grouped expert up-projection: the array the kernel leaves is the reference's gated product, row by row the row's expert's in the
   tiles in use and zero in the others. -/
module

public import proofs.«01_k».proof.Proof.Moe.Blocks

@[expose] public section

set_option maxRecDepth 16384

noncomputable section

open Idealize.ShloMosaic Idealize.ShloMosaic.TcCoe Idealize.SL.Sem
open Idealize.ShloMosaic.Pipeline (Dat)

namespace Cert.MoeGluKernelIdeal.Value

open Cert.MoeGluKernelIdeal Cert.MoeGluKernelIdeal.Gen Cert.MoeGlu

/-- The word of the number in use, as the body reads it off its table. -/
abbrev word {c : Dev nD} (xt1 : TbBuf0 (F := Ideal) c tbM0_1) : BitVec 32 :=
  tbM0_1.view.readAt (Elt Ideal) (Rect.unit (s := S1) ![0] S1.size inb_S1_S1_0).toLoadRect xt1 (Shape.Idx.first (numel1_S1.symm ▸ Nat.one_pos))

/-- What a tile in use stores, over any blocks. -/
theorem out_A (c : Dev nD) (i : grid0.Coords) (arg4 : Memref sig .tc .vmem S512x2048 .i32) (harg4 : arg4.IsWhole)
    (arg5 : Memref sig .tc .vmem S1x1x4096x512 .f32) (harg5 : arg5.IsWhole) (arg6 : Memref sig .tc .vmem S1x1x4096x512 .f32)
    (harg6 : arg6.IsWhole) (arg7 : Memref sig .tc .vmem S512x512 .bf16) (harg7 : arg7.IsWhole) (x0 : Vec Ideal S512x2048 .i32)
    (x1 x2 : Vec Ideal S1x1x4096x512 .f32) (xt0 : TbBuf0 (F := Ideal) c tbM0_0) (xt1 : TbBuf0 (F := Ideal) c tbM0_1)
    (hc0 : cond0_0 i (word xt1)) (y : S512x512.Idx) :
    out0_A_3 c i arg4 harg4 arg5 harg5 arg6 harg6 arg7 harg7 x0 x1 x2 xt0 xt1 hc0 y
      = gate (dot (fun k => x0 (ix2 (y 0) k)) (fun k => x1 (ix4 0 0 k (y 1)))) (dot (fun k => x0 (ix2 (y 0) k)) (fun k => x2 (ix4 0 0 k (y 1)))) := by
  frame_out
  exact pay_at x0 x1 x2 y

/-- What any other tile stores. -/
theorem out_B (c : Dev nD) (i : grid0.Coords) (arg4 : Memref sig .tc .vmem S512x2048 .i32) (harg4 : arg4.IsWhole)
    (arg5 : Memref sig .tc .vmem S1x1x4096x512 .f32) (harg5 : arg5.IsWhole) (arg6 : Memref sig .tc .vmem S1x1x4096x512 .f32)
    (harg6 : arg6.IsWhole) (arg7 : Memref sig .tc .vmem S512x512 .bf16) (harg7 : arg7.IsWhole) (x0 : Vec Ideal S512x2048 .i32)
    (x1 x2 : Vec Ideal S1x1x4096x512 .f32) (xt0 : TbBuf0 (F := Ideal) c tbM0_0) (xt1 : TbBuf0 (F := Ideal) c tbM0_1)
    (hc0 : ¬ cond0_0 i (word xt1)) (y : S512x512.Idx) :
    out0_B_3 c i arg4 harg4 arg5 harg5 arg6 harg6 arg7 harg7 x0 x1 x2 xt0 xt1 hc0 y = 0 := by
  frame_out
  exact zeros_at y

variable (m : (ℓ : Loc nD τ sig) → Buf (Elt Ideal) ℓ) (hO : Ok m) (hT : ∀ i : S72.Idx, (TE m i).toNat < 8)
  (hN : ∀ i : S1.Idx, 1 ≤ (NV m i).toInt)

include hT hN in
/-- What a grid point stores at a block index is the reference's result at the array index it sits at. -/
theorem point (c : Dev nD) (t : Fin (cfgM m hO).N) (y : S512x512.Idx) : outsAt0 m hO c t y
    = Cert.MoeGluReferenceIdeal.glu (TE m) (NV m) (X m c) (W1 m c) (W3 m c) ((((cfgM m hO).win 3).blk t).view.emb y) := by
  have ht : t.val < 576 := t.isLt
  have hy : (y 0).val < 512 := (y 0).isLt
  have hrow : (row t).val = t.val % 72 := rfl
  have hcond : cond0_0 (grid0.coords t) (word (c := c) (tbl m 1)) ↔ ((row t).val : ℤ) < (NV m (ix1 0)).toInt := by
    rw [cond_iff, show word (c := c) (tbl m 1) = NV m (ix1 0) from word_at m, (coords_at t).2, hrow]
  have hR := Cert.MoeGluReferenceIdeal.glu_at (TE m) (NV m) (X m c) (W1 m c) (W3 m c) ((((cfgM m hO).win 3).blk t).view.emb y) (row t)
    (by rw [emb_3, hrow]; show (t.val % 72 * 512 + (y 0).val) / 512 = t.val % 72; omega) (hT _)
  refine Eq.trans ?_ hR.symm
  by_cases hu : ((row t).val : ℤ) < (NV m (ix1 0)).toInt
  · rw [if_pos hu, outsAt0_A m hO c t (hcond.2 hu)]
    refine (out_A c _ _ _ _ _ _ _ _ _ _ _ _ _ _ (hcond.2 hu) y).trans ?_
    rw [emb_3]
    refine congrArg₂ gate (congrArg₂ dot (funext fun k => iblk_0 m hO c (hN _) t hu (y 0) k) (funext fun k => iblk_1 m hO c t (hT _) k (y 1)))
      (congrArg₂ dot (funext fun k => iblk_0 m hO c (hN _) t hu (y 0) k) (funext fun k => iblk_2 m hO c t (hT _) k (y 1)))
  · rw [if_neg hu, outsAt0_B m hO c t (fun h => hu (hcond.1 h))]
    exact out_B c _ _ _ _ _ _ _ _ _ _ _ _ _ _ (fun h => hu (hcond.1 h)) y

include hT hN in
/-- The array the kernel leaves is the reference's result. -/
theorem final (c : Dev nD) : (dats m hO 0 c).arrAt 3 (cfgM m hO).N
    = Cert.MoeGluReferenceIdeal.glu (TE m) (NV m) (X m c) (W1 m c) (W3 m c) := by
  refine (dats m hO 0 c).arrAt_eq_of_covers 3 _ (covers m hO) fun t _ y => ?_
  blk_simp
  rw [after0_3]
  exact point m hO hT hN c t y

/-- The kernel's run, from tables in range: the reference's result of the arguments, and the arguments unchanged. -/
theorem run (ρ : Dev nD → PrngReg) (hm : Cert.Pre_MoeGluKernelIdeal m) :
    θ_run defs (onTc (τ := τ) (main (F := Ideal))) ⟨m, fun _ => 0, ρ⟩ fun r => ∀ c : Dev nD,
      r.2.mem ((c.tc : Thread nD τ).loc main_v0) = Cert.MoeGluReferenceIdeal.glu (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hr := Cert.Pre_tables_in_range.range _ _ _ _ _ (hm 0)
  have hO := ok_of_pre m hm
  refine (θ_run defs _ _).mono (fun r h c => ?_) (θ_run_and (run_main m ρ hO) (unchanged m ρ hO))
  obtain rfl : c = 0 := Subsingleton.elim _ _
  exact ⟨(h.1 0).1 3 |>.trans (final m hO hr.1 hr.2 0), h.2 0⟩

end Cert.MoeGluKernelIdeal.Value

end
-- ==== Proof.Moe.Pair.lean ====
/- The grouped expert up-projection and its reference side by side: from tables in range and equal arguments they leave the same array. -/
module

public import proofs.«01_k».proof.Defs
public import proofs.«01_k».proof.Proof.Moe.Glu
public import proofs.«01_k».proof.Proof.Gen.MoeGluReferenceIdeal

@[expose] public section

set_option maxRecDepth 16384

noncomputable section

open Idealize.ShloMosaic Idealize.ShloMosaic.TcCoe Idealize.SL.Sem

namespace Cert.MoeGluReferenceIdeal

/-- Equal arguments, equal results. -/
theorem glu_congr {TE TE' : IVec S72 32} {NV NV' : IVec S1 32} {X X' : IVec S36864x2048 32}
    {W1 W1' W3 W3' : FVec Ideal S1x8x4096x4096 .f32} (h0 : TE = TE') (h1 : NV = NV') (h2 : X = X') (h3 : W1 = W1') (h4 : W3 = W3') :
    glu TE NV X W1 W3 = glu TE' NV' X' W1' W3' := by
  subst h0 h1 h2 h3 h4
  rfl

end Cert.MoeGluReferenceIdeal

namespace Cert.MoeGlu

/-- The kernel leaves the array its reference leaves. -/
theorem pair : Cert.algebraic_MoeGluKernelIdeal_MoeGluReferenceIdeal (hMoeGluKernelIdeal := Cert.MoeGluKernelIdeal.Gen.facts)
    (hMoeGluReferenceIdeal := Cert.MoeGluReferenceIdeal.Gen.facts) (hPre_tables_in_range := Cert.Pre_tables_in_range.Gen.facts) := by
  intro m g m' g' hpre hagree
  refine ⟨fun c => Cert.MoeGluReferenceIdeal.glu (m ((c.tc : Thread Cert.MoeGluKernelIdeal.nD Cert.MoeGluKernelIdeal.τ).loc Cert.MoeGluKernelIdeal.main_arg0))
      (m ((c.tc : Thread Cert.MoeGluKernelIdeal.nD Cert.MoeGluKernelIdeal.τ).loc Cert.MoeGluKernelIdeal.main_arg1))
      (m ((c.tc : Thread Cert.MoeGluKernelIdeal.nD Cert.MoeGluKernelIdeal.τ).loc Cert.MoeGluKernelIdeal.main_arg2))
      (m ((c.tc : Thread Cert.MoeGluKernelIdeal.nD Cert.MoeGluKernelIdeal.τ).loc Cert.MoeGluKernelIdeal.main_arg3))
      (m ((c.tc : Thread Cert.MoeGluKernelIdeal.nD Cert.MoeGluKernelIdeal.τ).loc Cert.MoeGluKernelIdeal.main_arg4)),
    Cert.MoeGluKernelIdeal.Value.run m g hpre, (θ_run _ _ _).mono (fun r h c => ?_) (Cert.MoeGluReferenceIdeal.Value.run_glu m' g')⟩
  have a := hagree c
  exact ⟨(h c).1.trans (Cert.MoeGluReferenceIdeal.glu_congr a.1 a.2.1 a.2.2.1 a.2.2.2.1 a.2.2.2.2), (h c).2⟩

end Cert.MoeGlu

end
-- ==== Proof.Mixer.Stage.lean ====
/- The causal convolutions' staging buffer: eight rows of zeros, then the block's 2048 rows. A load of 2048 rows that
   starts at row `o ≤ 8` reads the rows shifted down by `8 - o`, with zeros above. So does a slice of 2048 rows of the
   host's padded array. -/
module

public import Idealize.ShloMosaic.Lib.Pipeline.ReadBack
public import Idealize.ShloMosaic.Lib.Pointwise
public import Idealize.ShloMosaic.Lib.KernelVsHost
public import Idealize.ShloMosaic.Lib.Pipeline.ValueKit

@[expose] public section

noncomputable section

open Idealize.ShloMosaic

namespace Cert.Stage

/-- The staging buffer's shape, the zero rows' and the block's. -/
abbrev Buf : Shape := ⟨2, ![2056, 512]⟩
abbrev Top : Shape := ⟨2, ![8, 512]⟩
abbrev Blk : Shape := ⟨2, ![2048, 512]⟩

/-- What the buffer holds: zeros in the first eight rows, the block below. -/
def held (u : FVec Ideal Blk .f32) : FVec Ideal Buf .f32 := fun i =>
  if h : 8 ≤ (i 0).val then u (ix2 (⟨(i 0).val - 8, by have : (i 0).val < 2056 := (i 0).isLt; omega⟩ : Fin 2048) (i 1 : Fin 512)) else 0

/-- Below the zeros, the block's row. -/
theorem held_in (u : FVec Ideal Blk .f32) (y : Buf.Idx) (a : Fin 2048) (b : Fin 512) (h0 : (y 0).val = 8 + a.val) (h1 : (y 1).val = b.val) :
    held u y = u (ix2 a b) := by
  unfold held
  rw [dif_pos (by omega)]
  refine congrArg u ?_
  funext k
  fin_cases k
  · refine Fin.ext ?_
    show (y 0).val - 8 = a.val; omega
  · exact Fin.ext h1

/-- In the first eight rows, zero. -/
theorem held_out (u : FVec Ideal Blk .f32) (y : Buf.Idx) (h : (y 0).val < 8) : held u y = 0 := by
  unfold held; rw [dif_neg (by omega)]

/-- A row of the block `s` rows up, zero above the first row. -/
def up (f : Fin 2048 → Ideal .f32) (s : ℕ) (l : Fin 2048) : Ideal .f32 :=
  if h : s ≤ l.val then f ⟨l.val - s, by omega⟩ else 0

theorem up_zero (f : Fin 2048 → Ideal .f32) (l : Fin 2048) : up f 0 l = f l := by
  unfold up; rw [dif_pos (Nat.zero_le _)]; rfl

variable {sig : RefSig} {κ : Kind} {sp : Space}

/-- The two stores leave `held`, and a load of 2048 rows from row `o` reads it there. -/
theorem load (v : View sig κ sp Buf .f32) (u : FVec Ideal Blk .f32) (z : FVec Ideal Top .f32) (hz : ∀ x, z x = 0) (o s : ℕ) (ho : o + s = 8)
    (inb8 : ∀ a, (![8, 0] : Fin 2 → ℕ) a + (![2048, 512] : Fin 2 → ℕ) a ≤ Buf.size a)
    (inb0 : ∀ a, (![0, 0] : Fin 2 → ℕ) a + (![8, 512] : Fin 2 → ℕ) a ≤ Buf.size a)
    (inb : ∀ a, (![o, 0] : Fin 2 → ℕ) a + (![2048, 512] : Fin 2 → ℕ) a ≤ Buf.size a) (l : Fin 2048) (q : Fin 512) :
    v.readCov (Val := Elt Ideal) [⟨Rect.unit (s := Buf) ![8, 0] ![2048, 512] inb8, u⟩, ⟨Rect.unit (s := Buf) ![0, 0] ![8, 512] inb0, z⟩]
        (Rect.unit (s := Buf) ![o, 0] ![2048, 512] inb).toLoadRect (ix2 l q : Blk.Idx)
      = up (fun r => u (ix2 r q)) s l := by
  rw [View.readCov_eq_canon']
  have hc : ∀ y : Buf.Idx, View.canon (Val := Elt Ideal) (e := .f32) [⟨Rect.unit (s := Buf) ![8, 0] ![2048, 512] inb8, u⟩, ⟨Rect.unit (s := Buf) ![0, 0] ![8, 512] inb0, z⟩] y
      = held u y := by
    intro y
    refine View.canon_append_of_piecesOf (Val := Elt Ideal) (e := .f32) (held u) [] [_, _] ⟨fun x => ?_, fun x => ?_, trivial⟩ y ?_
    · obtain ⟨a, b, rfl⟩ : ∃ (a : Fin 2048) (b : Fin 512), x = (ix2 a b : Blk.Idx) :=
        ⟨x 0, x 1, funext fun a => match a with | ⟨0, _⟩ => rfl | ⟨1, _⟩ => rfl⟩
      exact (held_in u _ a b (by show 8 + 1 * a.val = _; omega) (by show 0 + 1 * b.val = _; omega)).symm
    · obtain ⟨a, b, rfl⟩ : ∃ (a : Fin 8) (b : Fin 512), x = (ix2 a b : Top.Idx) :=
        ⟨x 0, x 1, funext fun a => match a with | ⟨0, _⟩ => rfl | ⟨1, _⟩ => rfl⟩
      exact (hz _).trans (held_out u _ (by show 0 + 1 * a.val < 8; omega)).symm
    · have h0 : (y 0).val < 2056 := (y 0).isLt
      have h1 : (y 1).val < 512 := (y 1).isLt
      by_cases h : 8 ≤ (y 0).val
      · refine ⟨_, List.mem_cons_self, (Rect.mem_set_unit (inb := inb8)).mpr fun a => ?_⟩
        fin_cases a
        · exact ⟨h, (show (y 0).val < 8 + 2048 by omega)⟩
        · exact ⟨Nat.zero_le _, (show (y 1).val < 0 + 512 by omega)⟩
      · refine ⟨_, List.mem_cons_of_mem _ List.mem_cons_self, (Rect.mem_set_unit (inb := inb0)).mpr fun a => ?_⟩
        fin_cases a
        · exact ⟨Nat.zero_le _, (show (y 0).val < 0 + 8 by omega)⟩
        · exact ⟨Nat.zero_le _, (show (y 1).val < 0 + 512 by omega)⟩
  show View.canon _ _ = _
  rw [hc]
  unfold up
  by_cases h : s ≤ l.val
  · rw [dif_pos h]
    exact held_in u _ ⟨l.val - s, by omega⟩ q (by show o + 1 * l.val = 8 + (l.val - s); omega) (by show 0 + 1 * q.val = _; omega)
  · rw [dif_neg h]
    exact held_out u _ (by show o + 1 * l.val < 8; omega)

/-- A slice of 2048 rows from row `i` of an array padded with `p` rows of zeros reads the rows shifted down by `p - i`. -/
theorem slice_pad {W T p : ℕ} (hT : T = 2048 + p) (u : FVec Ideal ⟨3, ![8, 2048, W]⟩ .f32) {w : Shape} (v : FVec Ideal w .f32) (hv : ∀ x, v x = 0)
    (h : (⟨3, ![8, 2048, W]⟩ : Shape).Pads (![0, p, 0] : Fin 3 → ℕ) ![0, 0, 0] ![0, 0, 0] ⟨3, ![8, T, W]⟩) (hw : 0 < w.numel) (i s : ℕ) (hi : i + s = p)
    (hs : (⟨3, ![8, T, W]⟩ : Shape).Slices ![0, i, 0] ⟨3, ![8, 2048, W]⟩) (b : Fin 8) (l : Fin 2048) (q : Fin W) :
    extractStridedSlice ⟨3, ![8, 2048, W]⟩ ![0, i, 0] (pad ⟨3, ![8, T, W]⟩ (![0, p, 0] : Fin 3 → ℕ) ![0, 0, 0] ![0, 0, 0] u v h hw) hs (ix3 b l q)
      = up (fun r => u (ix3 b r q)) s l := by
  rw [extractStridedSlice_apply ![0, i, 0] _ hs (ix3 b l q) (ix3 b (⟨i + l.val, by omega⟩ : Fin T) q) (by
    intro a
    fin_cases a
    · show b.val = 0 + b.val; omega
    · rfl
    · show q.val = 0 + q.val; omega)]
  unfold up
  by_cases hl : s ≤ l.val
  · rw [dif_pos hl]
    refine pad_apply_of_inside _ _ _ u v h hw _ (ix3 b (⟨l.val - s, by omega⟩ : Fin 2048) q) ?_
    intro a
    fin_cases a
    · show b.val = 0 + b.val * (0 + 1); omega
    · show i + l.val = p + (l.val - s) * (0 + 1); omega
    · show q.val = 0 + q.val * (0 + 1); omega
  · rw [dif_neg hl]
    refine (pad_apply_of_not_inside _ _ _ u v h hw _ (1 : Fin 3) ?_).trans (hv _)
    rintro ⟨h1, -⟩
    have h2 : p ≤ i + l.val := h1
    omega

end Cert.Stage

end
-- ==== Proof.Mixer.ConvGated.lean ====
/- The gated short convolution, `g · Σ_j w_j · shift_j (u · v)` down the rows of one sequence: what the kernel's blocks
   hold, and that the array they tile is the reference's term. The kernel reads the shifted rows back from a buffer that
   holds eight rows of zeros above the product, the reference slices the product padded with two rows of zeros. -/
module

public import proofs.«01_k».proof.Proof.Gen.ConvGatedKernelIdeal.Value
public import proofs.«01_k».proof.Proof.Gen.ConvGatedReferenceIdeal.Run
public import proofs.«01_k».proof.Proof.Mixer.Stage
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo
open Idealize.ShloMosaic.Pipeline (Dat)

namespace Cert.ConvGatedReferenceIdeal

open Cert.Stage (up)

/-- The columns of the packed projection this branch reads: the outer gate, then the two factors of the product. -/
def cols (P : FVec Ideal S8x2048x11520 .bf16) : FVec Ideal S8x2048x3072 .f32 :=
  extf .f32 (extractStridedSlice S8x2048x3072 ![0, 0, 5120] P Gen.slices_S8x2048x11520_S8x2048x3072_0_0_5120) Gen.bitsLt_bf16_f32

/-- The product the convolution runs over. -/
def prod (P : FVec Ideal S8x2048x11520 .bf16) : FVec Ideal S8x2048x1024 .f32 :=
  mulf (extractStridedSlice S8x2048x1024 ![0, 0, 1024] (cols P) Gen.slices_S8x2048x3072_S8x2048x1024_0_0_1024)
    (extractStridedSlice S8x2048x1024 ![0, 0, 2048] (cols P) Gen.slices_S8x2048x3072_S8x2048x1024_0_0_2048)

/-- The product under two rows of zeros. -/
def padded (P : FVec Ideal S8x2048x11520 .bf16) : FVec Ideal S8x2050x1024 .f32 :=
  pad S8x2050x1024 ![0, 2, 0] ![0, 0, 0] ![0, 0, 0] (prod P) (sitofp .f32 (constantI S_ 32 0#32))
    Gen.pads_S8x2048x1024_S8x2050x1024_000_200_000 Gen.h_S_

/-- The first layer's taps. -/
def taps (W : FVec Ideal S2x3x1024 .f32) : FVec Ideal S3x1024 .f32 :=
  shapeCast S3x1024 (extractStridedSlice S1x3x1024 ![0, 0, 0] W Gen.slices_S2x3x1024_S1x3x1024_0_0_0) Gen.shapeCasts_S1x3x1024_S3x1024

/-- One tap's row, spread over every sequence and row. -/
def spread (w : FVec Ideal S1x1024 .f32) : FVec Ideal S8x2048x1024 .f32 :=
  broadcastInDim S8x2048x1024 ![0, 1, 2] Gen.bcast_S1x1x1024_S8x2048x1024_0_1_2
    (broadcastInDim S1x1x1024 ![2] Gen.bcast_S1024_S1x1x1024_2 (shapeCast S1024 w Gen.shapeCasts_S1x1024_S1024))

/-- The reference's result. -/
def gated (P : FVec Ideal S8x2048x11520 .bf16) (W : FVec Ideal S2x3x1024 .f32) : FVec Ideal S8x2048x1024 .bf16 :=
  truncf .bf16 (mulf (extractStridedSlice S8x2048x1024 ![0, 0, 0] (cols P) Gen.slices_S8x2048x3072_S8x2048x1024_0_0_0)
    (addf (addf
      (mulf (extractStridedSlice S8x2048x1024 ![0, 0, 0] (padded P) Gen.slices_S8x2050x1024_S8x2048x1024_0_0_0)
        (spread (extractStridedSlice S1x1024 ![0, 0] (taps W) Gen.slices_S3x1024_S1x1024_0_0)))
      (mulf (extractStridedSlice S8x2048x1024 ![0, 1, 0] (padded P) Gen.slices_S8x2050x1024_S8x2048x1024_0_1_0)
        (spread (extractStridedSlice S1x1024 ![1, 0] (taps W) Gen.slices_S3x1024_S1x1024_1_0))))
      (mulf (extractStridedSlice S8x2048x1024 ![0, 2, 0] (padded P) Gen.slices_S8x2050x1024_S8x2048x1024_0_2_0)
        (spread (extractStridedSlice S1x1024 ![2, 0] (taps W) Gen.slices_S3x1024_S1x1024_2_0))))) Gen.bitsLt_bf16_f32

theorem taps_at (W : FVec Ideal S2x3x1024 .f32) (i : Fin 3) (q : Fin 1024) : taps W (ix2 i q) = W (ix3 0 i q) := by
  pointwise [taps]

theorem spread_at (w : FVec Ideal S1x1024 .f32) (b : Fin 8) (l : Fin 2048) (q : Fin 1024) : spread w (ix3 b l q) = w (ix2 0 q) := by
  pointwise [spread]

theorem prod_at (P : FVec Ideal S8x2048x11520 .bf16) (b : Fin 8) (l : Fin 2048) (q : Fin 1024) : prod P (ix3 b l q)
    = P (ix3 b l (⟨6144 + q.val, by omega⟩ : Fin 11520)) * P (ix3 b l (⟨7168 + q.val, by omega⟩ : Fin 11520)) := by
  pointwise [prod, cols]
  simp only [← Nat.add_assoc, Nat.reduceAdd]

theorem gate_at (P : FVec Ideal S8x2048x11520 .bf16) (b : Fin 8) (l : Fin 2048) (q : Fin 1024) :
    extractStridedSlice S8x2048x1024 ![0, 0, 0] (cols P) Gen.slices_S8x2048x3072_S8x2048x1024_0_0_0 (ix3 b l q)
      = P (ix3 b l (⟨5120 + q.val, by omega⟩ : Fin 11520)) := by
  pointwise [cols]

theorem pad_zero (x) : (sitofp .f32 (constantI S_ 32 0#32) : FVec Ideal S_ .f32) x = 0 := by
  show (((0#32 : BitVec 32).toInt : ℝ) : EReal) = 0
  simp

theorem tap_at (W : FVec Ideal S2x3x1024 .f32) (q : Fin 1024) :
    extractStridedSlice S1x1024 ![0, 0] (taps W) Gen.slices_S3x1024_S1x1024_0_0 (ix2 0 q) = W (ix3 0 0 q)
    ∧ extractStridedSlice S1x1024 ![1, 0] (taps W) Gen.slices_S3x1024_S1x1024_1_0 (ix2 0 q) = W (ix3 0 1 q)
    ∧ extractStridedSlice S1x1024 ![2, 0] (taps W) Gen.slices_S3x1024_S1x1024_2_0 (ix2 0 q) = W (ix3 0 2 q) := by
  refine ⟨?_, ?_, ?_⟩ <;> pointwise [taps]

/-- The reference's result at an index, the product's rows shifted down by two, one and none. -/
theorem gated_at (P : FVec Ideal S8x2048x11520 .bf16) (W : FVec Ideal S2x3x1024 .f32) (b : Fin 8) (l : Fin 2048) (q : Fin 1024) :
    gated P W (ix3 b l q) = P (ix3 b l (⟨5120 + q.val, by omega⟩ : Fin 11520))
      * (up (fun r => prod P (ix3 b r q)) 2 l * W (ix3 0 0 q) + up (fun r => prod P (ix3 b r q)) 1 l * W (ix3 0 1 q)
        + prod P (ix3 b l q) * W (ix3 0 2 q)) := by
  have h : ∀ (a b₁ b₂ c₁ c₂ d₁ d₂ : FVec Ideal S8x2048x1024 .f32) (i), truncf .bf16 (mulf a (addf (addf (mulf b₁ b₂) (mulf c₁ c₂)) (mulf d₁ d₂)))
      Gen.bitsLt_bf16_f32 i = a i * (b₁ i * b₂ i + c₁ i * c₂ i + d₁ i * d₂ i) := fun _ _ _ _ _ _ _ _ => rfl
  unfold gated
  rw [h]
  rw [gate_at, spread_at, spread_at, spread_at, (tap_at W q).1, (tap_at W q).2.1, (tap_at W q).2.2]
  unfold padded
  rw [Cert.Stage.slice_pad (p := 2) (by rfl) (prod P) _ pad_zero _ _ 0 2 (by rfl) _ b l q,
    Cert.Stage.slice_pad (p := 2) (by rfl) (prod P) _ pad_zero _ _ 1 1 (by rfl) _ b l q,
    Cert.Stage.slice_pad (p := 2) (by rfl) (prod P) _ pad_zero _ _ 2 0 (by rfl) _ b l q, Cert.Stage.up_zero]

end Cert.ConvGatedReferenceIdeal

namespace Cert.ConvGatedKernelIdeal.Value

open Cert.ConvGatedKernelIdeal Cert.ConvGatedKernelIdeal.Gen
open Cert.Stage (up)

theorem zeros (x) : (k0_pay3 : FVec Ideal S8x512 .f32) x = 0 := by
  obtain ⟨a, b, rfl⟩ : ∃ (a : Fin 8) (b : Fin 512), x = ix2 a b :=
    ⟨x 0, x 1, funext fun a => match a with | ⟨0, _⟩ => rfl | ⟨1, _⟩ => rfl⟩
  pointwise [k0_pay3]

theorem prod_at (x1 x2 : FVec Ideal S1x2048x512 .bf16) (l : Fin 2048) (q : Fin 512) :
    k0_pay4 (F := Ideal) x1 x2 (ix2 l q) = x1 (ix3 0 l q) * x2 (ix3 0 l q) := by
  pointwise [k0_pay4, k0_pay2]

/-- The sum of the taps' products at an index. -/
theorem sum_at (x1 x2 : FVec Ideal S1x2048x512 .bf16) (w2 w0 w1 : FVec Ideal S1x512 .f32) (s2 s1 : FVec Ideal S2048x512 .f32)
    (l : Fin 2048) (q : Fin 512) : k0_pay5 (F := Ideal) x1 x2 w2 s2 w0 s1 w1 (ix2 l q)
      = x1 (ix3 0 l q) * x2 (ix3 0 l q) * w2 (ix2 0 q) + s2 (ix2 l q) * w0 (ix2 0 q) + s1 (ix2 l q) * w1 (ix2 0 q) := by
  pointwise [k0_pay5, k0_pay2]

theorem store_at (f : FVec Ideal S2048x512 .f32) (x0 : FVec Ideal S1x2048x512 .bf16) (l : Fin 2048) (q : Fin 512) :
    k0_pay1 (F := Ideal) f (k0_pay6 x0) (ix3 0 l q) = x0 (ix3 0 l q) * f (ix2 l q) := by
  pointwise [k0_pay1, k0_pay6]

theorem row_at (x3 : Vec Ideal S3x512 .f32) (q : Fin 512) :
    View.ld x3 (Rect.unit ![0, 0] ![1, 512] inb_S3x512_S1x512_0_0) (ix2 0 q) = x3 (ix2 0 q)
    ∧ View.ld x3 (Rect.unit ![1, 0] ![1, 512] inb_S3x512_S1x512_1_0) (ix2 0 q) = x3 (ix2 1 q)
    ∧ View.ld x3 (Rect.unit ![2, 0] ![1, 512] inb_S3x512_S1x512_2_0) (ix2 0 q) = x3 (ix2 2 q) := by
  refine ⟨congrArg x3 ?_, congrArg x3 ?_, congrArg x3 ?_⟩ <;>
    exact funext fun a => Fin.ext (match a with
      | ⟨0, _⟩ => by rfl
      | ⟨1, _⟩ => by show 0 + 1 * q.val = q.val; omega)

/-- What a grid point stores, at a block index. -/
theorem out_at (c : Dev nD) (i : grid0.Coords) (arg2 : Memref sig .tc .vmem S1x2048x512 .bf16) (harg2 : arg2.IsWhole)
    (arg3 : Memref sig .tc .vmem S1x2048x512 .bf16) (harg3 : arg3.IsWhole) (arg4 : Memref sig .tc .vmem S1x2048x512 .bf16) (harg4 : arg4.IsWhole)
    (arg5 : Memref sig .tc .vmem S3x512 .f32) (harg5 : arg5.IsWhole) (arg6 : Memref sig .tc .vmem S1x2048x512 .bf16) (harg6 : arg6.IsWhole)
    (arg7 : Memref sig .tc .vmem S2056x512 .f32) (harg7 : arg7.IsWhole)
    (x0 x1 x2 : Vec Ideal S1x2048x512 .bf16) (x3 : Vec Ideal S3x512 .f32) (l : Fin 2048) (q : Fin 512) :
    out0_A_4 c i arg2 harg2 arg3 harg3 arg4 harg4 arg5 harg5 arg6 harg6 arg7 harg7 x0 x1 x2 x3 (ix3 0 l q)
      = x0 (ix3 0 l q) * (up (fun r => x1 (ix3 0 r q) * x2 (ix3 0 r q)) 2 l * x3 (ix2 0 q)
        + up (fun r => x1 (ix3 0 r q) * x2 (ix3 0 r q)) 1 l * x3 (ix2 1 q) + x1 (ix3 0 l q) * x2 (ix3 0 l q) * x3 (ix2 2 q)) := by
  frame_out
  refine (store_at _ _ l q).trans ?_
  rw [sum_at]
  have h2 := Cert.Stage.load arg7.view (k0_pay4 (F := Ideal) x1 x2) k0_pay3 zeros 6 2 (by rfl)
    inb_S2056x512_S2048x512_8_0 inb_S2056x512_S8x512_0_0 inb_S2056x512_S2048x512_6_0 l q
  have h1 := Cert.Stage.load arg7.view (k0_pay4 (F := Ideal) x1 x2) k0_pay3 zeros 7 1 (by rfl)
    inb_S2056x512_S2048x512_8_0 inb_S2056x512_S8x512_0_0 inb_S2056x512_S2048x512_7_0 l q
  simp only [prod_at] at h1 h2
  refine congrArg (x0 (ix3 0 l q) * ·) ?_
  refine (congrArg₂ (· + ·) (congrArg₂ (· + ·) (congrArg (x1 (ix3 0 l q) * x2 (ix3 0 l q) * ·) (row_at x3 q).2.2)
    (congrArg₂ (· * ·) h2 (row_at x3 q).1)) (congrArg₂ (· * ·) h1 (row_at x3 q).2.1)).trans ?_
  abel

variable (m : (ℓ : Loc nD τ sig) → Buf (Elt Ideal) ℓ)

/-- Where each window's block sits at a grid point. -/
theorem idx : ∀ t : Fin cfg0.N, win0_0.index t = ![t.val / 2, 0, 10 + t.val % 2] ∧ win0_1.index t = ![t.val / 2, 0, 12 + t.val % 2]
    ∧ win0_2.index t = ![t.val / 2, 0, 14 + t.val % 2] ∧ win0_3.index t = ![0, t.val % 2] ∧ win0_4.index t = ![t.val / 2, 0, t.val % 2] :=
  (by decide +kernel : ∀ t : Fin grid0.N, _)

theorem t_lt (t : Fin cfg0.N) : t.val < 16 := lt_of_lt_of_eq t.isLt (show cfg0.N = 16 from N_0)

/-- The taps, as the host lines before the call leave them. -/
theorem taps (c : Dev nD) : V m c main_v1 = Cert.ConvGatedReferenceIdeal.taps (m ((c : Thread nD τ).loc main_arg1)) := by
  unfold V
  after_reads_simp
  rfl

theorem x0_at (c : Dev nD) (t : Fin cfg0.N) (l : Fin 2048) (q : Fin 512) : (X0_0 m c t : FVec Ideal S1x2048x512 .bf16) (ix3 0 l q)
    = m ((c.tc : Thread nD τ).loc main_arg0) (ix3 (⟨t.val / 2, by have := t_lt t; omega⟩ : Fin 8) l (⟨5120 + (t.val % 2 * 512 + q.val), by omega⟩ : Fin 11520)) := by
  have e : win0_0.index t = ![t.val / 2, 0, 10 + t.val % 2] := (idx t).1
  unfold X0_0 Pipeline.Window.fill
  rw [dif_pos (moved0_0 t _)]
  unfold iblk
  show V m c main_arg0 (((cfg0.win 0).blk t).view.emb _) = _
  rw [V_main_arg0]
  refine congrArg (m ((c.tc : Thread nD τ).loc main_arg0)) ?_
  funext a
  fin_cases a
  · refine Fin.ext ?_
    show win0_0.index t 0 * 1 + 1 * 0 = t.val / 2
    rw [e]; show t.val / 2 * 1 + 1 * 0 = _; omega
  · refine Fin.ext ?_
    show win0_0.index t 1 * 2048 + 1 * l.val = l.val
    rw [e]; show 0 * 2048 + 1 * l.val = _; omega
  · refine Fin.ext ?_
    show win0_0.index t 2 * 512 + 1 * q.val = 5120 + (t.val % 2 * 512 + q.val)
    rw [e]; show (10 + t.val % 2) * 512 + 1 * q.val = _; omega

theorem x1_at (c : Dev nD) (t : Fin cfg0.N) (l : Fin 2048) (q : Fin 512) : (X0_1 m c t : FVec Ideal S1x2048x512 .bf16) (ix3 0 l q)
    = m ((c.tc : Thread nD τ).loc main_arg0) (ix3 (⟨t.val / 2, by have := t_lt t; omega⟩ : Fin 8) l (⟨6144 + (t.val % 2 * 512 + q.val), by omega⟩ : Fin 11520)) := by
  have e : win0_1.index t = ![t.val / 2, 0, 12 + t.val % 2] := (idx t).2.1
  unfold X0_1 Pipeline.Window.fill
  rw [dif_pos (moved0_1 t _)]
  unfold iblk
  show V m c main_arg0 (((cfg0.win 1).blk t).view.emb _) = _
  rw [V_main_arg0]
  refine congrArg (m ((c.tc : Thread nD τ).loc main_arg0)) ?_
  funext a
  fin_cases a
  · refine Fin.ext ?_
    show win0_1.index t 0 * 1 + 1 * 0 = t.val / 2
    rw [e]; show t.val / 2 * 1 + 1 * 0 = _; omega
  · refine Fin.ext ?_
    show win0_1.index t 1 * 2048 + 1 * l.val = l.val
    rw [e]; show 0 * 2048 + 1 * l.val = _; omega
  · refine Fin.ext ?_
    show win0_1.index t 2 * 512 + 1 * q.val = 6144 + (t.val % 2 * 512 + q.val)
    rw [e]; show (12 + t.val % 2) * 512 + 1 * q.val = _; omega

theorem x2_at (c : Dev nD) (t : Fin cfg0.N) (l : Fin 2048) (q : Fin 512) : (X0_2 m c t : FVec Ideal S1x2048x512 .bf16) (ix3 0 l q)
    = m ((c.tc : Thread nD τ).loc main_arg0) (ix3 (⟨t.val / 2, by have := t_lt t; omega⟩ : Fin 8) l (⟨7168 + (t.val % 2 * 512 + q.val), by omega⟩ : Fin 11520)) := by
  have e : win0_2.index t = ![t.val / 2, 0, 14 + t.val % 2] := (idx t).2.2.1
  unfold X0_2 Pipeline.Window.fill
  rw [dif_pos (moved0_2 t _)]
  unfold iblk
  show V m c main_arg0 (((cfg0.win 2).blk t).view.emb _) = _
  rw [V_main_arg0]
  refine congrArg (m ((c.tc : Thread nD τ).loc main_arg0)) ?_
  funext a
  fin_cases a
  · refine Fin.ext ?_
    show win0_2.index t 0 * 1 + 1 * 0 = t.val / 2
    rw [e]; show t.val / 2 * 1 + 1 * 0 = _; omega
  · refine Fin.ext ?_
    show win0_2.index t 1 * 2048 + 1 * l.val = l.val
    rw [e]; show 0 * 2048 + 1 * l.val = _; omega
  · refine Fin.ext ?_
    show win0_2.index t 2 * 512 + 1 * q.val = 7168 + (t.val % 2 * 512 + q.val)
    rw [e]; show (14 + t.val % 2) * 512 + 1 * q.val = _; omega

/-- The taps a grid point reads. -/
theorem w_at (c : Dev nD) (t : Fin cfg0.N) (i : Fin 3) (q : Fin 512) : (iblk m c 3 t : FVec Ideal S3x512 .f32) (ix2 i q)
    = m ((c.tc : Thread nD τ).loc main_arg1) (ix3 (0 : Fin 2) i (⟨t.val % 2 * 512 + q.val, by omega⟩ : Fin 1024)) := by
  have e : win0_3.index t = ![0, t.val % 2] := (idx t).2.2.2.1
  unfold iblk
  show V m c main_v1 (((cfg0.win 3).blk t).view.emb _) = _
  rw [taps]
  refine Eq.trans (congrArg (Cert.ConvGatedReferenceIdeal.taps (m ((c : Thread nD τ).loc main_arg1))) ?_)
    (Cert.ConvGatedReferenceIdeal.taps_at _ i (⟨t.val % 2 * 512 + q.val, by omega⟩ : Fin 1024))
  funext a
  fin_cases a
  · refine Fin.ext ?_
    show win0_3.index t 0 * 3 + 1 * i.val = i.val
    rw [e]; show 0 * 3 + 1 * i.val = _; omega
  · refine Fin.ext ?_
    show win0_3.index t 1 * 512 + 1 * q.val = t.val % 2 * 512 + q.val
    rw [e]; show t.val % 2 * 512 + 1 * q.val = _; omega

/-- What a grid point stores at a block index is the reference's result at the array index it sits at. -/
theorem point (c : Dev nD) (t : Fin cfg0.N) (y) : outsAt0 m c t y
    = Cert.ConvGatedReferenceIdeal.gated (m ((c.tc : Thread nD τ).loc main_arg0)) (m ((c.tc : Thread nD τ).loc main_arg1))
        (((cfg0.win 4).blk t).view.emb y) := by
  have e : win0_4.index t = ![t.val / 2, 0, t.val % 2] := (idx t).2.2.2.2
  obtain ⟨l, q, rfl⟩ : ∃ (l : Fin 2048) (q : Fin 512), y = ix3 0 l q :=
    ⟨y 1, y 2, funext fun a => match a with
      | ⟨0, _⟩ => Fin.ext (by have := (y 0).isLt; show (y 0).val = 0; exact Nat.lt_one_iff.mp this)
      | ⟨1, _⟩ => rfl
      | ⟨2, _⟩ => rfl⟩
  have he : ((cfg0.win 4).blk t).view.emb (ix3 0 l q)
      = ix3 (⟨t.val / 2, by have := t_lt t; omega⟩ : Fin 8) l (⟨t.val % 2 * 512 + q.val, by omega⟩ : Fin 1024) := by
    funext a
    fin_cases a
    · refine Fin.ext ?_
      show win0_4.index t 0 * 1 + 1 * 0 = t.val / 2
      rw [e]; show t.val / 2 * 1 + 1 * 0 = _; omega
    · refine Fin.ext ?_
      show win0_4.index t 1 * 2048 + 1 * l.val = l.val
      rw [e]; show 0 * 2048 + 1 * l.val = _; omega
    · refine Fin.ext ?_
      show win0_4.index t 2 * 512 + 1 * q.val = t.val % 2 * 512 + q.val
      rw [e]; show t.val % 2 * 512 + 1 * q.val = _; omega
  rw [he, Cert.ConvGatedReferenceIdeal.gated_at]
  unfold outsAt0
  refine (out_at c _ _ _ _ _ _ _ _ _ _ _ _ _ _ _ _ _ l q).trans ?_
  simp only [x0_at, x1_at, x2_at, w_at, Cert.ConvGatedReferenceIdeal.prod_at]

/-- The array the kernel leaves is the reference's result. -/
theorem final (c : Dev nD) : (dats m 0 c).arrAt 4 (cfgs 0).N
    = Cert.ConvGatedReferenceIdeal.gated (m ((c.tc : Thread nD τ).loc main_arg0)) (m ((c.tc : Thread nD τ).loc main_arg1)) := by
  refine (dats m 0 c).arrAt_eq_of_covers 4 _ (by decide +kernel) fun t _ y => ?_
  blk_simp
  rw [after0_4]
  exact point m c t y

/-- The kernel's run: the reference's result in the result, the arguments unchanged. -/
theorem run_gated (ρ : Dev nD → PrngReg) :
    θ_run defs (onTc (τ := τ) (main (F := Ideal))) ⟨m, fun _ => 0, ρ⟩ fun r => ∀ c : Dev nD,
      r.2.mem ((c.tc : Thread nD τ).loc main_v2) = Cert.ConvGatedReferenceIdeal.gated (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (run_blocks m ρ)

end Cert.ConvGatedKernelIdeal.Value

namespace Cert.ConvGatedReferenceIdeal.Value

open Cert.ConvGatedReferenceIdeal Cert.ConvGatedReferenceIdeal.Gen

/-- The reference's run: its result in the result, the arguments unchanged. -/
theorem run_gated (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = gated (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1, (h c).2⟩) (run m ρ)

end Cert.ConvGatedReferenceIdeal.Value

end
-- ==== Proof.Mixer.ConvXbc.lean ====
/- The convolution in front of the recurrence, `silu (Σ_j w_j · shift_j x + bias)` down the rows of one sequence: what the
   kernel's blocks hold, and that the array they tile is the reference's term. -/
module

public import proofs.«01_k».proof.Proof.Gen.ConvXbcKernelIdeal.Value
public import proofs.«01_k».proof.Proof.Gen.ConvXbcReferenceIdeal.Run
public import proofs.«01_k».proof.Proof.Mixer.Stage
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo
open Idealize.ShloMosaic.Pipeline (Dat)

namespace Cert.ConvXbcReferenceIdeal

open Cert.Stage (up)

/-- The columns of the packed projection this branch reads. -/
def cols (P : FVec Ideal S8x2048x11520 .bf16) : FVec Ideal S8x2048x1536 .f32 :=
  extf .f32 (extractStridedSlice S8x2048x1536 ![0, 0, 9216] P Gen.slices_S8x2048x11520_S8x2048x1536_0_0_9216) Gen.bitsLt_bf16_f32

/-- The columns under three rows of zeros. -/
def padded (P : FVec Ideal S8x2048x11520 .bf16) : FVec Ideal S8x2051x1536 .f32 :=
  pad S8x2051x1536 ![0, 3, 0] ![0, 0, 0] ![0, 0, 0] (cols P) (sitofp .f32 (constantI S_ 32 0#32))
    Gen.pads_S8x2048x1536_S8x2051x1536_000_300_000 Gen.h_S_

/-- The first layer's taps. -/
def taps (W : FVec Ideal S2x4x1536 .f32) : FVec Ideal S4x1536 .f32 :=
  shapeCast S4x1536 (extractStridedSlice S1x4x1536 ![0, 0, 0] W Gen.slices_S2x4x1536_S1x4x1536_0_0_0) Gen.shapeCasts_S1x4x1536_S4x1536

/-- One row, spread over every sequence and row. -/
def spread (w : FVec Ideal S1x1536 .f32) : FVec Ideal S8x2048x1536 .f32 :=
  broadcastInDim S8x2048x1536 ![0, 1, 2] Gen.bcast_S1x1x1536_S8x2048x1536_0_1_2
    (broadcastInDim S1x1x1536 ![2] Gen.bcast_S1536_S1x1x1536_2 (shapeCast S1536 w Gen.shapeCasts_S1x1536_S1536))

/-- The convolution with its bias. -/
def conv (P : FVec Ideal S8x2048x11520 .bf16) (W : FVec Ideal S2x4x1536 .f32) (B : FVec Ideal S2x1536 .f32) : FVec Ideal S8x2048x1536 .f32 :=
  addf (addf (addf (addf
      (mulf (extractStridedSlice S8x2048x1536 ![0, 0, 0] (padded P) Gen.slices_S8x2051x1536_S8x2048x1536_0_0_0)
        (spread (extractStridedSlice S1x1536 ![0, 0] (taps W) Gen.slices_S4x1536_S1x1536_0_0)))
      (mulf (extractStridedSlice S8x2048x1536 ![0, 1, 0] (padded P) Gen.slices_S8x2051x1536_S8x2048x1536_0_1_0)
        (spread (extractStridedSlice S1x1536 ![1, 0] (taps W) Gen.slices_S4x1536_S1x1536_1_0))))
      (mulf (extractStridedSlice S8x2048x1536 ![0, 2, 0] (padded P) Gen.slices_S8x2051x1536_S8x2048x1536_0_2_0)
        (spread (extractStridedSlice S1x1536 ![2, 0] (taps W) Gen.slices_S4x1536_S1x1536_2_0))))
      (mulf (extractStridedSlice S8x2048x1536 ![0, 3, 0] (padded P) Gen.slices_S8x2051x1536_S8x2048x1536_0_3_0)
        (spread (extractStridedSlice S1x1536 ![3, 0] (taps W) Gen.slices_S4x1536_S1x1536_3_0))))
    (spread (extractStridedSlice S1x1536 ![0, 0] B Gen.slices_S2x1536_S1x1536_0_0))

/-- An array of ones. -/
def ones : FVec Ideal S8x2048x1536 .f32 :=
  broadcastInDim S8x2048x1536 ![] Gen.bcast_S_S8x2048x1536 (constant S_ .f32 0x3F800000#32)

/-- The activation, `x / (1 + e⁻ˣ)`. -/
def act (x : FVec Ideal S8x2048x1536 .f32) : FVec Ideal S8x2048x1536 .f32 :=
  mulf x (Host.divf ones (addf ones (Host.exp (Host.negf x))))

theorem taps_at (W : FVec Ideal S2x4x1536 .f32) (i : Fin 4) (q : Fin 1536) : taps W (ix2 i q) = W (ix3 0 i q) := by
  pointwise [taps]

theorem spread_at (w : FVec Ideal S1x1536 .f32) (b : Fin 8) (l : Fin 2048) (q : Fin 1536) : spread w (ix3 b l q) = w (ix2 0 q) := by
  pointwise [spread]

theorem cols_at (P : FVec Ideal S8x2048x11520 .bf16) (b : Fin 8) (l : Fin 2048) (q : Fin 1536) :
    cols P (ix3 b l q) = P (ix3 b l (⟨9216 + q.val, by omega⟩ : Fin 11520)) := by
  pointwise [cols]

theorem act_at (x : FVec Ideal S8x2048x1536 .f32) (b : Fin 8) (l : Fin 2048) (q : Fin 1536) :
    act x (ix3 b l q) = x (ix3 b l q) * (Ideal.div 1 (1 + Ideal.exp (-(x (ix3 b l q))))) := by
  pointwise [act, ones]

theorem bias_at (B : FVec Ideal S2x1536 .f32) (q : Fin 1536) :
    extractStridedSlice S1x1536 ![0, 0] B Gen.slices_S2x1536_S1x1536_0_0 (ix2 0 q) = B (ix2 0 q) := by
  pointwise []

theorem pad_zero (x) : (sitofp .f32 (constantI S_ 32 0#32) : FVec Ideal S_ .f32) x = 0 := by
  show (((0#32 : BitVec 32).toInt : ℝ) : EReal) = 0
  simp

theorem tap_at (W : FVec Ideal S2x4x1536 .f32) (q : Fin 1536) :
    extractStridedSlice S1x1536 ![0, 0] (taps W) Gen.slices_S4x1536_S1x1536_0_0 (ix2 0 q) = W (ix3 0 0 q)
    ∧ extractStridedSlice S1x1536 ![1, 0] (taps W) Gen.slices_S4x1536_S1x1536_1_0 (ix2 0 q) = W (ix3 0 1 q)
    ∧ extractStridedSlice S1x1536 ![2, 0] (taps W) Gen.slices_S4x1536_S1x1536_2_0 (ix2 0 q) = W (ix3 0 2 q)
    ∧ extractStridedSlice S1x1536 ![3, 0] (taps W) Gen.slices_S4x1536_S1x1536_3_0 (ix2 0 q) = W (ix3 0 3 q) := by
  refine ⟨?_, ?_, ?_, ?_⟩ <;> pointwise [taps]

/-- The convolution at an index, the rows shifted down by three, two, one and none. -/
theorem conv_at (P : FVec Ideal S8x2048x11520 .bf16) (W : FVec Ideal S2x4x1536 .f32) (B : FVec Ideal S2x1536 .f32) (b : Fin 8) (l : Fin 2048) (q : Fin 1536) : conv P W B (ix3 b l q)
    = up (fun r => cols P (ix3 b r q)) 3 l * W (ix3 0 0 q) + up (fun r => cols P (ix3 b r q)) 2 l * W (ix3 0 1 q)
      + up (fun r => cols P (ix3 b r q)) 1 l * W (ix3 0 2 q) + cols P (ix3 b l q) * W (ix3 0 3 q) + B (ix2 0 q) := by
  have h : ∀ (a₁ a₂ b₁ b₂ c₁ c₂ d₁ d₂ e : FVec Ideal S8x2048x1536 .f32) (i), addf (addf (addf (addf (mulf a₁ a₂) (mulf b₁ b₂)) (mulf c₁ c₂)) (mulf d₁ d₂)) e i
      = a₁ i * a₂ i + b₁ i * b₂ i + c₁ i * c₂ i + d₁ i * d₂ i + e i := fun _ _ _ _ _ _ _ _ _ _ => rfl
  unfold conv
  rw [h, spread_at, spread_at, spread_at, spread_at, spread_at, (tap_at W q).1, (tap_at W q).2.1, (tap_at W q).2.2.1, (tap_at W q).2.2.2, bias_at]
  unfold padded
  rw [Cert.Stage.slice_pad (p := 3) (by rfl) (cols P) _ pad_zero _ _ 0 3 (by rfl) _ b l q,
    Cert.Stage.slice_pad (p := 3) (by rfl) (cols P) _ pad_zero _ _ 1 2 (by rfl) _ b l q,
    Cert.Stage.slice_pad (p := 3) (by rfl) (cols P) _ pad_zero _ _ 2 1 (by rfl) _ b l q,
    Cert.Stage.slice_pad (p := 3) (by rfl) (cols P) _ pad_zero _ _ 3 0 (by rfl) _ b l q, Cert.Stage.up_zero]

end Cert.ConvXbcReferenceIdeal

namespace Cert.ConvXbcKernelIdeal.Value

open Cert.ConvXbcKernelIdeal Cert.ConvXbcKernelIdeal.Gen
open Cert.Stage (up)

theorem zeros (x) : (k0_pay3 : FVec Ideal S8x512 .f32) x = 0 := by
  obtain ⟨a, b, rfl⟩ : ∃ (a : Fin 8) (b : Fin 512), x = ix2 a b :=
    ⟨x 0, x 1, funext fun a => match a with | ⟨0, _⟩ => rfl | ⟨1, _⟩ => rfl⟩
  pointwise [k0_pay3]

theorem wide_at (x0 : FVec Ideal S1x2048x512 .bf16) (l : Fin 2048) (q : Fin 512) : k0_pay4 (F := Ideal) x0 (ix2 l q) = x0 (ix3 0 l q) := by
  pointwise [k0_pay4, k0_pay2]

/-- The sum of the taps' products at an index. -/
theorem sum_at (x0 : FVec Ideal S1x2048x512 .bf16) (w3 w0 w1 w2 : FVec Ideal S1x512 .f32) (s3 s2 s1 : FVec Ideal S2048x512 .f32)
    (l : Fin 2048) (q : Fin 512) : k0_pay5 (F := Ideal) x0 w3 s3 w0 s2 w1 s1 w2 (ix2 l q)
      = x0 (ix3 0 l q) * w3 (ix2 0 q) + s3 (ix2 l q) * w0 (ix2 0 q) + s2 (ix2 l q) * w1 (ix2 0 q) + s1 (ix2 l q) * w2 (ix2 0 q) := by
  pointwise [k0_pay5, k0_pay2]

theorem store_at (f : FVec Ideal S2048x512 .f32) (w : FVec Ideal S1x512 .f32) (l : Fin 2048) (q : Fin 512) :
    k0_pay1 (F := Ideal) f w (ix3 0 l q) = (f (ix2 l q) + w (ix2 0 q)) * (Ideal.div 1 (1 + Ideal.exp (-(f (ix2 l q) + w (ix2 0 q))))) := by
  pointwise [k0_pay1]
  simp only [zero_sub]

theorem row_at (x1 : Vec Ideal S4x512 .f32) (q : Fin 512) :
    View.ld x1 (Rect.unit ![0, 0] ![1, 512] inb_S4x512_S1x512_0_0) (ix2 0 q) = x1 (ix2 0 q)
    ∧ View.ld x1 (Rect.unit ![1, 0] ![1, 512] inb_S4x512_S1x512_1_0) (ix2 0 q) = x1 (ix2 1 q)
    ∧ View.ld x1 (Rect.unit ![2, 0] ![1, 512] inb_S4x512_S1x512_2_0) (ix2 0 q) = x1 (ix2 2 q)
    ∧ View.ld x1 (Rect.unit ![3, 0] ![1, 512] inb_S4x512_S1x512_3_0) (ix2 0 q) = x1 (ix2 3 q) := by
  refine ⟨congrArg x1 ?_, congrArg x1 ?_, congrArg x1 ?_, congrArg x1 ?_⟩ <;>
    exact funext fun a => Fin.ext (match a with
      | ⟨0, _⟩ => by rfl
      | ⟨1, _⟩ => by show 0 + 1 * q.val = q.val; omega)

/-- The convolution with its bias, from a grid point's blocks. -/
def conv (x0 : FVec Ideal S1x2048x512 .bf16) (x1 : FVec Ideal S4x512 .f32) (x2 : FVec Ideal S1x512 .f32) (l : Fin 2048) (q : Fin 512) : EReal :=
  up (fun r => x0 (ix3 0 r q)) 3 l * x1 (ix2 0 q) + up (fun r => x0 (ix3 0 r q)) 2 l * x1 (ix2 1 q)
    + up (fun r => x0 (ix3 0 r q)) 1 l * x1 (ix2 2 q) + x0 (ix3 0 l q) * x1 (ix2 3 q) + x2 (ix2 0 q)

/-- What a grid point stores, at a block index. -/
theorem out_at (c : Dev nD) (i : grid0.Coords) (arg2 : Memref sig .tc .vmem S1x2048x512 .bf16) (harg2 : arg2.IsWhole)
    (arg3 : Memref sig .tc .vmem S4x512 .f32) (harg3 : arg3.IsWhole) (arg4 : Memref sig .tc .vmem S1x512 .f32) (harg4 : arg4.IsWhole)
    (arg5 : Memref sig .tc .vmem S1x2048x512 .f32) (harg5 : arg5.IsWhole) (arg6 : Memref sig .tc .vmem S2056x512 .f32) (harg6 : arg6.IsWhole)
    (x0 : Vec Ideal S1x2048x512 .bf16) (x1 : Vec Ideal S4x512 .f32) (x2 : Vec Ideal S1x512 .f32) (l : Fin 2048) (q : Fin 512) :
    out0_A_3 c i arg2 harg2 arg3 harg3 arg4 harg4 arg5 harg5 arg6 harg6 x0 x1 x2 (ix3 0 l q)
      = conv x0 x1 x2 l q * (Ideal.div 1 (1 + Ideal.exp (-(conv x0 x1 x2 l q)))) := by
  frame_out
  refine (store_at _ _ l q).trans ?_
  rw [sum_at]
  have h3 := Cert.Stage.load arg6.view (k0_pay4 (F := Ideal) x0) k0_pay3 zeros 5 3 (by rfl)
    inb_S2056x512_S2048x512_8_0 inb_S2056x512_S8x512_0_0 inb_S2056x512_S2048x512_5_0 l q
  have h2 := Cert.Stage.load arg6.view (k0_pay4 (F := Ideal) x0) k0_pay3 zeros 6 2 (by rfl)
    inb_S2056x512_S2048x512_8_0 inb_S2056x512_S8x512_0_0 inb_S2056x512_S2048x512_6_0 l q
  have h1 := Cert.Stage.load arg6.view (k0_pay4 (F := Ideal) x0) k0_pay3 zeros 7 1 (by rfl)
    inb_S2056x512_S2048x512_8_0 inb_S2056x512_S8x512_0_0 inb_S2056x512_S2048x512_7_0 l q
  simp only [wide_at] at h1 h2 h3
  refine congrArg (fun z : EReal => z * (Ideal.div 1 (1 + Ideal.exp (-z)))) ?_
  refine (congrArg (· + x2 (ix2 0 q)) (congrArg₂ (· + ·) (congrArg₂ (· + ·) (congrArg₂ (· + ·) (congrArg (x0 (ix3 0 l q) * ·) (row_at x1 q).2.2.2)
    (congrArg₂ (· * ·) h3 (row_at x1 q).1)) (congrArg₂ (· * ·) h2 (row_at x1 q).2.1)) (congrArg₂ (· * ·) h1 (row_at x1 q).2.2.1))).trans ?_
  unfold conv
  abel

variable (m : (ℓ : Loc nD τ sig) → Buf (Elt Ideal) ℓ)

/-- Where each window's block sits at a grid point. -/
theorem idx : ∀ t : Fin cfg0.N, win0_0.index t = ![t.val / 3, 0, 18 + t.val % 3] ∧ win0_1.index t = ![0, t.val % 3]
    ∧ win0_2.index t = ![0, t.val % 3] ∧ win0_3.index t = ![t.val / 3, 0, t.val % 3] :=
  (by decide +kernel : ∀ t : Fin grid0.N, _)

theorem t_lt (t : Fin cfg0.N) : t.val < 24 := lt_of_lt_of_eq t.isLt (show cfg0.N = 24 from N_0)

/-- The taps, as the host lines before the call leave them. -/
theorem taps (c : Dev nD) : V m c main_v1 = Cert.ConvXbcReferenceIdeal.taps (m ((c : Thread nD τ).loc main_arg1)) := by
  unfold V
  after_reads_simp
  rfl

/-- The first layer's bias, as one row. -/
def bias (B : FVec Ideal S2x1536 .f32) : FVec Ideal S1x1536 .f32 :=
  shapeCast S1x1536 (shapeCast S1536 (extractStridedSlice S1x1536 ![0, 0] B slices_S2x1536_S1x1536_0_0) shapeCasts_S1x1536_S1536) shapeCasts_S1536_S1x1536

/-- The bias, as the host lines before the call leave it. -/
theorem bias_eq (c : Dev nD) : V m c main_v4 = bias (m ((c : Thread nD τ).loc main_arg2)) := by
  unfold V
  after_reads_simp
  rfl

theorem bias_row (B : FVec Ideal S2x1536 .f32) (q : Fin 1536) : bias B (ix2 0 q) = B (ix2 0 q) := by
  pointwise [bias]

theorem x0_at (c : Dev nD) (t : Fin cfg0.N) (l : Fin 2048) (q : Fin 512) : (X0_0 m c t : FVec Ideal S1x2048x512 .bf16) (ix3 0 l q)
    = m ((c.tc : Thread nD τ).loc main_arg0) (ix3 (⟨t.val / 3, by have := t_lt t; omega⟩ : Fin 8) l (⟨9216 + (t.val % 3 * 512 + q.val), by omega⟩ : Fin 11520)) := by
  have e : win0_0.index t = ![t.val / 3, 0, 18 + t.val % 3] := (idx t).1
  unfold X0_0 Pipeline.Window.fill
  rw [dif_pos (moved0_0 t _)]
  unfold iblk
  show V m c main_arg0 (((cfg0.win 0).blk t).view.emb _) = _
  rw [V_main_arg0]
  refine congrArg (m ((c.tc : Thread nD τ).loc main_arg0)) ?_
  funext a
  fin_cases a
  · refine Fin.ext ?_
    show win0_0.index t 0 * 1 + 1 * 0 = t.val / 3
    rw [e]; show t.val / 3 * 1 + 1 * 0 = _; omega
  · refine Fin.ext ?_
    show win0_0.index t 1 * 2048 + 1 * l.val = l.val
    rw [e]; show 0 * 2048 + 1 * l.val = _; omega
  · refine Fin.ext ?_
    show win0_0.index t 2 * 512 + 1 * q.val = 9216 + (t.val % 3 * 512 + q.val)
    rw [e]; show (18 + t.val % 3) * 512 + 1 * q.val = _; omega

/-- The taps a grid point reads. -/
theorem w_at (c : Dev nD) (t : Fin cfg0.N) (i : Fin 4) (q : Fin 512) : (iblk m c 1 t : FVec Ideal S4x512 .f32) (ix2 i q)
    = m ((c.tc : Thread nD τ).loc main_arg1) (ix3 (0 : Fin 2) i (⟨t.val % 3 * 512 + q.val, by omega⟩ : Fin 1536)) := by
  have e : win0_1.index t = ![0, t.val % 3] := (idx t).2.1
  unfold iblk
  show V m c main_v1 (((cfg0.win 1).blk t).view.emb _) = _
  rw [taps]
  refine Eq.trans (congrArg (Cert.ConvXbcReferenceIdeal.taps (m ((c : Thread nD τ).loc main_arg1))) ?_)
    (Cert.ConvXbcReferenceIdeal.taps_at _ i (⟨t.val % 3 * 512 + q.val, by omega⟩ : Fin 1536))
  funext a
  fin_cases a
  · refine Fin.ext ?_
    show win0_1.index t 0 * 4 + 1 * i.val = i.val
    rw [e]; show 0 * 4 + 1 * i.val = _; omega
  · refine Fin.ext ?_
    show win0_1.index t 1 * 512 + 1 * q.val = t.val % 3 * 512 + q.val
    rw [e]; show t.val % 3 * 512 + 1 * q.val = _; omega

/-- The bias a grid point reads. -/
theorem b_at (c : Dev nD) (t : Fin cfg0.N) (q : Fin 512) : (iblk m c 2 t : FVec Ideal S1x512 .f32) (ix2 0 q)
    = m ((c.tc : Thread nD τ).loc main_arg2) (ix2 (0 : Fin 2) (⟨t.val % 3 * 512 + q.val, by omega⟩ : Fin 1536)) := by
  have e : win0_2.index t = ![0, t.val % 3] := (idx t).2.2.1
  unfold iblk
  show V m c main_v4 (((cfg0.win 2).blk t).view.emb _) = _
  rw [bias_eq]
  refine Eq.trans (congrArg (bias (m ((c : Thread nD τ).loc main_arg2))) ?_)
    (bias_row _ (⟨t.val % 3 * 512 + q.val, by omega⟩ : Fin 1536))
  funext a
  fin_cases a
  · refine Fin.ext ?_
    show win0_2.index t 0 * 1 + 1 * 0 = 0
    rw [e]; rfl
  · refine Fin.ext ?_
    show win0_2.index t 1 * 512 + 1 * q.val = t.val % 3 * 512 + q.val
    rw [e]; show t.val % 3 * 512 + 1 * q.val = _; omega

/-- A grid point's convolution is the reference's at the array index. -/
theorem conv_at (c : Dev nD) (t : Fin cfg0.N) (l : Fin 2048) (q : Fin 512) : conv (X0_0 m c t) (iblk m c 1 t) (iblk m c 2 t) l q
    = Cert.ConvXbcReferenceIdeal.conv (m ((c.tc : Thread nD τ).loc main_arg0)) (m ((c.tc : Thread nD τ).loc main_arg1))
        (m ((c.tc : Thread nD τ).loc main_arg2)) (ix3 (⟨t.val / 3, by have := t_lt t; omega⟩ : Fin 8) l (⟨t.val % 3 * 512 + q.val, by omega⟩ : Fin 1536)) := by
  rw [Cert.ConvXbcReferenceIdeal.conv_at]
  unfold conv
  simp only [x0_at, w_at, b_at, Cert.ConvXbcReferenceIdeal.cols_at]

/-- What a grid point stores at a block index is the reference's result at the array index it sits at. -/
theorem point (c : Dev nD) (t : Fin cfg0.N) (y) : outsAt0 m c t y
    = Cert.ConvXbcReferenceIdeal.act (Cert.ConvXbcReferenceIdeal.conv (m ((c.tc : Thread nD τ).loc main_arg0)) (m ((c.tc : Thread nD τ).loc main_arg1))
        (m ((c.tc : Thread nD τ).loc main_arg2))) (((cfg0.win 3).blk t).view.emb y) := by
  have e : win0_3.index t = ![t.val / 3, 0, t.val % 3] := (idx t).2.2.2
  obtain ⟨l, q, rfl⟩ : ∃ (l : Fin 2048) (q : Fin 512), y = ix3 0 l q :=
    ⟨y 1, y 2, funext fun a => match a with
      | ⟨0, _⟩ => Fin.ext (by have := (y 0).isLt; show (y 0).val = 0; exact Nat.lt_one_iff.mp this)
      | ⟨1, _⟩ => rfl
      | ⟨2, _⟩ => rfl⟩
  have he : ((cfg0.win 3).blk t).view.emb (ix3 0 l q)
      = ix3 (⟨t.val / 3, by have := t_lt t; omega⟩ : Fin 8) l (⟨t.val % 3 * 512 + q.val, by omega⟩ : Fin 1536) := by
    funext a
    fin_cases a
    · refine Fin.ext ?_
      show win0_3.index t 0 * 1 + 1 * 0 = t.val / 3
      rw [e]; show t.val / 3 * 1 + 1 * 0 = _; omega
    · refine Fin.ext ?_
      show win0_3.index t 1 * 2048 + 1 * l.val = l.val
      rw [e]; show 0 * 2048 + 1 * l.val = _; omega
    · refine Fin.ext ?_
      show win0_3.index t 2 * 512 + 1 * q.val = t.val % 3 * 512 + q.val
      rw [e]; show t.val % 3 * 512 + 1 * q.val = _; omega
  rw [he, Cert.ConvXbcReferenceIdeal.act_at]
  unfold outsAt0
  refine (out_at c _ _ _ _ _ _ _ _ _ _ _ _ _ _ l q).trans ?_
  rw [conv_at]

/-- The array the kernel leaves is the reference's result. -/
theorem final (c : Dev nD) : (dats m 0 c).arrAt 3 (cfgs 0).N
    = Cert.ConvXbcReferenceIdeal.act (Cert.ConvXbcReferenceIdeal.conv (m ((c.tc : Thread nD τ).loc main_arg0)) (m ((c.tc : Thread nD τ).loc main_arg1))
        (m ((c.tc : Thread nD τ).loc main_arg2))) := by
  refine (dats m 0 c).arrAt_eq_of_covers 3 _ (by decide +kernel) fun t _ y => ?_
  blk_simp
  rw [after0_3]
  exact point m c t y

/-- The kernel's run: the reference's result in the result, the arguments unchanged. -/
theorem run_act (ρ : Dev nD → PrngReg) :
    θ_run defs (onTc (τ := τ) (main (F := Ideal))) ⟨m, fun _ => 0, ρ⟩ fun r => ∀ c : Dev nD,
      r.2.mem ((c.tc : Thread nD τ).loc main_v5) = Cert.ConvXbcReferenceIdeal.act (Cert.ConvXbcReferenceIdeal.conv (m ((c.tc : Thread nD τ).loc main_arg0)) (m ((c.tc : Thread nD τ).loc main_arg1))
        (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m c), (h c).2⟩) (run_blocks m ρ)

end Cert.ConvXbcKernelIdeal.Value

namespace Cert.ConvXbcReferenceIdeal.Value

open Cert.ConvXbcReferenceIdeal Cert.ConvXbcReferenceIdeal.Gen

/-- The reference's result is the activation of the convolution. -/
theorem result (m : (ℓ : Loc nD τ sig) → Buf (Elt Ideal) ℓ) (c : Dev nD) : res_main_v37 m c
    = act (conv (m ((c.tc : Thread nD τ).loc main_arg0)) (m ((c.tc : Thread nD τ).loc main_arg1))
        (m ((c.tc : Thread nD τ).loc main_arg2))) := by
  unfold res_main_v37
  rfl

/-- The reference's run: its result in the result, the arguments unchanged. -/
theorem run_act (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = act (conv (m ((c.tc : Thread nD τ).loc main_arg0)) (m ((c.tc : Thread nD τ).loc main_arg1))
        (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (result m c), (h c).2⟩) (run m ρ)

end Cert.ConvXbcReferenceIdeal.Value

end
-- ==== Proof.Mixer.InProjSmall.lean ====
/- The small input projection: the product of the tokens with the 104 narrow columns of `w_in` (the decays, the indexer's
   keys and weights, the step sizes), followed by 24 columns of zeros. The kernel packs the columns before the product,
   the reference packs the product's columns. -/
module

public import proofs.«01_k».proof.Proof.Gen.InProjSmallKernelIdeal.Value
public import proofs.«01_k».proof.Proof.Gen.InProjSmallReferenceIdeal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo
open Idealize.ShloMosaic.Pipeline (Dat)

namespace Cert.InProjSmallReferenceIdeal

/-- The reference's product: every token against the columns of the first layer's `w_in` that the branches read. -/
def proj (X : FVec Ideal S16384x4096 .bf16) (W : FVec Ideal S2x4096x28008 .f32) : FVec Ideal S16384x11624 .f32 :=
  Host.dotGeneral (F := Ideal) dot_S16384x4096_S4096x11624_S16384x11624_1_0_0_1_n_n none (extf .f32 X Gen.bitsLt_bf16_f32)
    (extractStridedSlice S4096x11624 ![0, 0] (shapeCast S4096x28008 (extractStridedSlice S1x4096x28008 ![0, 0, 0] W
      Gen.slices_S2x4096x28008_S1x4096x28008_0_0_0) Gen.shapeCasts_S1x4096x28008_S4096x28008) Gen.slices_S4096x28008_S4096x11624_0_0)

/-- The reference's packing of the product's columns, one piece after another. -/
def packed (P : FVec Ideal S16384x11624 .f32) : FVec Ideal S16384x128 .f32 :=
  concatenate S16384x128 1 [
    ⟨S16384x8, extractStridedSlice S16384x8 ![0, 4096] P Gen.slices_S16384x11624_S16384x8_0_4096⟩,
    ⟨S16384x8, extractStridedSlice S16384x8 ![0, 4104] P Gen.slices_S16384x11624_S16384x8_0_4104⟩,
    ⟨S16384x64, extractStridedSlice S16384x64 ![0, 5904] P Gen.slices_S16384x11624_S16384x64_0_5904⟩,
    ⟨S16384x8, extractStridedSlice S16384x8 ![0, 5968] P Gen.slices_S16384x11624_S16384x8_0_5968⟩,
    ⟨S16384x16, extractStridedSlice S16384x16 ![0, 11608] P Gen.slices_S16384x11624_S16384x16_0_11608⟩,
    ⟨S16384x24, broadcastInDim S16384x24 ![] Gen.bcast_S_S16384x24 (constant S_ .f32 0x00000000#32)⟩]
    Gen.concatenates_S16384x8_S16384x8_S16384x64_S16384x8_S16384x16_S16384x24_S16384x128_d1

/-- Which column of `w_in` a packed column comes from. -/
def col (j : ℕ) : ℕ := if j < 16 then j + 4096 else if j < 88 then j + 5888 else j + 11520

theorem col_lt {j : ℕ} (h : j < 104) : col j < 11624 := by
  unfold col; split_ifs <;> omega

/-- A case distinction whose both sides are one value is that value. -/
theorem dite_to {α : Type} {p : Prop} [Decidable p] {a : p → α} {b : ¬p → α} {v : α} (ha : ∀ h, a h = v) (hb : ∀ h, b h = v) :
    dite p a b = v := by
  by_cases h : p
  · rw [dif_pos h]; exact ha h
  · rw [dif_neg h]; exact hb h

/-- The packing at one of the narrow columns: the column the packing names. -/
theorem packed_at (P : FVec Ideal S16384x11624 .f32) (r : Fin 16384) (j : Fin 128) (hj : j.val < 104) :
    packed P (ix2 r j) = P (ix2 r ⟨col j.val, col_lt hj⟩) := by
  have key : ∀ (q : ℕ) (hq : q < 11624), q = col j.val → P (ix2 r ⟨q, hq⟩) = P (ix2 r ⟨col j.val, col_lt hj⟩) := by
    intro q hq e; subst e; rfl
  pointwise [packed]
  iterate 5 refine dite_to (fun h => key _ _ (by unfold col; split_ifs <;> omega)) fun h => ?_
  exact absurd hj (by omega)

/-- The packing at one of the last columns is zero. -/
theorem packed_zero (P : FVec Ideal S16384x11624 .f32) (r : Fin 16384) (j : Fin 128) (hj : ¬j.val < 104) : packed P (ix2 r j) = 0 := by
  pointwise [packed]
  iterate 5 refine dite_to (fun h => absurd h (by omega)) fun h => ?_
  rfl

/-- The product at an index. -/
theorem proj_at (X : FVec Ideal S16384x4096 .bf16) (W : FVec Ideal S2x4096x28008 .f32) (r : Fin 16384) (j : Fin 11624) :
    proj X W (ix2 r j) = ∑ k : Fin 4096, X (ix2 r k) * W (ix3 0 k ⟨j.val, by omega⟩) := by
  pointwise [proj]

end Cert.InProjSmallReferenceIdeal

namespace Cert.InProjSmallKernelIdeal.Value

open Cert.InProjSmallKernelIdeal Cert.InProjSmallKernelIdeal.Gen
open Cert.InProjSmallReferenceIdeal (col col_lt dite_to)

/-- The first layer's `w_in`. -/
def layer (W : FVec Ideal S2x4096x28008 .f32) : FVec Ideal S4096x28008 .f32 :=
  shapeCast S4096x28008 (extractStridedSlice S1x4096x28008 ![0, 0, 0] W slices_S2x4096x28008_S1x4096x28008_0_0_0) shapeCasts_S1x4096x28008_S4096x28008

/-- The narrow columns, one piece after another, and 24 columns of zeros. -/
def pack (W : FVec Ideal S4096x28008 .f32) : FVec Ideal S4096x128 .bf16 :=
  truncf .bf16 (concatenate S4096x128 1 [
    ⟨S4096x8, extractStridedSlice S4096x8 ![0, 4096] W slices_S4096x28008_S4096x8_0_4096⟩,
    ⟨S4096x8, extractStridedSlice S4096x8 ![0, 4104] W slices_S4096x28008_S4096x8_0_4104⟩,
    ⟨S4096x64, extractStridedSlice S4096x64 ![0, 5904] W slices_S4096x28008_S4096x64_0_5904⟩,
    ⟨S4096x8, extractStridedSlice S4096x8 ![0, 5968] W slices_S4096x28008_S4096x8_0_5968⟩,
    ⟨S4096x16, extractStridedSlice S4096x16 ![0, 11608] W slices_S4096x28008_S4096x16_0_11608⟩,
    ⟨S4096x24, broadcastInDim S4096x24 ![] bcast_S_S4096x24 (constant S_ .f32 0x00000000#32)⟩]
    concatenates_S4096x8_S4096x8_S4096x64_S4096x8_S4096x16_S4096x24_S4096x128_d1) bitsLt_bf16_f32

variable (m : (ℓ : Loc nD τ sig) → Buf (Elt Ideal) ℓ)

set_option maxHeartbeats 1000000 in
/-- The packed weights, from the argument. -/
theorem weights (c : Dev nD) : V m c main_v9 = pack (layer (m ((c : Thread nD τ).loc main_arg1))) := by
  unfold V
  after_reads_simp
  rfl

/-- The kernel's packing at one of the narrow columns: the column the packing names. -/
theorem pack_at (W : FVec Ideal S4096x28008 .f32) (k : Fin 4096) (j : Fin 128) (hj : j.val < 104) :
    pack W (ix2 k j) = W (ix2 k ⟨col j.val, by have := col_lt hj; omega⟩) := by
  have key : ∀ (q : ℕ) (hq : q < 28008), q = col j.val → W (ix2 k ⟨q, hq⟩)
      = W (ix2 k ⟨col j.val, by have := col_lt hj; omega⟩) := by
    intro q hq e; subst e; rfl
  pointwise [pack]
  iterate 5 refine dite_to (fun h => key _ _ (by unfold col; split_ifs <;> omega)) fun h => ?_
  exact absurd hj (by omega)

/-- The kernel's packing at one of the last columns is zero. -/
theorem pack_zero (W : FVec Ideal S4096x28008 .f32) (k : Fin 4096) (j : Fin 128) (hj : ¬j.val < 104) : pack W (ix2 k j) = 0 := by
  pointwise [pack]
  iterate 5 refine dite_to (fun h => absurd h (by omega)) fun h => ?_
  rfl

theorem layer_at (W : FVec Ideal S2x4096x28008 .f32) (k : Fin 4096) (j : Fin 28008) : layer W (ix2 k j) = W (ix3 0 k j) := by
  pointwise [layer]

/-- Where each window's block sits at a grid point. -/
theorem idx : ∀ t : Fin cfg0.N, win0_0.index t = ![t.val, 0] ∧ win0_1.index t = ![0, 0] ∧ win0_2.index t = ![t.val, 0] :=
  (by decide +kernel : ∀ t : Fin grid0.N, _)

theorem t_lt (t : Fin cfg0.N) : t.val < 16 := lt_of_lt_of_eq t.isLt (show cfg0.N = 16 from N_0)

/-- The tokens a grid point reads. -/
theorem x_at (c : Dev nD) (t : Fin cfg0.N) (l : Fin 1024) (k : Fin 4096) : (iblk m c 0 t : FVec Ideal S1024x4096 .bf16) (ix2 l k)
    = m ((c : Thread nD τ).loc main_arg0) (ix2 (⟨t.val * 1024 + l.val, by have := t_lt t; omega⟩ : Fin 16384) k) := by
  blk_point [iblk, V, idx t]

/-- The packed columns a grid point reads: all of them. -/
theorem w_at (c : Dev nD) (t : Fin cfg0.N) (k : Fin 4096) (q : Fin 128) : (iblk m c 1 t : FVec Ideal S4096x128 .bf16) (ix2 k q)
    = pack (layer (m ((c : Thread nD τ).loc main_arg1))) (ix2 k q) := by
  have e : win0_1.index t = ![0, 0] := (idx t).2.1
  unfold iblk
  show V m c main_v9 (((cfg0.win 1).blk t).view.emb _) = _
  rw [weights]
  refine congrArg (pack (layer (m ((c : Thread nD τ).loc main_arg1)))) ?_
  funext a
  fin_cases a
  · refine Fin.ext ?_
    show win0_1.index t 0 * 4096 + 1 * k.val = k.val
    rw [e]; show 0 * 4096 + 1 * k.val = _; omega
  · refine Fin.ext ?_
    show win0_1.index t 1 * 128 + 1 * q.val = q.val
    rw [e]; show 0 * 128 + 1 * q.val = _; omega

/-- A block's product at an index. -/
theorem prod_at (x : FVec Ideal S1024x4096 .bf16) (w : FVec Ideal S4096x128 .bf16) (l : Fin 1024) (q : Fin 128) :
    k0_pay1 (F := Ideal) x w (ix2 l q) = ∑ k : Fin 4096, x (ix2 l k) * w (ix2 k q) := by
  pointwise [k0_pay1]

/-- What a grid point stores at a block index is the reference's result at the array index it sits at. -/
theorem point (c : Dev nD) (t : Fin cfg0.N) (y) : k0_pay1 (iblk m c 0 t) (iblk m c 1 t) y
    = Cert.InProjSmallReferenceIdeal.packed (Cert.InProjSmallReferenceIdeal.proj (m ((c : Thread nD τ).loc main_arg0))
        (m ((c : Thread nD τ).loc main_arg1))) (((cfg0.win 2).blk t).view.emb y) := by
  have e : win0_2.index t = ![t.val, 0] := (idx t).2.2
  obtain ⟨l, q, rfl⟩ : ∃ (l : Fin 1024) (q : Fin 128), y = ix2 l q :=
    ⟨y 0, y 1, funext fun a => match a with | ⟨0, _⟩ => rfl | ⟨1, _⟩ => rfl⟩
  have he : ((cfg0.win 2).blk t).view.emb (ix2 l q) = ix2 (⟨t.val * 1024 + l.val, by have := t_lt t; omega⟩ : Fin 16384) q := by
    funext a
    fin_cases a
    · refine Fin.ext ?_
      show win0_2.index t 0 * 1024 + 1 * l.val = t.val * 1024 + l.val
      rw [e]; show t.val * 1024 + 1 * l.val = _; omega
    · refine Fin.ext ?_
      show win0_2.index t 1 * 128 + 1 * q.val = q.val
      rw [e]; show 0 * 128 + 1 * q.val = _; omega
  rw [he]
  refine (prod_at _ _ l q).trans ?_
  by_cases hq : q.val < 104
  · refine Eq.trans ?_ ((Cert.InProjSmallReferenceIdeal.packed_at _ _ _ hq).trans (Cert.InProjSmallReferenceIdeal.proj_at _ _ _ _)).symm
    refine Finset.sum_congr rfl fun k _ => congrArg₂ (· * ·) (x_at m c t l k) ?_
    exact (w_at m c t k q).trans ((pack_at _ _ _ hq).trans (layer_at _ _ _))
  · refine Eq.trans ?_ (Cert.InProjSmallReferenceIdeal.packed_zero _ _ _ hq).symm
    refine Finset.sum_eq_zero fun k _ => ?_
    rw [w_at, pack_zero _ _ _ hq]
    exact mul_zero _

/-- The array the kernel leaves is the reference's result. -/
theorem final (c : Dev nD) : (dats m 0 c).arrAt 2 (cfgs 0).N
    = Cert.InProjSmallReferenceIdeal.packed (Cert.InProjSmallReferenceIdeal.proj (m ((c : Thread nD τ).loc main_arg0))
        (m ((c : Thread nD τ).loc main_arg1))) := by
  refine (dats m 0 c).arrAt_eq_of_covers 2 _ (by decide +kernel) fun t _ y => ?_
  blk_simp
  rw [after0_2]; frame_out
  exact point m c t y

end Cert.InProjSmallKernelIdeal.Value

namespace Cert.InProjSmallReferenceIdeal.Value

open Cert.InProjSmallReferenceIdeal Cert.InProjSmallReferenceIdeal.Gen

/-- The reference's run: the packed product in the result, the arguments unchanged. -/
theorem run_packed (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = packed (proj (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1, (h c).2⟩) (run m ρ)

end Cert.InProjSmallReferenceIdeal.Value

end
-- ==== Proof.Mixer.Norm.lean ====
/- The layer's normalisation in front of the mixer, `x · rsqrt (mean x² + ε) · g` on every row: what the kernel's blocks hold,
   and that the array they tile is the reference's term. -/
module

public import proofs.«01_k».proof.Proof.Gen.NormKernelIdeal.Value
public import proofs.«01_k».proof.Proof.Gen.NormReferenceIdeal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo
open Idealize.ShloMosaic.Pipeline (Dat)

namespace Cert.NormReferenceIdeal

/-- The reference's result. -/
def norm (X : FVec Ideal S16384x4096 .f32) (G : FVec Ideal S2x4096 .f32) : FVec Ideal S16384x4096 .bf16 :=
  truncf .bf16 (mulf (mulf X (broadcastInDim S16384x4096 ![0, 1] Gen.bcast_S16384x1_S16384x4096_0_1 (Host.rsqrt (addf
      (Host.divf (broadcastInDim S16384x1 ![0] Gen.bcast_S16384_S16384x1_0 (Host.reduceAdd (mulf X X) (constant S_ .f32 0x00000000#32)
        Gen.reducesTo_S16384x4096_S16384_d1 Gen.h_S_)) (broadcastInDim S16384x1 ![] Gen.bcast_S_S16384x1 (constant S_ .f32 0x45800000#32)))
      (broadcastInDim S16384x1 ![] Gen.bcast_S_S16384x1 (constant S_ .f32 0x358637BD#32))))))
    (broadcastInDim S16384x4096 ![0, 1] Gen.bcast_S1x4096_S16384x4096_0_1 (broadcastInDim S1x4096 ![1] Gen.bcast_S4096_S1x4096_1
      (shapeCast S4096 (extractStridedSlice S1x4096 ![0, 0] G Gen.slices_S2x4096_S1x4096_0_0) Gen.shapeCasts_S1x4096_S4096)))) Gen.bitsLt_bf16_f32

/-- A row's element, normalised and scaled. -/
def elt (w : Fin 4096 → EReal) (g : EReal) (k : Fin 4096) : EReal :=
  w k * Ideal.rsqrt (Ideal.div (∑ j : Fin 4096, w j * w j) (Ideal.ofBits .f32 0x45800000#32) + Ideal.ofBits .f32 0x358637BD#32) * g

theorem norm_at (X : FVec Ideal S16384x4096 .f32) (G : FVec Ideal S2x4096 .f32) (r : Fin 16384) (k : Fin 4096) :
    norm X G (ix2 r k) = elt (fun j => X (ix2 r j)) (G (ix2 0 k)) k := by
  pointwise [norm, elt]

end Cert.NormReferenceIdeal

namespace Cert.NormKernelIdeal.Value

open Cert.NormKernelIdeal Cert.NormKernelIdeal.Gen
open Cert.NormReferenceIdeal (elt)

/-- The first layer's gain, as one row. -/
def gain (G : FVec Ideal S2x4096 .f32) : FVec Ideal S1x4096 .f32 :=
  shapeCast S1x4096 (shapeCast S4096 (extractStridedSlice S1x4096 ![0, 0] G slices_S2x4096_S1x4096_0_0) shapeCasts_S1x4096_S4096) shapeCasts_S4096_S1x4096

theorem gain_row (G : FVec Ideal S2x4096 .f32) (k : Fin 4096) : gain G (ix2 0 k) = G (ix2 0 k) := by
  pointwise [gain]

/-- What a grid point stores, at a block index. -/
theorem out_at (x : FVec Ideal S512x4096 .f32) (g : FVec Ideal S1x4096 .f32) (l : Fin 512) (k : Fin 4096) :
    k0_pay1 (F := Ideal) x g (ix2 l k) = elt (fun j => x (ix2 l j)) (g (ix2 0 k)) k := by
  pointwise [k0_pay1, elt]

variable (m : (ℓ : Loc nD τ sig) → Buf (Elt Ideal) ℓ)

/-- Where each window's block sits at a grid point. -/
theorem idx : ∀ t : Fin cfg0.N, win0_0.index t = ![t.val, 0] ∧ win0_1.index t = ![0, 0] ∧ win0_2.index t = ![t.val, 0] :=
  (by decide +kernel : ∀ t : Fin grid0.N, _)

theorem t_lt (t : Fin cfg0.N) : t.val < 32 := lt_of_lt_of_eq t.isLt (show cfg0.N = 32 from N_0)

/-- The gain, as the host lines before the call leave it. -/
theorem gain_eq (c : Dev nD) : V m c main_v2 = gain (m ((c : Thread nD τ).loc main_arg1)) := by
  unfold V
  after_reads_simp
  rfl

theorem x_at (c : Dev nD) (t : Fin cfg0.N) (l : Fin 512) (k : Fin 4096) : (iblk m c 0 t : FVec Ideal S512x4096 .f32) (ix2 l k)
    = m ((c : Thread nD τ).loc main_arg0) (ix2 (⟨t.val * 512 + l.val, by have := t_lt t; omega⟩ : Fin 16384) k) := by
  blk_point [iblk, V, idx t]

theorem g_at (c : Dev nD) (t : Fin cfg0.N) (k : Fin 4096) : (iblk m c 1 t : FVec Ideal S1x4096 .f32) (ix2 0 k)
    = m ((c : Thread nD τ).loc main_arg1) (ix2 0 k) := by
  have e : win0_1.index t = ![0, 0] := (idx t).2.1
  unfold iblk
  show V m c main_v2 (((cfg0.win 1).blk t).view.emb _) = _
  rw [gain_eq]
  refine Eq.trans (congrArg (gain (m ((c : Thread nD τ).loc main_arg1))) ?_) (gain_row _ k)
  funext a
  fin_cases a
  · refine Fin.ext ?_
    show win0_1.index t 0 * 1 + 1 * 0 = 0
    rw [e]; rfl
  · refine Fin.ext ?_
    show win0_1.index t 1 * 4096 + 1 * k.val = k.val
    rw [e]; show 0 * 4096 + 1 * k.val = _; omega

/-- What a grid point stores at a block index is the reference's result at the array index it sits at. -/
theorem point (c : Dev nD) (t : Fin cfg0.N) (y) : k0_pay1 (iblk m c 0 t) (iblk m c 1 t) y
    = Cert.NormReferenceIdeal.norm (m ((c.tc : Thread nD τ).loc main_arg0)) (m ((c.tc : Thread nD τ).loc main_arg1)) (((cfg0.win 2).blk t).view.emb y) := by
  have e : win0_2.index t = ![t.val, 0] := (idx t).2.2
  obtain ⟨l, q, rfl⟩ : ∃ (l : Fin 512) (q : Fin 4096), y = ix2 l q :=
    ⟨y 0, y 1, funext fun a => match a with | ⟨0, _⟩ => rfl | ⟨1, _⟩ => rfl⟩
  have he : ((cfg0.win 2).blk t).view.emb (ix2 l q) = ix2 (⟨t.val * 512 + l.val, by have := t_lt t; omega⟩ : Fin 16384) q := by
    funext a
    fin_cases a
    · refine Fin.ext ?_
      show win0_2.index t 0 * 512 + 1 * l.val = t.val * 512 + l.val
      rw [e]; show t.val * 512 + 1 * l.val = _; omega
    · refine Fin.ext ?_
      show win0_2.index t 1 * 4096 + 1 * q.val = q.val
      rw [e]; show 0 * 4096 + 1 * q.val = _; omega
  rw [he, Cert.NormReferenceIdeal.norm_at]
  refine (out_at _ _ l q).trans ?_
  simp only [x_at, g_at]

/-- The array the kernel leaves is the reference's result. -/
theorem final (c : Dev nD) : (dats m 0 c).arrAt 2 (cfgs 0).N
    = Cert.NormReferenceIdeal.norm (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  exact point m c t y

end Cert.NormKernelIdeal.Value

namespace Cert.NormReferenceIdeal.Value

open Cert.NormReferenceIdeal Cert.NormReferenceIdeal.Gen

/-- The reference's run: its result in the result, the arguments unchanged. -/
theorem run_norm (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = norm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1, (h c).2⟩) (run m ρ)

end Cert.NormReferenceIdeal.Value

end
-- ==== Proof.Mixer.PrepSpec.lean ====
/- The sparse attention's preparation: the latent and the shared key, each normalised, the queries normalised per head and
   scaled, and the indexer's keys, as plain formulas. -/
module

public import proofs.«01_k».proof.Proof.Gen.PrepKernelIdeal.Value
public import proofs.«01_k».proof.Proof.Gen.PrepReferenceIdeal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo
open Idealize.ShloMosaic.Pipeline (Dat)

namespace Cert.PrepReferenceIdeal

/-- A row's element over the root of the row's mean square. -/
def unit {n : ℕ} (d : EReal) (w : Fin n → EReal) (k : Fin n) : EReal :=
  w k * Ideal.rsqrt (Ideal.div (∑ j : Fin n, w j * w j) d + Ideal.ofBits .f32 0x358637BD#32)

/-- The latent. -/
def latent (P : FVec Ideal S8x2048x11520 .bf16) (G : FVec Ideal S2x256 .f32) : FVec Ideal S8x2048x256 .f32 :=
  let x : FVec Ideal S8x2048x256 .f32 := extf .f32 (extractStridedSlice S8x2048x256 ![0, 0, 11264] P Gen.slices_S8x2048x11520_S8x2048x256_0_0_11264) Gen.bitsLt_bf16_f32
  mulf (mulf x (broadcastInDim S8x2048x256 ![0, 1, 2] Gen.bcast_S8x2048x1_S8x2048x256_0_1_2 (Host.rsqrt (addf
      (Host.divf (broadcastInDim S8x2048x1 ![0, 1] Gen.bcast_S8x2048_S8x2048x1_0_1 (Host.reduceAdd (mulf x x) (constant S_ .f32 0x00000000#32)
        Gen.reducesTo_S8x2048x256_S8x2048_d2 Gen.h_S_)) (broadcastInDim S8x2048x1 ![] Gen.bcast_S_S8x2048x1 (constant S_ .f32 0x43800000#32)))
      (broadcastInDim S8x2048x1 ![] Gen.bcast_S_S8x2048x1 (constant S_ .f32 0x358637BD#32))))))
    (broadcastInDim S8x2048x256 ![0, 1, 2] Gen.bcast_S1x1x256_S8x2048x256_0_1_2 (broadcastInDim S1x1x256 ![2] Gen.bcast_S256_S1x1x256_2
      (shapeCast S256 (extractStridedSlice S1x256 ![0, 0] G Gen.slices_S2x256_S1x256_0_0) Gen.shapeCasts_S1x256_S256)))

/-- The latent, transposed and rounded. -/
def latentT (P : FVec Ideal S8x2048x11520 .bf16) (G : FVec Ideal S2x256 .f32) : FVec Ideal S8x256x2048 .bf16 :=
  truncf .bf16 (transpose S8x256x2048 [0, 2, 1] (latent P G) Gen.transposes_S8x2048x256_S8x256x2048_0_2_1) Gen.bitsLt_bf16_f32

/-- The shared key before its normalisation. -/
def proj (P : FVec Ideal S8x2048x11520 .bf16) (W : FVec Ideal S2x256x128 .f32) (G : FVec Ideal S2x256 .f32) : FVec Ideal S8x2048x128 .f32 :=
  Host.dotGeneral (F := Ideal) dot_S8x2048x256_S256x128_S8x2048x128_2_0_01_1_n_n none (latent P G)
    (shapeCast S256x128 (extractStridedSlice S1x256x128 ![0, 0, 0] W Gen.slices_S2x256x128_S1x256x128_0_0_0) Gen.shapeCasts_S1x256x128_S256x128)

/-- An array of rows of 128, normalised and scaled by a gain. -/
def normed (x : FVec Ideal S8x2048x128 .f32) (K : FVec Ideal S2x128 .f32) : FVec Ideal S8x2048x128 .bf16 :=
  truncf .bf16 (mulf (mulf x (broadcastInDim S8x2048x128 ![0, 1, 2] Gen.bcast_S8x2048x1_S8x2048x128_0_1_2 (Host.rsqrt (addf
      (Host.divf (broadcastInDim S8x2048x1 ![0, 1] Gen.bcast_S8x2048_S8x2048x1_0_1 (Host.reduceAdd (mulf x x) (constant S_ .f32 0x00000000#32)
        Gen.reducesTo_S8x2048x128_S8x2048_d2 Gen.h_S_)) (broadcastInDim S8x2048x1 ![] Gen.bcast_S_S8x2048x1 (constant S_ .f32 0x43000000#32)))
      (broadcastInDim S8x2048x1 ![] Gen.bcast_S_S8x2048x1 (constant S_ .f32 0x358637BD#32))))))
    (broadcastInDim S8x2048x128 ![0, 1, 2] Gen.bcast_S1x1x128_S8x2048x128_0_1_2 (broadcastInDim S1x1x128 ![2] Gen.bcast_S128_S1x1x128_2
      (shapeCast S128 (extractStridedSlice S1x128 ![0, 0] K Gen.slices_S2x128_S1x128_0_0) Gen.shapeCasts_S1x128_S128)))) Gen.bitsLt_bf16_f32

/-- The shared key. -/
def key (P : FVec Ideal S8x2048x11520 .bf16) (W : FVec Ideal S2x256x128 .f32) (G : FVec Ideal S2x256 .f32) (K : FVec Ideal S2x128 .f32) :
    FVec Ideal S8x2048x128 .bf16 := normed (proj P W G) K

/-- The queries' columns, in heads. -/
def heads (P : FVec Ideal S8x2048x11520 .bf16) : FVec Ideal S8x2048x8x128 .f32 :=
  shapeCast S8x2048x8x128 (extf .f32 (extractStridedSlice S8x2048x1024 ![0, 0, 4096] P Gen.slices_S8x2048x11520_S8x2048x1024_0_0_4096) Gen.bitsLt_bf16_f32)
    Gen.shapeCasts_S8x2048x1024_S8x2048x8x128

/-- The queries' normalisation and scale, per head. -/
def perHead (q : FVec Ideal S8x2048x8x128 .f32) (G : FVec Ideal S2x128 .f32) : FVec Ideal S8x2048x8x128 .f32 :=
  mulf (mulf (mulf q (broadcastInDim S8x2048x8x128 ![0, 1, 2, 3] Gen.bcast_S8x2048x8x1_S8x2048x8x128_0_1_2_3 (Host.rsqrt (addf
      (Host.divf (broadcastInDim S8x2048x8x1 ![0, 1, 2] Gen.bcast_S8x2048x8_S8x2048x8x1_0_1_2 (Host.reduceAdd (mulf q q) (constant S_ .f32 0x00000000#32)
        Gen.reducesTo_S8x2048x8x128_S8x2048x8_d3 Gen.h_S_)) (broadcastInDim S8x2048x8x1 ![] Gen.bcast_S_S8x2048x8x1 (constant S_ .f32 0x43000000#32)))
      (broadcastInDim S8x2048x8x1 ![] Gen.bcast_S_S8x2048x8x1 (constant S_ .f32 0x358637BD#32))))))
    (broadcastInDim S8x2048x8x128 ![0, 1, 2, 3] Gen.bcast_S1x1x1x128_S8x2048x8x128_0_1_2_3 (broadcastInDim S1x1x1x128 ![3] Gen.bcast_S128_S1x1x1x128_3
      (shapeCast S128 (extractStridedSlice S1x128 ![0, 0] G Gen.slices_S2x128_S1x128_0_0) Gen.shapeCasts_S1x128_S128))))
    (broadcastInDim S8x2048x8x128 ![] Gen.bcast_S_S8x2048x8x128 (constant S_ .f32 0x3DB504F3#32))

/-- The queries. -/
def query (P : FVec Ideal S8x2048x11520 .bf16) (G : FVec Ideal S2x128 .f32) : FVec Ideal S8x2048x1024 .bf16 :=
  truncf .bf16 (shapeCast S8x2048x1024 (perHead (heads P) G) Gen.shapeCasts_S8x2048x8x128_S8x2048x1024) Gen.bitsLt_bf16_f32

/-- The indexer's keys. -/
def index (S : FVec Ideal S8x2048x128 .f32) : FVec Ideal S8x2048x64 .bf16 :=
  truncf .bf16 (extractStridedSlice S8x2048x64 ![0, 0, 16] S Gen.slices_S8x2048x128_S8x2048x64_0_0_16) Gen.bitsLt_bf16_f32

/-- The mean's two divisors, 256 and 128. -/
def c256 : EReal := Ideal.ofBits .f32 0x43800000#32
def c128 : EReal := Ideal.ofBits .f32 0x43000000#32

theorem latent_at (P : FVec Ideal S8x2048x11520 .bf16) (G : FVec Ideal S2x256 .f32) (b : Fin 8) (l : Fin 2048) (k : Fin 256) :
    latent P G (ix3 b l k) = unit c256 (fun j : Fin 256 => P (ix3 b l (⟨11264 + j.val, by omega⟩ : Fin 11520))) k * G (ix2 0 k) := by
  pointwise [latent, unit, c256]

theorem latentT_at (P : FVec Ideal S8x2048x11520 .bf16) (G : FVec Ideal S2x256 .f32) (b : Fin 8) (l : Fin 2048) (k : Fin 256) :
    latentT P G (ix3 b k l) = latent P G (ix3 b l k) := by
  pointwise [latentT]

theorem proj_at (P : FVec Ideal S8x2048x11520 .bf16) (W : FVec Ideal S2x256x128 .f32) (G : FVec Ideal S2x256 .f32) (b : Fin 8) (l : Fin 2048) (q : Fin 128) :
    proj P W G (ix3 b l q) = ∑ k : Fin 256, latent P G (ix3 b l k) * W (ix3 0 k q) := by
  pointwise [proj]

theorem normed_at (x : FVec Ideal S8x2048x128 .f32) (K : FVec Ideal S2x128 .f32) (b : Fin 8) (l : Fin 2048) (q : Fin 128) :
    normed x K (ix3 b l q) = unit c128 (fun j : Fin 128 => x (ix3 b l j)) q * K (ix2 0 q) := by
  pointwise [normed, unit, c128]

theorem heads_at (P : FVec Ideal S8x2048x11520 .bf16) (b : Fin 8) (l : Fin 2048) (h : Fin 8) (d : Fin 128) :
    heads P (ix4 b l h d) = P (ix3 b l (⟨4096 + (h.val * 128 + d.val), by omega⟩ : Fin 11520)) := by
  pointwise [heads]

theorem perHead_at (q : FVec Ideal S8x2048x8x128 .f32) (G : FVec Ideal S2x128 .f32) (b : Fin 8) (l : Fin 2048) (h : Fin 8) (d : Fin 128) :
    perHead q G (ix4 b l h d) = unit c128 (fun j : Fin 128 => q (ix4 b l h j)) d * G (ix2 0 d) * Ideal.ofBits .f32 0x3DB504F3#32 := by
  pointwise [perHead, unit, c128]

theorem query_at (P : FVec Ideal S8x2048x11520 .bf16) (G : FVec Ideal S2x128 .f32) (b : Fin 8) (l : Fin 2048) (h : Fin 8) (d : Fin 128) :
    query P G (ix3 b l (⟨h.val * 128 + d.val, by omega⟩ : Fin 1024)) = perHead (heads P) G (ix4 b l h d) := by
  pointwise [query]

theorem index_at (S : FVec Ideal S8x2048x128 .f32) (b : Fin 8) (l : Fin 2048) (k : Fin 64) :
    index S (ix3 b l k) = S (ix3 b l (⟨16 + k.val, by omega⟩ : Fin 128)) := by
  pointwise [index]

end Cert.PrepReferenceIdeal

namespace Cert.PrepKernelIdeal.Value

open Cert.PrepKernelIdeal Cert.PrepKernelIdeal.Gen
open Cert.PrepReferenceIdeal (unit c256 c128)

theorem wide_at (x : FVec Ideal S1x512x256 .bf16) (g : FVec Ideal S1x256 .f32) (l : Fin 512) (k : Fin 256) :
    k0_pay2 (F := Ideal) x g (ix2 l k) = unit c256 (fun j : Fin 256 => x (ix3 0 l j)) k * g (ix2 0 k) := by
  pointwise [k0_pay2, unit, c256]

theorem latentT_at (x : FVec Ideal S1x512x256 .bf16) (g : FVec Ideal S1x256 .f32) (l : Fin 512) (k : Fin 256) :
    k0_pay3 (F := Ideal) x g (ix3 0 k l) = k0_pay2 (F := Ideal) x g (ix2 l k) := by
  pointwise [k0_pay3]

theorem key_at (x : FVec Ideal S1x512x256 .bf16) (g : FVec Ideal S1x256 .f32) (w : FVec Ideal S256x128 .bf16) (kg : FVec Ideal S1x128 .f32) (l : Fin 512) (q : Fin 128) :
    k0_pay6 (F := Ideal) (k0_pay4 x g w) (k0_pay5 kg) (ix3 0 l q)
      = unit c128 (fun j : Fin 128 => ∑ k : Fin 256, k0_pay2 (F := Ideal) x g (ix2 l k) * w (ix2 k j)) q * kg (ix2 0 q) := by
  pointwise [k0_pay6, k0_pay4, k0_pay5, unit, c128]

theorem index_at (x : FVec Ideal S1x512x64 .f32) (l : Fin 512) (k : Fin 64) : k0_pay1 (F := Ideal) x (ix3 0 l k) = x (ix3 0 l k) := by
  pointwise [k0_pay1]

/-- A head's queries, at an index. -/
def head (x : FVec Ideal S1x512x128 .bf16) (g : FVec Ideal S1x128 .f32) (l : Fin 512) (d : Fin 128) : EReal :=
  unit c128 (fun j : Fin 128 => x (ix3 0 l j)) d * g (ix2 0 d) * Ideal.ofBits .f32 0x3DB504F3#32

variable (x : FVec Ideal S1x512x128 .bf16) (g : FVec Ideal S1x128 .f32) (l : Fin 512) (d : Fin 128)

theorem head0 : k0_pay7 (F := Ideal) x g (ix3 0 l d) = head x g l d := by
  pointwise [k0_pay7, head, unit, c128]

theorem head1 : k0_pay10 (F := Ideal) (k0_pay8 x) (k0_pay9 x) (Scalar.ofBits .f32 0x358637BD#32) g (ix3 0 l d) = head x g l d := by
  pointwise [k0_pay10, k0_pay8, k0_pay9, head, unit, c128]

theorem head2 : k0_pay11 (F := Ideal) x g (ix3 0 l d) = head x g l d := by
  pointwise [k0_pay11, head, unit, c128]

theorem head3 : k0_pay12 (F := Ideal) x g (ix3 0 l d) = head x g l d := by
  pointwise [k0_pay12, head, unit, c128]

theorem head4 : k0_pay14 (F := Ideal) (k0_pay13 x g) (Scalar.ofBits .f32 0x3DB504F3#32) (ix3 0 l d) = head x g l d := by
  pointwise [k0_pay14, k0_pay13, head, unit, c128]

theorem head5 : k0_pay15 (F := Ideal) x g (ix3 0 l d) = head x g l d := by
  pointwise [k0_pay15, head, unit, c128]

theorem head6 : k0_pay18 (F := Ideal) (k0_pay16 x) (k0_pay17 x) (Scalar.ofBits .f32 0x358637BD#32) g (ix3 0 l d) = head x g l d := by
  pointwise [k0_pay18, k0_pay16, k0_pay17, head, unit, c128]

theorem head7 : k0_pay19 (F := Ideal) x g (ix3 0 l d) = head x g l d := by
  pointwise [k0_pay19, head, unit, c128]

end Cert.PrepKernelIdeal.Value

end
-- ==== Proof.Mixer.PrepBlocks.lean ====
/- What a grid point of the sparse attention's preparation leaves in each of its four output blocks, at an index. -/
module

public import proofs.«01_k».proof.Proof.Mixer.PrepSpec
public import proofs.«01_k».proof.Proof.Gen.PrepKernelIdeal.Value
public import proofs.«01_k».proof.Proof.Gen.PrepReferenceIdeal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo
open Idealize.ShloMosaic.Pipeline (Dat)

namespace Cert.PrepKernelIdeal.Value

open Cert.PrepKernelIdeal Cert.PrepKernelIdeal.Gen
open Cert.PrepReferenceIdeal (unit c256 c128)

/-- A grid point's latent, shared key and queries, from its blocks. -/
def lat (x1 : FVec Ideal S1x512x256 .bf16) (x4 : FVec Ideal S1x256 .f32) (l : Fin 512) (k : Fin 256) : EReal :=
  unit c256 (fun j : Fin 256 => x1 (ix3 0 l j)) k * x4 (ix2 0 k)

def keyAt (x1 : FVec Ideal S1x512x256 .bf16) (x3 : FVec Ideal S256x128 .bf16) (x4 : FVec Ideal S1x256 .f32) (x6 : FVec Ideal S1x128 .f32)
    (l : Fin 512) (q : Fin 128) : EReal :=
  unit c128 (fun j : Fin 128 => ∑ k : Fin 256, lat x1 x4 l k * x3 (ix2 k j)) q * x6 (ix2 0 q)

def queryAt (x0 : FVec Ideal S1x512x1024 .bf16) (x5 : FVec Ideal S1x128 .f32) (l : Fin 512) (h : Fin 8) (d : Fin 128) : EReal :=
  unit c128 (fun j : Fin 128 => x0 (ix3 0 l (⟨h.val * 128 + j.val, by omega⟩ : Fin 1024))) d * x5 (ix2 0 d) * Ideal.ofBits .f32 0x3DB504F3#32

/-- One head's store, from that head's columns. -/
theorem piece (x0 : FVec Ideal S1x512x1024 .bf16) (x5 : FVec Ideal S1x128 .f32) (k : Fin 8) (p : FVec Ideal S1x512x128 .bf16)
    (v : FVec Ideal S1x512x128 .bf16) (x : S1x512x128.Idx) (l : Fin 512) (h : Fin 8) (d : Fin 128) (hp : ∀ l d, p (ix3 0 l d) = head v x5 l d)
    (hv : ∀ (l : Fin 512) (d : Fin 128), v (ix3 0 l d) = x0 (ix3 0 l (⟨k.val * 128 + d.val, by omega⟩ : Fin 1024)))
    (h1 : l.val = (x 1).val) (h2 : h.val * 128 + d.val = k.val * 128 + (x 2).val) : p x = queryAt x0 x5 l h d := by
  have hx : (x 2).val < 128 := (x 2).isLt
  obtain rfl : h = k := Fin.ext (by omega)
  obtain rfl : x = ix3 0 l d := by
    funext a
    fin_cases a
    · exact Fin.ext (Nat.lt_one_iff.mp (show (x 0).val < 1 from (x 0).isLt))
    · exact Fin.ext h1.symm
    · exact Fin.ext (by show (x 2).val = d.val; omega)
  rw [hp]
  unfold head queryAt
  simp only [hv]

theorem cut_at (x0 : Vec Ideal S1x512x1024 .bf16) (k : Fin 8) (o : ℕ) (ho : o = k.val * 128)
    (inb : ∀ a, (![0, 0, o] : Fin 3 → ℕ) a + (![1, 512, 128] : Fin 3 → ℕ) a ≤ S1x512x1024.size a) (l : Fin 512) (d : Fin 128) :
    View.ld x0 (Rect.unit ![0, 0, o] ![1, 512, 128] inb) (ix3 0 l d : S1x512x128.Idx) = x0 (ix3 0 l (⟨k.val * 128 + d.val, by omega⟩ : Fin 1024)) :=
  View.ld_unit_apply_of x0 _ _ inb _ _ fun a => match a with
    | ⟨0, _⟩ => rfl
    | ⟨1, _⟩ => by show l.val = 0 + l.val; omega
    | ⟨2, _⟩ => by show k.val * 128 + d.val = o + d.val; omega

theorem small_at (x2 : Vec Ideal S1x512x128 .f32)
    (inb : ∀ a, (![0, 0, 16] : Fin 3 → ℕ) a + (![1, 512, 64] : Fin 3 → ℕ) a ≤ S1x512x128.size a) (l : Fin 512) (d : Fin 64) :
    View.ld x2 (Rect.unit ![0, 0, 16] ![1, 512, 64] inb) (ix3 0 l d : S1x512x64.Idx) = x2 (ix3 0 l (⟨16 + d.val, by omega⟩ : Fin 128)) :=
  View.ld_unit_apply_of x2 _ _ inb _ _ fun a => match a with
    | ⟨0, _⟩ => rfl
    | ⟨1, _⟩ => by show l.val = 0 + l.val; omega
    | ⟨2, _⟩ => rfl

variable (c : Dev nD) (i : grid0.Coords) (arg2 : Memref sig .tc .vmem S1x512x1024 .bf16) (harg2 : arg2.IsWhole)
    (arg3 : Memref sig .tc .vmem S1x512x256 .bf16) (harg3 : arg3.IsWhole) (arg4 : Memref sig .tc .vmem S1x512x128 .f32) (harg4 : arg4.IsWhole)
    (arg5 : Memref sig .tc .vmem S256x128 .bf16) (harg5 : arg5.IsWhole) (arg6 : Memref sig .tc .vmem S1x256 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x512x1024 .bf16) (harg9 : arg9.IsWhole) (arg10 : Memref sig .tc .vmem S1x512x128 .bf16) (harg10 : arg10.IsWhole)
    (arg11 : Memref sig .tc .vmem S1x256x512 .bf16) (harg11 : arg11.IsWhole) (arg12 : Memref sig .tc .vmem S1x512x64 .bf16) (harg12 : arg12.IsWhole)
    (x0 : Vec Ideal S1x512x1024 .bf16) (x1 : Vec Ideal S1x512x256 .bf16) (x2 : Vec Ideal S1x512x128 .f32) (x3 : Vec Ideal S256x128 .bf16)
    (x4 : Vec Ideal S1x256 .f32) (x5 : Vec Ideal S1x128 .f32) (x6 : Vec Ideal S1x128 .f32)

theorem out10_at (l : Fin 512) (d : Fin 64) : out0_A_10 c i arg2 harg2 arg3 harg3 arg4 harg4 arg5 harg5 arg6 harg6 arg7 harg7 arg8 harg8 arg9 harg9 arg10 harg10 arg11 harg11 arg12 harg12 x0 x1 x2 x3 x4 x5 x6 (ix3 0 l d) = x2 (ix3 0 l (⟨16 + d.val, by omega⟩ : Fin 128)) := by
  frame_out
  exact (index_at _ l d).trans (small_at x2 _ l d)

theorem out9_at (l : Fin 512) (k : Fin 256) : out0_A_9 c i arg2 harg2 arg3 harg3 arg4 harg4 arg5 harg5 arg6 harg6 arg7 harg7 arg8 harg8 arg9 harg9 arg10 harg10 arg11 harg11 arg12 harg12 x0 x1 x2 x3 x4 x5 x6 (ix3 0 k l) = lat x1 x4 l k := by
  frame_out
  exact (latentT_at _ _ l k).trans (wide_at _ _ l k)

theorem out8_at (l : Fin 512) (q : Fin 128) : out0_A_8 c i arg2 harg2 arg3 harg3 arg4 harg4 arg5 harg5 arg6 harg6 arg7 harg7 arg8 harg8 arg9 harg9 arg10 harg10 arg11 harg11 arg12 harg12 x0 x1 x2 x3 x4 x5 x6 (ix3 0 l q) = keyAt x1 x3 x4 x6 l q := by
  frame_out
  refine (key_at _ _ _ _ l q).trans ?_
  simp only [wide_at]
  rfl

theorem out7_at (l : Fin 512) (h : Fin 8) (d : Fin 128) : out0_A_7 c i arg2 harg2 arg3 harg3 arg4 harg4 arg5 harg5 arg6 harg6 arg7 harg7 arg8 harg8 arg9 harg9 arg10 harg10 arg11 harg11 arg12 harg12 x0 x1 x2 x3 x4 x5 x6 (ix3 0 l (⟨h.val * 128 + d.val, by omega⟩ : Fin 1024)) = queryAt x0 x5 l h d := by
  frame_out
  canon_tiles x hx
  · exact piece x0 x5 7 _ _ x l h d (head7 _ _) (cut_at x0 7 896 (by rfl) _) hx1 hx2
  · exact piece x0 x5 6 _ _ x l h d (head6 _ _) (cut_at x0 6 768 (by rfl) _) hx1 hx2
  · exact piece x0 x5 5 _ _ x l h d (head5 _ _) (cut_at x0 5 640 (by rfl) _) hx1 hx2
  · exact piece x0 x5 4 _ _ x l h d (head4 _ _) (cut_at x0 4 512 (by rfl) _) hx1 hx2
  · exact piece x0 x5 3 _ _ x l h d (head3 _ _) (cut_at x0 3 384 (by rfl) _) hx1 hx2
  · exact piece x0 x5 2 _ _ x l h d (head2 _ _) (cut_at x0 2 256 (by rfl) _) hx1 hx2
  · exact piece x0 x5 1 _ _ x l h d (head1 _ _) (cut_at x0 1 128 (by rfl) _) hx1 hx2
  · exact piece x0 x5 0 _ _ x l h d (head0 _ _) (cut_at x0 0 0 (by rfl) _) hx1 (by rw [show ((0 : Fin 8).val * 128 + (x 2).val) = (x 2).val by simp]; exact hx2)

end Cert.PrepKernelIdeal.Value

end
-- ==== Proof.Mixer.Prep.lean ====
/- The sparse attention's preparation: the four arrays the kernel leaves are the reference's. -/
module

public import proofs.«01_k».proof.Proof.Mixer.PrepBlocks
public import proofs.«01_k».proof.Proof.Gen.PrepKernelIdeal.Value
public import proofs.«01_k».proof.Proof.Gen.PrepReferenceIdeal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo
open Idealize.ShloMosaic.Pipeline (Dat)

namespace Cert.PrepKernelIdeal.Value

open Cert.PrepKernelIdeal Cert.PrepKernelIdeal.Gen
open Cert.PrepReferenceIdeal (unit c256 c128)

variable (m : (ℓ : Loc nD τ sig) → Buf (Elt Ideal) ℓ)

/-- Where each window's block sits at a grid point. -/
theorem idx : ∀ t : Fin cfg0.N, win0_0.index t = ![t.val / 4, t.val % 4, 4] ∧ win0_1.index t = ![t.val / 4, t.val % 4, 44]
    ∧ win0_2.index t = ![t.val / 4, t.val % 4, 0] ∧ win0_3.index t = ![0, 0] ∧ win0_4.index t = ![0, 0] ∧ win0_5.index t = ![0, 0]
    ∧ win0_6.index t = ![0, 0] ∧ win0_7.index t = ![t.val / 4, t.val % 4, 0] ∧ win0_8.index t = ![t.val / 4, t.val % 4, 0]
    ∧ win0_9.index t = ![t.val / 4, 0, t.val % 4] ∧ win0_10.index t = ![t.val / 4, t.val % 4, 0] :=
  (by decide +kernel : ∀ t : Fin grid0.N, _)

theorem t_lt (t : Fin cfg0.N) : t.val < 32 := lt_of_lt_of_eq t.isLt (show cfg0.N = 32 from N_0)

/-- The first layer's key weight, and the gains as one row, as the host lines before the call make them. -/
def weight (W : FVec Ideal S2x256x128 .f32) : FVec Ideal S256x128 .bf16 :=
  truncf .bf16 (shapeCast S256x128 (extractStridedSlice S1x256x128 ![0, 0, 0] W slices_S2x256x128_S1x256x128_0_0_0) shapeCasts_S1x256x128_S256x128) bitsLt_bf16_f32

def gain256 (G : FVec Ideal S2x256 .f32) : FVec Ideal S1x256 .f32 :=
  shapeCast S1x256 (shapeCast S256 (extractStridedSlice S1x256 ![0, 0] G slices_S2x256_S1x256_0_0) shapeCasts_S1x256_S256) shapeCasts_S256_S1x256

def gain128 (G : FVec Ideal S2x128 .f32) : FVec Ideal S1x128 .f32 :=
  shapeCast S1x128 (shapeCast S128 (extractStridedSlice S1x128 ![0, 0] G slices_S2x128_S1x128_0_0) shapeCasts_S1x128_S128) shapeCasts_S128_S1x128

theorem weight_at (W : FVec Ideal S2x256x128 .f32) (k : Fin 256) (q : Fin 128) : weight W (ix2 k q) = W (ix3 0 k q) := by
  pointwise [weight]

theorem gain256_at (G : FVec Ideal S2x256 .f32) (k : Fin 256) : gain256 G (ix2 0 k) = G (ix2 0 k) := by
  pointwise [gain256]

theorem gain128_at (G : FVec Ideal S2x128 .f32) (k : Fin 128) : gain128 G (ix2 0 k) = G (ix2 0 k) := by
  pointwise [gain128]

theorem weight_eq (c : Dev nD) : V m c main_v8 = weight (m ((c.tc : Thread nD τ).loc main_arg2)) := by
  unfold V
  after_reads_simp
  rfl

theorem gain4_eq (c : Dev nD) : V m c main_v9 = gain256 (m ((c.tc : Thread nD τ).loc main_arg3)) := by
  unfold V
  after_reads_simp
  rfl

theorem gain5_eq (c : Dev nD) : V m c main_v10 = gain128 (m ((c.tc : Thread nD τ).loc main_arg4)) := by
  unfold V
  after_reads_simp
  rfl

theorem gain6_eq (c : Dev nD) : V m c main_v11 = gain128 (m ((c.tc : Thread nD τ).loc main_arg5)) := by
  unfold V
  after_reads_simp
  rfl

/-! What a grid point reads, window by window. -/

theorem r0_at (c : Dev nD) (t : Fin cfg0.N) (l : Fin 512) (q : Fin 1024) : (X0_0 m c t : FVec Ideal S1x512x1024 .bf16) (ix3 0 l q)
    = (m ((c.tc : Thread nD τ).loc main_arg0)) (ix3 (⟨t.val / 4, by have := t_lt t; omega⟩ : Fin 8) (⟨t.val % 4 * 512 + l.val, by omega⟩ : Fin 2048) (⟨4096 + q.val, by omega⟩ : Fin 11520)) := by
  have e : win0_0.index t = ![t.val / 4, t.val % 4, 4] := (idx t).1
  unfold X0_0 Pipeline.Window.fill
  rw [dif_pos (moved0_0 t _)]
  unfold iblk
  show V m c main_arg0 (((cfg0.win 0).blk t).view.emb _) = _
  rw [V_main_arg0]
  refine congrArg (m ((c.tc : Thread nD τ).loc main_arg0)) ?_
  funext a
  fin_cases a
  · refine Fin.ext ?_
    show win0_0.index t 0 * 1 + 1 * 0 = t.val / 4
    rw [e]; show t.val / 4 * 1 + 1 * 0 = _; omega
  · refine Fin.ext ?_
    show win0_0.index t 1 * 512 + 1 * l.val = t.val % 4 * 512 + l.val
    rw [e]; show t.val % 4 * 512 + 1 * l.val = _; omega
  · refine Fin.ext ?_
    show win0_0.index t 2 * 1024 + 1 * q.val = 4096 + q.val
    rw [e]; show 4 * 1024 + 1 * q.val = _; omega

theorem r1_at (c : Dev nD) (t : Fin cfg0.N) (l : Fin 512) (q : Fin 256) : (iblk m c 1 t : FVec Ideal S1x512x256 .bf16) (ix3 0 l q)
    = (m ((c.tc : Thread nD τ).loc main_arg0)) (ix3 (⟨t.val / 4, by have := t_lt t; omega⟩ : Fin 8) (⟨t.val % 4 * 512 + l.val, by omega⟩ : Fin 2048) (⟨11264 + q.val, by omega⟩ : Fin 11520)) := by
  have e : win0_1.index t = ![t.val / 4, t.val % 4, 44] := (idx t).2.1
  unfold iblk
  show V m c main_arg0 (((cfg0.win 1).blk t).view.emb _) = _
  rw [V_main_arg0]
  refine congrArg (m ((c.tc : Thread nD τ).loc main_arg0)) ?_
  funext a
  fin_cases a
  · refine Fin.ext ?_
    show win0_1.index t 0 * 1 + 1 * 0 = t.val / 4
    rw [e]; show t.val / 4 * 1 + 1 * 0 = _; omega
  · refine Fin.ext ?_
    show win0_1.index t 1 * 512 + 1 * l.val = t.val % 4 * 512 + l.val
    rw [e]; show t.val % 4 * 512 + 1 * l.val = _; omega
  · refine Fin.ext ?_
    show win0_1.index t 2 * 256 + 1 * q.val = 11264 + q.val
    rw [e]; show 44 * 256 + 1 * q.val = _; omega

theorem r2_at (c : Dev nD) (t : Fin cfg0.N) (l : Fin 512) (q : Fin 128) : (iblk m c 2 t : FVec Ideal S1x512x128 .f32) (ix3 0 l q)
    = (m ((c.tc : Thread nD τ).loc main_arg1)) (ix3 (⟨t.val / 4, by have := t_lt t; omega⟩ : Fin 8) (⟨t.val % 4 * 512 + l.val, by omega⟩ : Fin 2048) q) := by
  have e : win0_2.index t = ![t.val / 4, t.val % 4, 0] := (idx t).2.2.1
  unfold iblk
  show V m c main_arg1 (((cfg0.win 2).blk t).view.emb _) = _
  rw [V_main_arg1]
  refine congrArg (m ((c.tc : Thread nD τ).loc main_arg1)) ?_
  funext a
  fin_cases a
  · refine Fin.ext ?_
    show win0_2.index t 0 * 1 + 1 * 0 = t.val / 4
    rw [e]; show t.val / 4 * 1 + 1 * 0 = _; omega
  · refine Fin.ext ?_
    show win0_2.index t 1 * 512 + 1 * l.val = t.val % 4 * 512 + l.val
    rw [e]; show t.val % 4 * 512 + 1 * l.val = _; omega
  · refine Fin.ext ?_
    show win0_2.index t 2 * 128 + 1 * q.val = q.val
    rw [e]; show 0 * 128 + 1 * q.val = _; omega

theorem r3_at (c : Dev nD) (t : Fin cfg0.N) (k : Fin 256) (q : Fin 128) : (iblk m c 3 t : FVec Ideal S256x128 .bf16) (ix2 k q)
    = (m ((c.tc : Thread nD τ).loc main_arg2)) (ix3 0 k q) := by
  have e : win0_3.index t = ![0, 0] := (idx t).2.2.2.1
  unfold iblk
  show V m c main_v8 (((cfg0.win 3).blk t).view.emb _) = _
  rw [weight_eq]
  refine Eq.trans (congrArg (weight (m ((c.tc : Thread nD τ).loc main_arg2))) ?_) (weight_at _ k q)
  funext a
  fin_cases a
  · refine Fin.ext ?_
    show win0_3.index t 0 * 256 + 1 * k.val = k.val
    rw [e]; show 0 * 256 + 1 * k.val = _; omega
  · refine Fin.ext ?_
    show win0_3.index t 1 * 128 + 1 * q.val = q.val
    rw [e]; show 0 * 128 + 1 * q.val = _; omega

theorem r4_at (c : Dev nD) (t : Fin cfg0.N) (k : Fin 256) : (iblk m c 4 t : FVec Ideal S1x256 .f32) (ix2 0 k)
    = (m ((c.tc : Thread nD τ).loc main_arg3)) (ix2 0 k) := by
  have e : win0_4.index t = ![0, 0] := (idx t).2.2.2.2.1
  unfold iblk
  show V m c main_v9 (((cfg0.win 4).blk t).view.emb _) = _
  rw [gain4_eq]
  refine Eq.trans (congrArg (gain256 (m ((c.tc : Thread nD τ).loc main_arg3))) ?_) (gain256_at _ k)
  funext a
  fin_cases a
  · refine Fin.ext ?_
    show win0_4.index t 0 * 1 + 1 * 0 = 0
    rw [e]; show 0 * 1 + 1 * 0 = _; omega
  · refine Fin.ext ?_
    show win0_4.index t 1 * 256 + 1 * k.val = k.val
    rw [e]; show 0 * 256 + 1 * k.val = _; omega

theorem r5_at (c : Dev nD) (t : Fin cfg0.N) (k : Fin 128) : (iblk m c 5 t : FVec Ideal S1x128 .f32) (ix2 0 k)
    = (m ((c.tc : Thread nD τ).loc main_arg4)) (ix2 0 k) := by
  have e : win0_5.index t = ![0, 0] := (idx t).2.2.2.2.2.1
  unfold iblk
  show V m c main_v10 (((cfg0.win 5).blk t).view.emb _) = _
  rw [gain5_eq]
  refine Eq.trans (congrArg (gain128 (m ((c.tc : Thread nD τ).loc main_arg4))) ?_) (gain128_at _ k)
  funext a
  fin_cases a
  · refine Fin.ext ?_
    show win0_5.index t 0 * 1 + 1 * 0 = 0
    rw [e]; show 0 * 1 + 1 * 0 = _; omega
  · refine Fin.ext ?_
    show win0_5.index t 1 * 128 + 1 * k.val = k.val
    rw [e]; show 0 * 128 + 1 * k.val = _; omega

theorem r6_at (c : Dev nD) (t : Fin cfg0.N) (k : Fin 128) : (iblk m c 6 t : FVec Ideal S1x128 .f32) (ix2 0 k)
    = (m ((c.tc : Thread nD τ).loc main_arg5)) (ix2 0 k) := by
  have e : win0_6.index t = ![0, 0] := (idx t).2.2.2.2.2.2.1
  unfold iblk
  show V m c main_v11 (((cfg0.win 6).blk t).view.emb _) = _
  rw [gain6_eq]
  refine Eq.trans (congrArg (gain128 (m ((c.tc : Thread nD τ).loc main_arg5))) ?_) (gain128_at _ k)
  funext a
  fin_cases a
  · refine Fin.ext ?_
    show win0_6.index t 0 * 1 + 1 * 0 = 0
    rw [e]; show 0 * 1 + 1 * 0 = _; omega
  · refine Fin.ext ?_
    show win0_6.index t 1 * 128 + 1 * k.val = k.val
    rw [e]; show 0 * 128 + 1 * k.val = _; omega

/-- A grid point's latent, shared key and queries are the reference's at the array index. -/
theorem lat_eq (c : Dev nD) (t : Fin cfg0.N) (l : Fin 512) (k : Fin 256) : lat (iblk m c 1 t) (iblk m c 4 t) l k
    = Cert.PrepReferenceIdeal.latent (m ((c.tc : Thread nD τ).loc main_arg0)) (m ((c.tc : Thread nD τ).loc main_arg3)) (ix3 (⟨t.val / 4, by have := t_lt t; omega⟩ : Fin 8) (⟨t.val % 4 * 512 + l.val, by omega⟩ : Fin 2048) k) := by
  rw [Cert.PrepReferenceIdeal.latent_at]
  unfold lat
  simp only [r1_at, r4_at]

theorem key_eq (c : Dev nD) (t : Fin cfg0.N) (l : Fin 512) (q : Fin 128) : keyAt (iblk m c 1 t) (iblk m c 3 t) (iblk m c 4 t) (iblk m c 6 t) l q
    = Cert.PrepReferenceIdeal.key (m ((c.tc : Thread nD τ).loc main_arg0)) (m ((c.tc : Thread nD τ).loc main_arg2)) (m ((c.tc : Thread nD τ).loc main_arg3)) (m ((c.tc : Thread nD τ).loc main_arg5)) (ix3 (⟨t.val / 4, by have := t_lt t; omega⟩ : Fin 8) (⟨t.val % 4 * 512 + l.val, by omega⟩ : Fin 2048) q) := by
  unfold Cert.PrepReferenceIdeal.key
  rw [Cert.PrepReferenceIdeal.normed_at]
  unfold keyAt
  simp only [Cert.PrepReferenceIdeal.proj_at, lat_eq, r3_at, r6_at]

theorem query_eq (c : Dev nD) (t : Fin cfg0.N) (l : Fin 512) (h : Fin 8) (d : Fin 128) : queryAt (X0_0 m c t) (iblk m c 5 t) l h d
    = Cert.PrepReferenceIdeal.query (m ((c.tc : Thread nD τ).loc main_arg0)) (m ((c.tc : Thread nD τ).loc main_arg4)) (ix3 (⟨t.val / 4, by have := t_lt t; omega⟩ : Fin 8) (⟨t.val % 4 * 512 + l.val, by omega⟩ : Fin 2048) (⟨h.val * 128 + d.val, by omega⟩ : Fin 1024)) := by
  rw [Cert.PrepReferenceIdeal.query_at, Cert.PrepReferenceIdeal.perHead_at]
  unfold queryAt
  simp only [Cert.PrepReferenceIdeal.heads_at, r0_at, r5_at]

/-! What a grid point stores at a block index is the reference's result at the array index it sits at. -/

theorem point7 (c : Dev nD) (t : Fin cfg0.N) (y) : (outsAt0 m c t).1 y
    = Cert.PrepReferenceIdeal.query (m ((c.tc : Thread nD τ).loc main_arg0)) (m ((c.tc : Thread nD τ).loc main_arg4)) (((cfg0.win 7).blk t).view.emb y) := by
  have e : win0_7.index t = ![t.val / 4, t.val % 4, 0] := (idx t).2.2.2.2.2.2.2.1
  obtain ⟨l, q, rfl⟩ : ∃ (l : Fin 512) (q : Fin 1024), y = ix3 0 l q :=
    ⟨y 1, y 2, funext fun a => match a with
      | ⟨0, _⟩ => Fin.ext (by have := (y 0).isLt; show (y 0).val = 0; exact Nat.lt_one_iff.mp this)
      | ⟨1, _⟩ => rfl
      | ⟨2, _⟩ => rfl⟩
  obtain ⟨h, d, rfl⟩ : ∃ (h : Fin 8) (d : Fin 128), q = ⟨h.val * 128 + d.val, by omega⟩ :=
    ⟨⟨q.val / 128, by omega⟩, ⟨q.val % 128, by omega⟩, Fin.ext (by show q.val = q.val / 128 * 128 + q.val % 128; omega)⟩
  have he : ((cfg0.win 7).blk t).view.emb (ix3 0 l (⟨h.val * 128 + d.val, by omega⟩ : Fin 1024)) = ix3 (⟨t.val / 4, by have := t_lt t; omega⟩ : Fin 8) (⟨t.val % 4 * 512 + l.val, by omega⟩ : Fin 2048) (⟨h.val * 128 + d.val, by omega⟩ : Fin 1024) := by
    funext a
    fin_cases a
    · refine Fin.ext ?_
      show win0_7.index t 0 * 1 + 1 * 0 = t.val / 4
      rw [e]; show t.val / 4 * 1 + 1 * 0 = _; omega
    · refine Fin.ext ?_
      show win0_7.index t 1 * 512 + 1 * l.val = t.val % 4 * 512 + l.val
      rw [e]; show t.val % 4 * 512 + 1 * l.val = _; omega
    · refine Fin.ext ?_
      show win0_7.index t 2 * 1024 + 1 * (h.val * 128 + d.val) = h.val * 128 + d.val
      rw [e]; show 0 * 1024 + 1 * (h.val * 128 + d.val) = _; omega
  rw [he]
  simp only [outsAt0]
  rw [out7_at]
  exact query_eq m c t l h d

theorem point8 (c : Dev nD) (t : Fin cfg0.N) (y) : (outsAt0 m c t).2.1 y
    = Cert.PrepReferenceIdeal.key (m ((c.tc : Thread nD τ).loc main_arg0)) (m ((c.tc : Thread nD τ).loc main_arg2)) (m ((c.tc : Thread nD τ).loc main_arg3)) (m ((c.tc : Thread nD τ).loc main_arg5)) (((cfg0.win 8).blk t).view.emb y) := by
  have e : win0_8.index t = ![t.val / 4, t.val % 4, 0] := (idx t).2.2.2.2.2.2.2.2.1
  obtain ⟨l, q, rfl⟩ : ∃ (l : Fin 512) (q : Fin 128), y = ix3 0 l q :=
    ⟨y 1, y 2, funext fun a => match a with
      | ⟨0, _⟩ => Fin.ext (by have := (y 0).isLt; show (y 0).val = 0; exact Nat.lt_one_iff.mp this)
      | ⟨1, _⟩ => rfl
      | ⟨2, _⟩ => rfl⟩
  have he : ((cfg0.win 8).blk t).view.emb (ix3 0 l q) = ix3 (⟨t.val / 4, by have := t_lt t; omega⟩ : Fin 8) (⟨t.val % 4 * 512 + l.val, by omega⟩ : Fin 2048) q := by
    funext a
    fin_cases a
    · refine Fin.ext ?_
      show win0_8.index t 0 * 1 + 1 * 0 = t.val / 4
      rw [e]; show t.val / 4 * 1 + 1 * 0 = _; omega
    · refine Fin.ext ?_
      show win0_8.index t 1 * 512 + 1 * l.val = t.val % 4 * 512 + l.val
      rw [e]; show t.val % 4 * 512 + 1 * l.val = _; omega
    · refine Fin.ext ?_
      show win0_8.index t 2 * 128 + 1 * q.val = q.val
      rw [e]; show 0 * 128 + 1 * q.val = _; omega
  rw [he]
  simp only [outsAt0]
  rw [out8_at]
  exact key_eq m c t l q

theorem point9 (c : Dev nD) (t : Fin cfg0.N) (y) : (outsAt0 m c t).2.2.1 y
    = Cert.PrepReferenceIdeal.latentT (m ((c.tc : Thread nD τ).loc main_arg0)) (m ((c.tc : Thread nD τ).loc main_arg3)) (((cfg0.win 9).blk t).view.emb y) := by
  have e : win0_9.index t = ![t.val / 4, 0, t.val % 4] := (idx t).2.2.2.2.2.2.2.2.2.1
  obtain ⟨k, l, rfl⟩ : ∃ (k : Fin 256) (l : Fin 512), y = ix3 0 k l :=
    ⟨y 1, y 2, funext fun a => match a with
      | ⟨0, _⟩ => Fin.ext (by have := (y 0).isLt; show (y 0).val = 0; exact Nat.lt_one_iff.mp this)
      | ⟨1, _⟩ => rfl
      | ⟨2, _⟩ => rfl⟩
  have he : ((cfg0.win 9).blk t).view.emb (ix3 0 k l) = ix3 (⟨t.val / 4, by have := t_lt t; omega⟩ : Fin 8) k (⟨t.val % 4 * 512 + l.val, by omega⟩ : Fin 2048) := by
    funext a
    fin_cases a
    · refine Fin.ext ?_
      show win0_9.index t 0 * 1 + 1 * 0 = t.val / 4
      rw [e]; show t.val / 4 * 1 + 1 * 0 = _; omega
    · refine Fin.ext ?_
      show win0_9.index t 1 * 256 + 1 * k.val = k.val
      rw [e]; show 0 * 256 + 1 * k.val = _; omega
    · refine Fin.ext ?_
      show win0_9.index t 2 * 512 + 1 * l.val = t.val % 4 * 512 + l.val
      rw [e]; show t.val % 4 * 512 + 1 * l.val = _; omega
  rw [he]
  rw [Cert.PrepReferenceIdeal.latentT_at]
  simp only [outsAt0]
  rw [out9_at]
  exact lat_eq m c t l k

theorem point10 (c : Dev nD) (t : Fin cfg0.N) (y) : (outsAt0 m c t).2.2.2 y
    = Cert.PrepReferenceIdeal.index (m ((c.tc : Thread nD τ).loc main_arg1)) (((cfg0.win 10).blk t).view.emb y) := by
  have e : win0_10.index t = ![t.val / 4, t.val % 4, 0] := (idx t).2.2.2.2.2.2.2.2.2.2
  obtain ⟨l, k, rfl⟩ : ∃ (l : Fin 512) (k : Fin 64), y = ix3 0 l k :=
    ⟨y 1, y 2, funext fun a => match a with
      | ⟨0, _⟩ => Fin.ext (by have := (y 0).isLt; show (y 0).val = 0; exact Nat.lt_one_iff.mp this)
      | ⟨1, _⟩ => rfl
      | ⟨2, _⟩ => rfl⟩
  have he : ((cfg0.win 10).blk t).view.emb (ix3 0 l k) = ix3 (⟨t.val / 4, by have := t_lt t; omega⟩ : Fin 8) (⟨t.val % 4 * 512 + l.val, by omega⟩ : Fin 2048) k := by
    funext a
    fin_cases a
    · refine Fin.ext ?_
      show win0_10.index t 0 * 1 + 1 * 0 = t.val / 4
      rw [e]; show t.val / 4 * 1 + 1 * 0 = _; omega
    · refine Fin.ext ?_
      show win0_10.index t 1 * 512 + 1 * l.val = t.val % 4 * 512 + l.val
      rw [e]; show t.val % 4 * 512 + 1 * l.val = _; omega
    · refine Fin.ext ?_
      show win0_10.index t 2 * 64 + 1 * k.val = k.val
      rw [e]; show 0 * 64 + 1 * k.val = _; omega
  rw [he]
  rw [Cert.PrepReferenceIdeal.index_at]
  simp only [outsAt0]
  rw [out10_at]
  exact r2_at m c t l _

/-! The arrays the kernel leaves are the reference's results. -/

theorem final7 (c : Dev nD) : (dats m 0 c).arrAt 7 (cfgs 0).N
    = Cert.PrepReferenceIdeal.query (m ((c.tc : Thread nD τ).loc main_arg0)) (m ((c.tc : Thread nD τ).loc main_arg4)) := by
  refine (dats m 0 c).arrAt_eq_of_covers 7 _ (by decide +kernel) fun t _ y => ?_
  blk_simp
  rw [after0_7]
  exact point7 m c t y

theorem final8 (c : Dev nD) : (dats m 0 c).arrAt 8 (cfgs 0).N
    = Cert.PrepReferenceIdeal.key (m ((c.tc : Thread nD τ).loc main_arg0)) (m ((c.tc : Thread nD τ).loc main_arg2)) (m ((c.tc : Thread nD τ).loc main_arg3)) (m ((c.tc : Thread nD τ).loc main_arg5)) := by
  refine (dats m 0 c).arrAt_eq_of_covers 8 _ (by decide +kernel) fun t _ y => ?_
  blk_simp
  rw [after0_8]
  exact point8 m c t y

theorem final9 (c : Dev nD) : (dats m 0 c).arrAt 9 (cfgs 0).N
    = Cert.PrepReferenceIdeal.latentT (m ((c.tc : Thread nD τ).loc main_arg0)) (m ((c.tc : Thread nD τ).loc main_arg3)) := by
  refine (dats m 0 c).arrAt_eq_of_covers 9 _ (by decide +kernel) fun t _ y => ?_
  blk_simp
  rw [after0_9]
  exact point9 m c t y

theorem final10 (c : Dev nD) : (dats m 0 c).arrAt 10 (cfgs 0).N
    = Cert.PrepReferenceIdeal.index (m ((c.tc : Thread nD τ).loc main_arg1)) := by
  refine (dats m 0 c).arrAt_eq_of_covers 10 _ (by decide +kernel) fun t _ y => ?_
  blk_simp
  rw [after0_10]
  exact point10 m c t y

/-- The kernel's run: the reference's four results, the arguments unchanged. -/
theorem run_prep (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12_0) = Cert.PrepReferenceIdeal.query (m ((c.tc : Thread nD τ).loc main_arg0)) (m ((c.tc : Thread nD τ).loc main_arg4))
      ∧ r.2.mem ((c.tc : Thread nD τ).loc main_v12_1) = Cert.PrepReferenceIdeal.key (m ((c.tc : Thread nD τ).loc main_arg0)) (m ((c.tc : Thread nD τ).loc main_arg2)) (m ((c.tc : Thread nD τ).loc main_arg3)) (m ((c.tc : Thread nD τ).loc main_arg5))
      ∧ r.2.mem ((c.tc : Thread nD τ).loc main_v12_2) = Cert.PrepReferenceIdeal.latentT (m ((c.tc : Thread nD τ).loc main_arg0)) (m ((c.tc : Thread nD τ).loc main_arg3))
      ∧ r.2.mem ((c.tc : Thread nD τ).loc main_v12_3) = Cert.PrepReferenceIdeal.index (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (final7 m c), (h c).2.1.trans (final8 m c), (h c).2.2.1.trans (final9 m c),
    (h c).2.2.2.1.trans (final10 m c), (h c).2.2.2.2⟩) (run_blocks m ρ)

end Cert.PrepKernelIdeal.Value

namespace Cert.PrepReferenceIdeal.Value

open Cert.PrepReferenceIdeal Cert.PrepReferenceIdeal.Gen

/-- The reference's shared key. -/
theorem result (m : (ℓ : Loc nD τ sig) → Buf (Elt Ideal) ℓ) (c : Dev nD) : res_main_v58 m c = key (m ((c.tc : Thread nD τ).loc main_arg0)) (m ((c.tc : Thread nD τ).loc main_arg2)) (m ((c.tc : Thread nD τ).loc main_arg3)) (m ((c.tc : Thread nD τ).loc main_arg5)) := by
  unfold res_main_v58
  rfl

/-- The reference's run: its four results, the arguments unchanged. -/
theorem run_prep (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57) = query (m ((c.tc : Thread nD τ).loc main_arg0)) (m ((c.tc : Thread nD τ).loc main_arg4))
      ∧ r.2.mem ((c.tc : Thread nD τ).loc main_v58) = key (m ((c.tc : Thread nD τ).loc main_arg0)) (m ((c.tc : Thread nD τ).loc main_arg2)) (m ((c.tc : Thread nD τ).loc main_arg3)) (m ((c.tc : Thread nD τ).loc main_arg5))
      ∧ r.2.mem ((c.tc : Thread nD τ).loc main_v60) = latentT (m ((c.tc : Thread nD τ).loc main_arg0)) (m ((c.tc : Thread nD τ).loc main_arg3))
      ∧ r.2.mem ((c.tc : Thread nD τ).loc main_v61) = index (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1, (h c).2.1.trans (result m c), (h c).2.2⟩) (run m ρ)

end Cert.PrepReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.GluKernel
public import proofs.«01_k».proof.Proof.Gen.GluKernel.Skeleton
public import proofs.«01_k».proof.Proof.Gen.GluKernel.Launch
public import proofs.«01_k».proof.Proof.Gen.GluKernel.Points
public import proofs.«01_k».proof.Proof.Gen.GluKernel.Frame
public import proofs.«01_k».proof.Proof.Gen.GluKernelIdeal
public import proofs.«01_k».proof.Proof.Gen.GluKernelIdeal.Skeleton
public import proofs.«01_k».proof.Proof.Gen.GluKernelIdeal.Launch
public import proofs.«01_k».proof.Proof.Gen.GluKernelIdeal.Points
public import proofs.«01_k».proof.Proof.Gen.GluKernelIdeal.Frame
public import proofs.«01_k».proof.Proof.Gen.GluReferenceIdeal
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownReferenceIdeal
public import proofs.«01_k».proof.Proof.Gen.InProjKernel
public import proofs.«01_k».proof.Proof.Gen.InProjKernel.Skeleton
public import proofs.«01_k».proof.Proof.Gen.InProjKernel.Launch
public import proofs.«01_k».proof.Proof.Gen.InProjKernel.Points
public import proofs.«01_k».proof.Proof.Gen.InProjKernel.Frame
public import proofs.«01_k».proof.Proof.Gen.InProjKernelIdeal
public import proofs.«01_k».proof.Proof.Gen.InProjKernelIdeal.Skeleton
public import proofs.«01_k».proof.Proof.Gen.InProjKernelIdeal.Launch
public import proofs.«01_k».proof.Proof.Gen.InProjKernelIdeal.Points
public import proofs.«01_k».proof.Proof.Gen.InProjKernelIdeal.Frame
public import proofs.«01_k».proof.Proof.Gen.InProjReferenceIdeal
public import proofs.«01_k».proof.Proof.Gen.MoeGluKernel
public import proofs.«01_k».proof.Proof.Gen.MoeGluKernel.Skeleton
public import proofs.«01_k».proof.Proof.Gen.MoeGluKernel.Launch
public import proofs.«01_k».proof.Proof.Gen.MoeGluKernel.Flash
public import proofs.«01_k».proof.Proof.Gen.MoeGluKernelIdeal
public import proofs.«01_k».proof.Proof.Gen.MoeGluKernelIdeal.Skeleton
public import proofs.«01_k».proof.Proof.Gen.MoeGluKernelIdeal.Launch
public import proofs.«01_k».proof.Proof.Gen.MoeGluKernelIdeal.Flash
public import proofs.«01_k».proof.Proof.Gen.MoeGluReferenceIdeal
public import proofs.«01_k».proof.Proof.Gen.ConvGatedKernel
public import proofs.«01_k».proof.Proof.Gen.ConvGatedKernel.Skeleton
public import proofs.«01_k».proof.Proof.Gen.ConvGatedKernel.Launch
public import proofs.«01_k».proof.Proof.Gen.ConvGatedKernel.Points
public import proofs.«01_k».proof.Proof.Gen.ConvGatedKernel.Frame
public import proofs.«01_k».proof.Proof.Gen.ConvGatedKernelIdeal
public import proofs.«01_k».proof.Proof.Gen.ConvGatedKernelIdeal.Skeleton
public import proofs.«01_k».proof.Proof.Gen.ConvGatedKernelIdeal.Launch
public import proofs.«01_k».proof.Proof.Gen.ConvGatedKernelIdeal.Points
public import proofs.«01_k».proof.Proof.Gen.ConvGatedKernelIdeal.Frame
public import proofs.«01_k».proof.Proof.Gen.ConvGatedReferenceIdeal
public import proofs.«01_k».proof.Proof.Gen.ConvXbcKernel
public import proofs.«01_k».proof.Proof.Gen.ConvXbcKernel.Skeleton
public import proofs.«01_k».proof.Proof.Gen.ConvXbcKernel.Launch
public import proofs.«01_k».proof.Proof.Gen.ConvXbcKernel.Points
public import proofs.«01_k».proof.Proof.Gen.ConvXbcKernel.Frame
public import proofs.«01_k».proof.Proof.Gen.ConvXbcKernelIdeal
public import proofs.«01_k».proof.Proof.Gen.ConvXbcKernelIdeal.Skeleton
public import proofs.«01_k».proof.Proof.Gen.ConvXbcKernelIdeal.Launch
public import proofs.«01_k».proof.Proof.Gen.ConvXbcKernelIdeal.Points
public import proofs.«01_k».proof.Proof.Gen.ConvXbcKernelIdeal.Frame
public import proofs.«01_k».proof.Proof.Gen.ConvXbcReferenceIdeal
public import proofs.«01_k».proof.Proof.Gen.InProjSmallKernel
public import proofs.«01_k».proof.Proof.Gen.InProjSmallKernel.Skeleton
public import proofs.«01_k».proof.Proof.Gen.InProjSmallKernel.Launch
public import proofs.«01_k».proof.Proof.Gen.InProjSmallKernel.Points
public import proofs.«01_k».proof.Proof.Gen.InProjSmallKernel.Frame
public import proofs.«01_k».proof.Proof.Gen.InProjSmallKernelIdeal
public import proofs.«01_k».proof.Proof.Gen.InProjSmallKernelIdeal.Skeleton
public import proofs.«01_k».proof.Proof.Gen.InProjSmallKernelIdeal.Launch
public import proofs.«01_k».proof.Proof.Gen.InProjSmallKernelIdeal.Points
public import proofs.«01_k».proof.Proof.Gen.InProjSmallKernelIdeal.Frame
public import proofs.«01_k».proof.Proof.Gen.InProjSmallReferenceIdeal
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.PrepKernel
public import proofs.«01_k».proof.Proof.Gen.PrepKernel.Skeleton
public import proofs.«01_k».proof.Proof.Gen.PrepKernel.Launch
public import proofs.«01_k».proof.Proof.Gen.PrepKernel.Points
public import proofs.«01_k».proof.Proof.Gen.PrepKernel.Frame
public import proofs.«01_k».proof.Proof.Gen.PrepKernelIdeal
public import proofs.«01_k».proof.Proof.Gen.PrepKernelIdeal.Skeleton
public import proofs.«01_k».proof.Proof.Gen.PrepKernelIdeal.Launch
public import proofs.«01_k».proof.Proof.Gen.PrepKernelIdeal.Points
public import proofs.«01_k».proof.Proof.Gen.PrepKernelIdeal.Frame
public import proofs.«01_k».proof.Proof.Gen.PrepReferenceIdeal
public import proofs.«01_k».proof.Proof.Gen.Pre_tables_in_range
public import proofs.«01_k».proof.Proof.Gen.KernelIdeal.Value
public import proofs.«01_k».proof.Proof.Gen.ReferenceIdeal.Run
public import proofs.«01_k».proof.Proof.Gen.ReferenceIdeal.Step
public import proofs.«01_k».proof.Proof.Ssd.Final
public import proofs.«01_k».proof.Proof.Gen.MergeKernelIdeal.Value
public import proofs.«01_k».proof.Proof.Gen.MergeReferenceIdeal.Run
public import proofs.«01_k».proof.Proof.Mixer.Merge
public import proofs.«01_k».proof.Proof.Gen.GluKernelIdeal.Value
public import proofs.«01_k».proof.Proof.Gen.GluReferenceIdeal.Run
public import proofs.«01_k».proof.Proof.Ffn.Glu
public import proofs.«01_k».proof.Proof.Gen.DownKernelIdeal.Value
public import proofs.«01_k».proof.Proof.Gen.DownReferenceIdeal.Run
public import proofs.«01_k».proof.Proof.Ffn.Down
public import proofs.«01_k».proof.Proof.Gen.InProjKernelIdeal.Value
public import proofs.«01_k».proof.Proof.Gen.InProjReferenceIdeal.Run
public import proofs.«01_k».proof.Proof.Mixer.InProj
public import proofs.«01_k».proof.Proof.Gen.MoeGluReferenceIdeal.Run
public import proofs.«01_k».proof.Proof.Moe.Pair
public import proofs.«01_k».proof.Proof.Gen.ConvGatedKernelIdeal.Value
public import proofs.«01_k».proof.Proof.Gen.ConvGatedReferenceIdeal.Run
public import proofs.«01_k».proof.Proof.Mixer.ConvGated
public import proofs.«01_k».proof.Proof.Gen.ConvXbcKernelIdeal.Value
public import proofs.«01_k».proof.Proof.Gen.ConvXbcReferenceIdeal.Run
public import proofs.«01_k».proof.Proof.Mixer.ConvXbc
public import proofs.«01_k».proof.Proof.Gen.InProjSmallKernelIdeal.Value
public import proofs.«01_k».proof.Proof.Gen.InProjSmallReferenceIdeal.Run
public import proofs.«01_k».proof.Proof.Mixer.InProjSmall
public import proofs.«01_k».proof.Proof.Gen.NormKernelIdeal.Value
public import proofs.«01_k».proof.Proof.Gen.NormReferenceIdeal.Run
public import proofs.«01_k».proof.Proof.Mixer.Norm
public import proofs.«01_k».proof.Proof.Gen.PrepKernelIdeal.Value
public import proofs.«01_k».proof.Proof.Gen.PrepReferenceIdeal.Run
public import proofs.«01_k».proof.Proof.Mixer.Prep
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The state-space branch: the kernel leaves the array its reference leaves. -/
theorem algebraic_ssd : Cert.algebraic_KernelIdeal_ReferenceIdeal (hKernelIdeal := Cert.KernelIdeal.Gen.facts) (hReferenceIdeal := Cert.ReferenceIdeal.Gen.facts) := by
  letI := Cert.KernelIdeal.Gen.facts
  letI := Cert.ReferenceIdeal.Gen.facts
  pair_intro
  · run_from Cert.KernelIdeal.Points.run m g
  · run_from Cert.ReferenceIdeal.Step.run m' g'

/-- The gated merge of the branches: the kernel leaves the array its reference leaves. -/
theorem algebraic_merge : Cert.algebraic_MergeKernelIdeal_MergeReferenceIdeal (hMergeKernelIdeal := Cert.MergeKernelIdeal.Gen.facts) (hMergeReferenceIdeal := Cert.MergeReferenceIdeal.Gen.facts) := by
  letI := Cert.MergeKernelIdeal.Gen.facts
  letI := Cert.MergeReferenceIdeal.Gen.facts
  pair_intro
  · run_from Cert.MergeKernelIdeal.Gen.run_main m g
  · run_from Cert.MergeReferenceIdeal.Value.run m' g'
    exact (Cert.MergeKernelIdeal.Value.final m c).symm

/-- The gated projection of the dense feed-forward network. -/
theorem algebraic_glu : Cert.algebraic_GluKernelIdeal_GluReferenceIdeal (hGluKernelIdeal := Cert.GluKernelIdeal.Gen.facts) (hGluReferenceIdeal := Cert.GluReferenceIdeal.Gen.facts) := by
  letI := Cert.GluKernelIdeal.Gen.facts
  letI := Cert.GluReferenceIdeal.Gen.facts
  pair_intro
  · run_from Cert.GluKernelIdeal.Gen.run_main m g
  · run_from Cert.GluReferenceIdeal.Value.run m' g'
    exact (Cert.GluKernelIdeal.Value.final m c).symm

/-- The down projection of the dense feed-forward network, with its residual. -/
theorem algebraic_down : Cert.algebraic_DownKernelIdeal_DownReferenceIdeal (hDownKernelIdeal := Cert.DownKernelIdeal.Gen.facts) (hDownReferenceIdeal := Cert.DownReferenceIdeal.Gen.facts) := by
  letI := Cert.DownKernelIdeal.Gen.facts
  letI := Cert.DownReferenceIdeal.Gen.facts
  pair_intro
  · run_from Cert.DownKernelIdeal.Gen.run_main m g
  · run_from Cert.DownReferenceIdeal.Value.run m' g'
    exact (Cert.DownKernelIdeal.Value.final m c).symm

/-- The input projection. -/
theorem algebraic_inproj : Cert.algebraic_InProjKernelIdeal_InProjReferenceIdeal (hInProjKernelIdeal := Cert.InProjKernelIdeal.Gen.facts) (hInProjReferenceIdeal := Cert.InProjReferenceIdeal.Gen.facts) := by
  letI := Cert.InProjKernelIdeal.Gen.facts
  letI := Cert.InProjReferenceIdeal.Gen.facts
  pair_intro
  · run_from Cert.InProjKernelIdeal.Gen.run_main m g
  · run_from Cert.InProjReferenceIdeal.Value.run_packed m' g'
    exact (Cert.InProjKernelIdeal.Value.final m c).symm

/-- The gated short convolution. -/
theorem algebraic_convgated : Cert.algebraic_ConvGatedKernelIdeal_ConvGatedReferenceIdeal (hConvGatedKernelIdeal := Cert.ConvGatedKernelIdeal.Gen.facts) (hConvGatedReferenceIdeal := Cert.ConvGatedReferenceIdeal.Gen.facts) := by
  letI := Cert.ConvGatedKernelIdeal.Gen.facts
  letI := Cert.ConvGatedReferenceIdeal.Gen.facts
  pair_intro
  · run_from Cert.ConvGatedKernelIdeal.Value.run_gated m g
  · run_from Cert.ConvGatedReferenceIdeal.Value.run_gated m' g'

/-- The convolution in front of the recurrence. -/
theorem algebraic_convxbc : Cert.algebraic_ConvXbcKernelIdeal_ConvXbcReferenceIdeal (hConvXbcKernelIdeal := Cert.ConvXbcKernelIdeal.Gen.facts) (hConvXbcReferenceIdeal := Cert.ConvXbcReferenceIdeal.Gen.facts) := by
  letI := Cert.ConvXbcKernelIdeal.Gen.facts
  letI := Cert.ConvXbcReferenceIdeal.Gen.facts
  pair_intro
  · run_from Cert.ConvXbcKernelIdeal.Value.run_act m g
  · run_from Cert.ConvXbcReferenceIdeal.Value.run_act m' g'

/-- The small input projection. -/
theorem algebraic_inprojsmall : Cert.algebraic_InProjSmallKernelIdeal_InProjSmallReferenceIdeal (hInProjSmallKernelIdeal := Cert.InProjSmallKernelIdeal.Gen.facts) (hInProjSmallReferenceIdeal := Cert.InProjSmallReferenceIdeal.Gen.facts) := by
  letI := Cert.InProjSmallKernelIdeal.Gen.facts
  letI := Cert.InProjSmallReferenceIdeal.Gen.facts
  pair_intro
  · run_from Cert.InProjSmallKernelIdeal.Gen.run_main m g
  · run_from Cert.InProjSmallReferenceIdeal.Value.run_packed m' g'
    exact (Cert.InProjSmallKernelIdeal.Value.final m c).symm

/-- The normalisation in front of the mixer. -/
theorem algebraic_norm : Cert.algebraic_NormKernelIdeal_NormReferenceIdeal (hNormKernelIdeal := Cert.NormKernelIdeal.Gen.facts) (hNormReferenceIdeal := Cert.NormReferenceIdeal.Gen.facts) := by
  letI := Cert.NormKernelIdeal.Gen.facts
  letI := Cert.NormReferenceIdeal.Gen.facts
  pair_intro
  · run_from Cert.NormKernelIdeal.Gen.run_main m g
  · run_from Cert.NormReferenceIdeal.Value.run_norm m' g'
    exact (Cert.NormKernelIdeal.Value.final m c).symm

/-- The preparation of the sparse attention: its queries, shared key, latent and indexer keys. -/
theorem algebraic_prep : Cert.algebraic_PrepKernelIdeal_PrepReferenceIdeal (hPrepKernelIdeal := Cert.PrepKernelIdeal.Gen.facts) (hPrepReferenceIdeal := Cert.PrepReferenceIdeal.Gen.facts) := by
  letI := Cert.PrepKernelIdeal.Gen.facts
  letI := Cert.PrepReferenceIdeal.Gen.facts
  pair_intro
  · run_from Cert.PrepKernelIdeal.Value.run_prep m g
  · run_from Cert.PrepReferenceIdeal.Value.run_prep m' g'

/-- The reference of this part runs and leaves its arguments as they were. -/
theorem frame_ssd : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- The reference of this part runs and leaves its arguments as they were. -/
theorem frame_merge : Cert.quiescent_MergeReferenceIdeal (hMergeReferenceIdeal := Cert.MergeReferenceIdeal.Gen.facts) :=
  fun m g _ => (θ_run _ _ _).mono (fun r h => ⟨fun c => (h c).2, sem_eq_zero_of_no_sems (by decide) r.2⟩)
    (Cert.MergeReferenceIdeal.Value.run m g)

/-- The reference of this part runs and leaves its arguments as they were. -/
theorem frame_glu : Cert.quiescent_GluReferenceIdeal (hGluReferenceIdeal := Cert.GluReferenceIdeal.Gen.facts) :=
  fun m g _ => (θ_run _ _ _).mono (fun r h => ⟨fun c => (h c).2, sem_eq_zero_of_no_sems (by decide) r.2⟩)
    (Cert.GluReferenceIdeal.Value.run m g)

/-- The reference of this part runs and leaves its arguments as they were. -/
theorem frame_down : Cert.quiescent_DownReferenceIdeal (hDownReferenceIdeal := Cert.DownReferenceIdeal.Gen.facts) :=
  fun m g _ => (θ_run _ _ _).mono (fun r h => ⟨fun c => (h c).2, sem_eq_zero_of_no_sems (by decide) r.2⟩)
    (Cert.DownReferenceIdeal.Value.run m g)

/-- The reference of this part runs and leaves its arguments as they were. -/
theorem frame_inproj : Cert.quiescent_InProjReferenceIdeal (hInProjReferenceIdeal := Cert.InProjReferenceIdeal.Gen.facts) :=
  fun m g _ => (θ_run _ _ _).mono (fun r h => ⟨fun c => (h c).2, sem_eq_zero_of_no_sems (by decide) r.2⟩)
    (Cert.InProjReferenceIdeal.Value.run m g)

/-- The reference of this part runs and leaves its arguments as they were. -/
theorem frame_moeglu : Cert.quiescent_MoeGluReferenceIdeal (hMoeGluReferenceIdeal := Cert.MoeGluReferenceIdeal.Gen.facts) :=
  fun m g _ => (θ_run _ _ _).mono (fun r h => ⟨fun c => (h c).2, sem_eq_zero_of_no_sems (by decide) r.2⟩)
    (Cert.MoeGluReferenceIdeal.Value.run_glu m g)

/-- The reference of this part runs and leaves its arguments as they were. -/
theorem frame_convgated : Cert.quiescent_ConvGatedReferenceIdeal (hConvGatedReferenceIdeal := Cert.ConvGatedReferenceIdeal.Gen.facts) :=
  fun m g _ => (θ_run _ _ _).mono (fun r h => ⟨fun c => (h c).2, sem_eq_zero_of_no_sems (by decide) r.2⟩)
    (Cert.ConvGatedReferenceIdeal.Value.run m g)

/-- The reference of this part runs and leaves its arguments as they were. -/
theorem frame_convxbc : Cert.quiescent_ConvXbcReferenceIdeal (hConvXbcReferenceIdeal := Cert.ConvXbcReferenceIdeal.Gen.facts) :=
  fun m g _ => (θ_run _ _ _).mono (fun r h => ⟨fun c => (h c).2, sem_eq_zero_of_no_sems (by decide) r.2⟩)
    (Cert.ConvXbcReferenceIdeal.Value.run m g)

/-- The reference of this part runs and leaves its arguments as they were. -/
theorem frame_inprojsmall : Cert.quiescent_InProjSmallReferenceIdeal (hInProjSmallReferenceIdeal := Cert.InProjSmallReferenceIdeal.Gen.facts) :=
  fun m g _ => (θ_run _ _ _).mono (fun r h => ⟨fun c => (h c).2, sem_eq_zero_of_no_sems (by decide) r.2⟩)
    (Cert.InProjSmallReferenceIdeal.Value.run m g)

/-- The reference of this part runs and leaves its arguments as they were. -/
theorem frame_norm : Cert.quiescent_NormReferenceIdeal (hNormReferenceIdeal := Cert.NormReferenceIdeal.Gen.facts) :=
  fun m g _ => (θ_run _ _ _).mono (fun r h => ⟨fun c => (h c).2, sem_eq_zero_of_no_sems (by decide) r.2⟩)
    (Cert.NormReferenceIdeal.Value.run m g)

/-- The reference of this part runs and leaves its arguments as they were. -/
theorem frame_prep : Cert.quiescent_PrepReferenceIdeal (hPrepReferenceIdeal := Cert.PrepReferenceIdeal.Gen.facts) :=
  fun m g _ => (θ_run _ _ _).mono (fun r h => ⟨fun c => (h c).2.2.2.2, sem_eq_zero_of_no_sems (by decide) r.2⟩)
    (Cert.PrepReferenceIdeal.Value.run m g)

theorem claim : Cert.Claim := ⟨Cert.Kernel.Gen.facts, Cert.KernelIdeal.Gen.facts, Cert.ReferenceIdeal.Gen.facts, Cert.MergeKernel.Gen.facts, Cert.MergeKernelIdeal.Gen.facts, Cert.MergeReferenceIdeal.Gen.facts, Cert.GluKernel.Gen.facts, Cert.GluKernelIdeal.Gen.facts, Cert.GluReferenceIdeal.Gen.facts, Cert.DownKernel.Gen.facts, Cert.DownKernelIdeal.Gen.facts, Cert.DownReferenceIdeal.Gen.facts, Cert.InProjKernel.Gen.facts, Cert.InProjKernelIdeal.Gen.facts, Cert.InProjReferenceIdeal.Gen.facts, Cert.MoeGluKernel.Gen.facts, Cert.MoeGluKernelIdeal.Gen.facts, Cert.MoeGluReferenceIdeal.Gen.facts, Cert.ConvGatedKernel.Gen.facts, Cert.ConvGatedKernelIdeal.Gen.facts, Cert.ConvGatedReferenceIdeal.Gen.facts, Cert.ConvXbcKernel.Gen.facts, Cert.ConvXbcKernelIdeal.Gen.facts, Cert.ConvXbcReferenceIdeal.Gen.facts, Cert.InProjSmallKernel.Gen.facts, Cert.InProjSmallKernelIdeal.Gen.facts, Cert.InProjSmallReferenceIdeal.Gen.facts, Cert.NormKernel.Gen.facts, Cert.NormKernelIdeal.Gen.facts, Cert.NormReferenceIdeal.Gen.facts, Cert.PrepKernel.Gen.facts, Cert.PrepKernelIdeal.Gen.facts, Cert.PrepReferenceIdeal.Gen.facts, Cert.Pre_tables_in_range.Gen.facts,
  fun m ρ _ => Cert.Kernel.Gen.frame m ρ,
  fun m ρ _ => Cert.KernelIdeal.Gen.frame m ρ,
  frame_ssd,
  fun m ρ _ => Cert.MergeKernel.Gen.frame m ρ,
  fun m ρ _ => Cert.MergeKernelIdeal.Gen.frame m ρ,
  frame_merge,
  fun m ρ _ => Cert.GluKernel.Gen.frame m ρ,
  fun m ρ _ => Cert.GluKernelIdeal.Gen.frame m ρ,
  frame_glu,
  fun m ρ _ => Cert.DownKernel.Gen.frame m ρ,
  fun m ρ _ => Cert.DownKernelIdeal.Gen.frame m ρ,
  frame_down,
  fun m ρ _ => Cert.InProjKernel.Gen.frame m ρ,
  fun m ρ _ => Cert.InProjKernelIdeal.Gen.frame m ρ,
  frame_inproj,
  fun m ρ h => Cert.MoeGluKernel.Gen.frame m ρ (Cert.MoeGluKernel.Gen.ok_of_pre m h),
  fun m ρ h => Cert.MoeGluKernelIdeal.Gen.frame m ρ (Cert.MoeGluKernelIdeal.Gen.ok_of_pre m h),
  frame_moeglu,
  fun m ρ _ => frame_moeglu m ρ trivial,
  fun m ρ _ => Cert.ConvGatedKernel.Gen.frame m ρ,
  fun m ρ _ => Cert.ConvGatedKernelIdeal.Gen.frame m ρ,
  frame_convgated,
  fun m ρ _ => Cert.ConvXbcKernel.Gen.frame m ρ,
  fun m ρ _ => Cert.ConvXbcKernelIdeal.Gen.frame m ρ,
  frame_convxbc,
  fun m ρ _ => Cert.InProjSmallKernel.Gen.frame m ρ,
  fun m ρ _ => Cert.InProjSmallKernelIdeal.Gen.frame m ρ,
  frame_inprojsmall,
  fun m ρ _ => Cert.NormKernel.Gen.frame m ρ,
  fun m ρ _ => Cert.NormKernelIdeal.Gen.frame m ρ,
  frame_norm,
  fun m ρ _ => Cert.PrepKernel.Gen.frame m ρ,
  fun m ρ _ => Cert.PrepKernelIdeal.Gen.frame m ρ,
  frame_prep,
  trivial,
  algebraic_ssd,
  trivial,
  algebraic_merge,
  trivial,
  algebraic_glu,
  trivial,
  algebraic_down,
  trivial,
  algebraic_inproj,
  trivial,
  Cert.MoeGlu.pair,
  trivial,
  algebraic_convgated,
  trivial,
  algebraic_convxbc,
  trivial,
  algebraic_inprojsmall,
  trivial,
  algebraic_norm,
  trivial,
  algebraic_prep⟩

end Cert.Proof

end
